-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_queries_and_keys_finite [hPre_queries_and_keys_finite : Cert.Pre_queries_and_keys_finite.Facts] (m : (ℓ : Loc Cert.MlaIdeal.nD Cert.MlaIdeal.τ Cert.MlaIdeal.sig) → Buf (Elt Ideal) ℓ) : Prop :=
  ∀ c : Dev Cert.MlaIdeal.nD,
    (Cert.Pre_queries_and_keys_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_queries_and_keys_finite [hPre_queries_and_keys_finite : Cert.Pre_queries_and_keys_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_queries_and_keys_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Fin (m : (ℓ : Loc Cert.Fin.nD Cert.Fin.τ Cert.Fin.sig) → Buf (Elt Bits) ℓ) : Prop :=
  True

def Pre_FinIdeal (m : (ℓ : Loc Cert.FinIdeal.nD Cert.FinIdeal.τ Cert.FinIdeal.sig) → Buf (Elt Ideal) ℓ) : Prop :=
  True

def Pre_FinRefIdeal (m : (ℓ : Loc Cert.FinRefIdeal.nD Cert.FinRefIdeal.τ Cert.FinRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_memory_queries_and_keys_finite [hPre_memory_queries_and_keys_finite : Cert.Pre_memory_queries_and_keys_finite.Facts] (m : (ℓ : Loc Cert.MergeIdeal.nD Cert.MergeIdeal.τ Cert.MergeIdeal.sig) → Buf (Elt Ideal) ℓ) : Prop :=
  ∀ c : Dev Cert.MergeIdeal.nD,
    (Cert.Pre_memory_queries_and_keys_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_memory_queries_and_keys_finite [hPre_memory_queries_and_keys_finite : Cert.Pre_memory_queries_and_keys_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_memory_queries_and_keys_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11))) = (fun _ => 1#1)

def Pre_FinB (m : (ℓ : Loc Cert.FinB.nD Cert.FinB.τ Cert.FinB.sig) → Buf (Elt Bits) ℓ) : Prop :=
  True

def Pre_FinBIdeal (m : (ℓ : Loc Cert.FinBIdeal.nD Cert.FinBIdeal.τ Cert.FinBIdeal.sig) → Buf (Elt Ideal) ℓ) : Prop :=
  True

def Pre_FinBRefIdeal (m : (ℓ : Loc Cert.FinBRefIdeal.nD Cert.FinBRefIdeal.τ Cert.FinBRefIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_queries_and_keys_finite [hMlaIdeal : Cert.MlaIdeal.Facts] [hPre_queries_and_keys_finite : Cert.Pre_queries_and_keys_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_queries_and_keys_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_queries_and_keys_finite [hMlaRefIdeal : Cert.MlaRefIdeal.Facts] [hPre_queries_and_keys_finite : Cert.Pre_queries_and_keys_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_queries_and_keys_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Fin [hFin : Cert.Fin.Facts] : Prop :=
  ∀ (m : (ℓ : Loc Cert.Fin.nD Cert.Fin.τ Cert.Fin.sig) → Buf (Elt Bits) ℓ) (g : Dev Cert.Fin.nD → PrngReg), Pre_Fin m →
    θ_run (Cert.Fin.defs (F := Bits)) (onTc (τ := Cert.Fin.τ) (Cert.Fin.main (F := Bits))) ⟨m, fun _ => 0, g⟩ (fun r => (∀ c : Dev Cert.Fin.nD,
      r.2.mem ((c.tc : Thread Cert.Fin.nD Cert.Fin.τ).loc Cert.Fin.main_arg0) = m ((c.tc : Thread Cert.Fin.nD Cert.Fin.τ).loc Cert.Fin.main_arg0)
      ∧ r.2.mem ((c.tc : Thread Cert.Fin.nD Cert.Fin.τ).loc Cert.Fin.main_arg1) = m ((c.tc : Thread Cert.Fin.nD Cert.Fin.τ).loc Cert.Fin.main_arg1)
      ∧ r.2.mem ((c.tc : Thread Cert.Fin.nD Cert.Fin.τ).loc Cert.Fin.main_arg2) = m ((c.tc : Thread Cert.Fin.nD Cert.Fin.τ).loc Cert.Fin.main_arg2)
      ∧ r.2.mem ((c.tc : Thread Cert.Fin.nD Cert.Fin.τ).loc Cert.Fin.main_arg3) = m ((c.tc : Thread Cert.Fin.nD Cert.Fin.τ).loc Cert.Fin.main_arg3)
      ∧ r.2.mem ((c.tc : Thread Cert.Fin.nD Cert.Fin.τ).loc Cert.Fin.main_arg4) = m ((c.tc : Thread Cert.Fin.nD Cert.Fin.τ).loc Cert.Fin.main_arg4))
      ∧ r.2.sem = fun _ => 0)

def quiescent_FinIdeal [hFinIdeal : Cert.FinIdeal.Facts] : Prop :=
  ∀ (m : (ℓ : Loc Cert.FinIdeal.nD Cert.FinIdeal.τ Cert.FinIdeal.sig) → Buf (Elt Ideal) ℓ) (g : Dev Cert.FinIdeal.nD → PrngReg), Pre_FinIdeal m →
    θ_run (Cert.FinIdeal.defs (F := Ideal)) (onTc (τ := Cert.FinIdeal.τ) (Cert.FinIdeal.main (F := Ideal))) ⟨m, fun _ => 0, g⟩ (fun r => (∀ c : Dev Cert.FinIdeal.nD,
      r.2.mem ((c.tc : Thread Cert.FinIdeal.nD Cert.FinIdeal.τ).loc Cert.FinIdeal.main_arg0) = m ((c.tc : Thread Cert.FinIdeal.nD Cert.FinIdeal.τ).loc Cert.FinIdeal.main_arg0)
      ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
      ∧ r.2.mem ((c.tc : Thread Cert.FinIdeal.nD Cert.FinIdeal.τ).loc Cert.FinIdeal.main_arg2) = m ((c.tc : Thread Cert.FinIdeal.nD Cert.FinIdeal.τ).loc Cert.FinIdeal.main_arg2)
      ∧ r.2.mem ((c.tc : Thread Cert.FinIdeal.nD Cert.FinIdeal.τ).loc Cert.FinIdeal.main_arg3) = m ((c.tc : Thread Cert.FinIdeal.nD Cert.FinIdeal.τ).loc Cert.FinIdeal.main_arg3)
      ∧ r.2.mem ((c.tc : Thread Cert.FinIdeal.nD Cert.FinIdeal.τ).loc Cert.FinIdeal.main_arg4) = m ((c.tc : Thread Cert.FinIdeal.nD Cert.FinIdeal.τ).loc Cert.FinIdeal.main_arg4))
      ∧ r.2.sem = fun _ => 0)

def quiescent_FinRefIdeal [hFinRefIdeal : Cert.FinRefIdeal.Facts] : Prop :=
  ∀ (m : (ℓ : Loc Cert.FinRefIdeal.nD Cert.FinRefIdeal.τ Cert.FinRefIdeal.sig) → Buf (Elt Ideal) ℓ) (g : Dev Cert.FinRefIdeal.nD → PrngReg), Pre_FinRefIdeal m →
    θ_run (Cert.FinRefIdeal.defs (F := Ideal)) (onTc (τ := Cert.FinRefIdeal.τ) (Cert.FinRefIdeal.main (F := Ideal))) ⟨m, fun _ => 0, g⟩ (fun r => (∀ c : Dev Cert.FinRefIdeal.nD,
      r.2.mem ((c.tc : Thread Cert.FinRefIdeal.nD Cert.FinRefIdeal.τ).loc Cert.FinRefIdeal.main_arg0) = m ((c.tc : Thread Cert.FinRefIdeal.nD Cert.FinRefIdeal.τ).loc Cert.FinRefIdeal.main_arg0)
      ∧ r.2.mem ((c.tc : Thread Cert.FinRefIdeal.nD Cert.FinRefIdeal.τ).loc Cert.FinRefIdeal.main_arg1) = m ((c.tc : Thread Cert.FinRefIdeal.nD Cert.FinRefIdeal.τ).loc Cert.FinRefIdeal.main_arg1)
      ∧ r.2.mem ((c.tc : Thread Cert.FinRefIdeal.nD Cert.FinRefIdeal.τ).loc Cert.FinRefIdeal.main_arg2) = m ((c.tc : Thread Cert.FinRefIdeal.nD Cert.FinRefIdeal.τ).loc Cert.FinRefIdeal.main_arg2)
      ∧ r.2.mem ((c.tc : Thread Cert.FinRefIdeal.nD Cert.FinRefIdeal.τ).loc Cert.FinRefIdeal.main_arg3) = m ((c.tc : Thread Cert.FinRefIdeal.nD Cert.FinRefIdeal.τ).loc Cert.FinRefIdeal.main_arg3)
      ∧ r.2.mem ((c.tc : Thread Cert.FinRefIdeal.nD Cert.FinRefIdeal.τ).loc Cert.FinRefIdeal.main_arg4) = m ((c.tc : Thread Cert.FinRefIdeal.nD Cert.FinRefIdeal.τ).loc Cert.FinRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeIdeal_pre_memory_queries_and_keys_finite [hMergeIdeal : Cert.MergeIdeal.Facts] [hPre_memory_queries_and_keys_finite : Cert.Pre_memory_queries_and_keys_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_memory_queries_and_keys_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_MergeRefIdeal_pre_memory_queries_and_keys_finite [hMergeRefIdeal : Cert.MergeRefIdeal.Facts] [hPre_memory_queries_and_keys_finite : Cert.Pre_memory_queries_and_keys_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_memory_queries_and_keys_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_FinB [hFinB : Cert.FinB.Facts] : Prop :=
  ∀ (m : (ℓ : Loc Cert.FinB.nD Cert.FinB.τ Cert.FinB.sig) → Buf (Elt Bits) ℓ) (g : Dev Cert.FinB.nD → PrngReg), Pre_FinB m →
    θ_run (Cert.FinB.defs (F := Bits)) (onTc (τ := Cert.FinB.τ) (Cert.FinB.main (F := Bits))) ⟨m, fun _ => 0, g⟩ (fun r => (∀ c : Dev Cert.FinB.nD,
      r.2.mem ((c.tc : Thread Cert.FinB.nD Cert.FinB.τ).loc Cert.FinB.main_arg0) = m ((c.tc : Thread Cert.FinB.nD Cert.FinB.τ).loc Cert.FinB.main_arg0)
      ∧ r.2.mem ((c.tc : Thread Cert.FinB.nD Cert.FinB.τ).loc Cert.FinB.main_arg1) = m ((c.tc : Thread Cert.FinB.nD Cert.FinB.τ).loc Cert.FinB.main_arg1)
      ∧ r.2.mem ((c.tc : Thread Cert.FinB.nD Cert.FinB.τ).loc Cert.FinB.main_arg2) = m ((c.tc : Thread Cert.FinB.nD Cert.FinB.τ).loc Cert.FinB.main_arg2)
      ∧ r.2.mem ((c.tc : Thread Cert.FinB.nD Cert.FinB.τ).loc Cert.FinB.main_arg3) = m ((c.tc : Thread Cert.FinB.nD Cert.FinB.τ).loc Cert.FinB.main_arg3)
      ∧ r.2.mem ((c.tc : Thread Cert.FinB.nD Cert.FinB.τ).loc Cert.FinB.main_arg4) = m ((c.tc : Thread Cert.FinB.nD Cert.FinB.τ).loc Cert.FinB.main_arg4))
      ∧ r.2.sem = fun _ => 0)

def quiescent_FinBIdeal [hFinBIdeal : Cert.FinBIdeal.Facts] : Prop :=
  ∀ (m : (ℓ : Loc Cert.FinBIdeal.nD Cert.FinBIdeal.τ Cert.FinBIdeal.sig) → Buf (Elt Ideal) ℓ) (g : Dev Cert.FinBIdeal.nD → PrngReg), Pre_FinBIdeal m →
    θ_run (Cert.FinBIdeal.defs (F := Ideal)) (onTc (τ := Cert.FinBIdeal.τ) (Cert.FinBIdeal.main (F := Ideal))) ⟨m, fun _ => 0, g⟩ (fun r => (∀ c : Dev Cert.FinBIdeal.nD,
      r.2.mem ((c.tc : Thread Cert.FinBIdeal.nD Cert.FinBIdeal.τ).loc Cert.FinBIdeal.main_arg0) = m ((c.tc : Thread Cert.FinBIdeal.nD Cert.FinBIdeal.τ).loc Cert.FinBIdeal.main_arg0)
      ∧ r.2.mem ((c.tc : Thread Cert.FinBIdeal.nD Cert.FinBIdeal.τ).loc Cert.FinBIdeal.main_arg1) = m ((c.tc : Thread Cert.FinBIdeal.nD Cert.FinBIdeal.τ).loc Cert.FinBIdeal.main_arg1)
      ∧ r.2.mem ((c.tc : Thread Cert.FinBIdeal.nD Cert.FinBIdeal.τ).loc Cert.FinBIdeal.main_arg2) = m ((c.tc : Thread Cert.FinBIdeal.nD Cert.FinBIdeal.τ).loc Cert.FinBIdeal.main_arg2)
      ∧ r.2.mem ((c.tc : Thread Cert.FinBIdeal.nD Cert.FinBIdeal.τ).loc Cert.FinBIdeal.main_arg3) = m ((c.tc : Thread Cert.FinBIdeal.nD Cert.FinBIdeal.τ).loc Cert.FinBIdeal.main_arg3)
      ∧ r.2.mem ((c.tc : Thread Cert.FinBIdeal.nD Cert.FinBIdeal.τ).loc Cert.FinBIdeal.main_arg4) = m ((c.tc : Thread Cert.FinBIdeal.nD Cert.FinBIdeal.τ).loc Cert.FinBIdeal.main_arg4))
      ∧ r.2.sem = fun _ => 0)

def quiescent_FinBRefIdeal [hFinBRefIdeal : Cert.FinBRefIdeal.Facts] : Prop :=
  ∀ (m : (ℓ : Loc Cert.FinBRefIdeal.nD Cert.FinBRefIdeal.τ Cert.FinBRefIdeal.sig) → Buf (Elt Ideal) ℓ) (g : Dev Cert.FinBRefIdeal.nD → PrngReg), Pre_FinBRefIdeal m →
    θ_run (Cert.FinBRefIdeal.defs (F := Ideal)) (onTc (τ := Cert.FinBRefIdeal.τ) (Cert.FinBRefIdeal.main (F := Ideal))) ⟨m, fun _ => 0, g⟩ (fun r => (∀ c : Dev Cert.FinBRefIdeal.nD,
      r.2.mem ((c.tc : Thread Cert.FinBRefIdeal.nD Cert.FinBRefIdeal.τ).loc Cert.FinBRefIdeal.main_arg0) = m ((c.tc : Thread Cert.FinBRefIdeal.nD Cert.FinBRefIdeal.τ).loc Cert.FinBRefIdeal.main_arg0)
      ∧ r.2.mem ((c.tc : Thread Cert.FinBRefIdeal.nD Cert.FinBRefIdeal.τ).loc Cert.FinBRefIdeal.main_arg1) = m ((c.tc : Thread Cert.FinBRefIdeal.nD Cert.FinBRefIdeal.τ).loc Cert.FinBRefIdeal.main_arg1)
      ∧ r.2.mem ((c.tc : Thread Cert.FinBRefIdeal.nD Cert.FinBRefIdeal.τ).loc Cert.FinBRefIdeal.main_arg2) = m ((c.tc : Thread Cert.FinBRefIdeal.nD Cert.FinBRefIdeal.τ).loc Cert.FinBRefIdeal.main_arg2)
      ∧ r.2.mem ((c.tc : Thread Cert.FinBRefIdeal.nD Cert.FinBRefIdeal.τ).loc Cert.FinBRefIdeal.main_arg3) = m ((c.tc : Thread Cert.FinBRefIdeal.nD Cert.FinBRefIdeal.τ).loc Cert.FinBRefIdeal.main_arg3)
      ∧ r.2.mem ((c.tc : Thread Cert.FinBRefIdeal.nD Cert.FinBRefIdeal.τ).loc Cert.FinBRefIdeal.main_arg4) = m ((c.tc : Thread Cert.FinBRefIdeal.nD Cert.FinBRefIdeal.τ).loc Cert.FinBRefIdeal.main_arg4))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6))
      ∧ r.2.sem = fun _ => 0)

def preserves_Mla_MlaIdeal : Prop :=
  True

def algebraic_MlaIdeal_MlaRefIdeal_pre_queries_and_keys_finite [hMlaIdeal : Cert.MlaIdeal.Facts] [hMlaRefIdeal : Cert.MlaRefIdeal.Facts] [hPre_queries_and_keys_finite : Cert.Pre_queries_and_keys_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_queries_and_keys_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v22) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v24) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Fin_FinIdeal : Prop :=
  True

def algebraic_FinIdeal_FinRefIdeal [hFinIdeal : Cert.FinIdeal.Facts] [hFinRefIdeal : Cert.FinRefIdeal.Facts] : Prop :=
  ∀ (m : (ℓ : Loc Cert.FinIdeal.nD Cert.FinIdeal.τ Cert.FinIdeal.sig) → Buf (Elt Ideal) ℓ) (g : Dev Cert.FinIdeal.nD → PrngReg)
    (m' : (ℓ : Loc Cert.FinRefIdeal.nD Cert.FinRefIdeal.τ Cert.FinRefIdeal.sig) → Buf (Elt Ideal) ℓ) (g' : Dev Cert.FinRefIdeal.nD → PrngReg), Pre_FinIdeal m →
    (∀ c : Dev Cert.FinIdeal.nD,
      m' ((c.tc : Thread Cert.FinRefIdeal.nD Cert.FinRefIdeal.τ).loc Cert.FinRefIdeal.main_arg0) = m ((c.tc : Thread Cert.FinIdeal.nD Cert.FinIdeal.τ).loc Cert.FinIdeal.main_arg0)
      ∧ m' ((c.tc : Thread Cert.FinRefIdeal.nD Cert.FinRefIdeal.τ).loc Cert.FinRefIdeal.main_arg1) = m ((c.tc : Thread Cert.FinIdeal.nD Cert.FinIdeal.τ).loc Cert.FinIdeal.main_arg1)
      ∧ m' ((c.tc : Thread Cert.FinRefIdeal.nD Cert.FinRefIdeal.τ).loc Cert.FinRefIdeal.main_arg2) = m ((c.tc : Thread Cert.FinIdeal.nD Cert.FinIdeal.τ).loc Cert.FinIdeal.main_arg2)
      ∧ m' ((c.tc : Thread Cert.FinRefIdeal.nD Cert.FinRefIdeal.τ).loc Cert.FinRefIdeal.main_arg3) = m ((c.tc : Thread Cert.FinIdeal.nD Cert.FinIdeal.τ).loc Cert.FinIdeal.main_arg3)
      ∧ m' ((c.tc : Thread Cert.FinRefIdeal.nD Cert.FinRefIdeal.τ).loc Cert.FinRefIdeal.main_arg4) = m ((c.tc : Thread Cert.FinIdeal.nD Cert.FinIdeal.τ).loc Cert.FinIdeal.main_arg4)) →
    ∃ (v0 : (c : Dev Cert.FinIdeal.nD) → Buf (Elt Ideal) ((c.tc : Thread Cert.FinIdeal.nD Cert.FinIdeal.τ).loc Cert.FinIdeal.main_v7)),
      θ_run (Cert.FinIdeal.defs (F := Ideal)) (onTc (τ := Cert.FinIdeal.τ) (Cert.FinIdeal.main (F := Ideal))) ⟨m, fun _ => 0, g⟩ (fun r => ∀ c : Dev Cert.FinIdeal.nD,
          r.2.mem ((c.tc : Thread Cert.FinIdeal.nD Cert.FinIdeal.τ).loc Cert.FinIdeal.main_v7) = v0 c
          ∧ r.2.mem ((c.tc : Thread Cert.FinIdeal.nD Cert.FinIdeal.τ).loc Cert.FinIdeal.main_arg0) = m ((c.tc : Thread Cert.FinIdeal.nD Cert.FinIdeal.τ).loc Cert.FinIdeal.main_arg0)
          ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
          ∧ r.2.mem ((c.tc : Thread Cert.FinIdeal.nD Cert.FinIdeal.τ).loc Cert.FinIdeal.main_arg2) = m ((c.tc : Thread Cert.FinIdeal.nD Cert.FinIdeal.τ).loc Cert.FinIdeal.main_arg2)
          ∧ r.2.mem ((c.tc : Thread Cert.FinIdeal.nD Cert.FinIdeal.τ).loc Cert.FinIdeal.main_arg3) = m ((c.tc : Thread Cert.FinIdeal.nD Cert.FinIdeal.τ).loc Cert.FinIdeal.main_arg3)
          ∧ r.2.mem ((c.tc : Thread Cert.FinIdeal.nD Cert.FinIdeal.τ).loc Cert.FinIdeal.main_arg4) = m ((c.tc : Thread Cert.FinIdeal.nD Cert.FinIdeal.τ).loc Cert.FinIdeal.main_arg4))
      ∧ θ_run (Cert.FinRefIdeal.defs (F := Ideal)) (onTc (τ := Cert.FinRefIdeal.τ) (Cert.FinRefIdeal.main (F := Ideal))) ⟨m', fun _ => 0, g'⟩ (fun r => ∀ c : Dev Cert.FinRefIdeal.nD,
          r.2.mem ((c.tc : Thread Cert.FinRefIdeal.nD Cert.FinRefIdeal.τ).loc Cert.FinRefIdeal.main_v37) = v0 c
          ∧ r.2.mem ((c.tc : Thread Cert.FinRefIdeal.nD Cert.FinRefIdeal.τ).loc Cert.FinRefIdeal.main_arg0) = m' ((c.tc : Thread Cert.FinRefIdeal.nD Cert.FinRefIdeal.τ).loc Cert.FinRefIdeal.main_arg0)
          ∧ r.2.mem ((c.tc : Thread Cert.FinRefIdeal.nD Cert.FinRefIdeal.τ).loc Cert.FinRefIdeal.main_arg1) = m' ((c.tc : Thread Cert.FinRefIdeal.nD Cert.FinRefIdeal.τ).loc Cert.FinRefIdeal.main_arg1)
          ∧ r.2.mem ((c.tc : Thread Cert.FinRefIdeal.nD Cert.FinRefIdeal.τ).loc Cert.FinRefIdeal.main_arg2) = m' ((c.tc : Thread Cert.FinRefIdeal.nD Cert.FinRefIdeal.τ).loc Cert.FinRefIdeal.main_arg2)
          ∧ r.2.mem ((c.tc : Thread Cert.FinRefIdeal.nD Cert.FinRefIdeal.τ).loc Cert.FinRefIdeal.main_arg3) = m' ((c.tc : Thread Cert.FinRefIdeal.nD Cert.FinRefIdeal.τ).loc Cert.FinRefIdeal.main_arg3)
          ∧ r.2.mem ((c.tc : Thread Cert.FinRefIdeal.nD Cert.FinRefIdeal.τ).loc Cert.FinRefIdeal.main_arg4) = m' ((c.tc : Thread Cert.FinRefIdeal.nD Cert.FinRefIdeal.τ).loc Cert.FinRefIdeal.main_arg4))

def preserves_Merge_MergeIdeal : Prop :=
  True

def algebraic_MergeIdeal_MergeRefIdeal_pre_memory_queries_and_keys_finite [hMergeIdeal : Cert.MergeIdeal.Facts] [hMergeRefIdeal : Cert.MergeRefIdeal.Facts] [hPre_memory_queries_and_keys_finite : Cert.Pre_memory_queries_and_keys_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_memory_queries_and_keys_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v11)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v66) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_FinB_FinBIdeal : Prop :=
  True

def algebraic_FinBIdeal_FinBRefIdeal [hFinBIdeal : Cert.FinBIdeal.Facts] [hFinBRefIdeal : Cert.FinBRefIdeal.Facts] : Prop :=
  ∀ (m : (ℓ : Loc Cert.FinBIdeal.nD Cert.FinBIdeal.τ Cert.FinBIdeal.sig) → Buf (Elt Ideal) ℓ) (g : Dev Cert.FinBIdeal.nD → PrngReg)
    (m' : (ℓ : Loc Cert.FinBRefIdeal.nD Cert.FinBRefIdeal.τ Cert.FinBRefIdeal.sig) → Buf (Elt Ideal) ℓ) (g' : Dev Cert.FinBRefIdeal.nD → PrngReg), Pre_FinBIdeal m →
    (∀ c : Dev Cert.FinBIdeal.nD,
      m' ((c.tc : Thread Cert.FinBRefIdeal.nD Cert.FinBRefIdeal.τ).loc Cert.FinBRefIdeal.main_arg0) = m ((c.tc : Thread Cert.FinBIdeal.nD Cert.FinBIdeal.τ).loc Cert.FinBIdeal.main_arg0)
      ∧ m' ((c.tc : Thread Cert.FinBRefIdeal.nD Cert.FinBRefIdeal.τ).loc Cert.FinBRefIdeal.main_arg1) = m ((c.tc : Thread Cert.FinBIdeal.nD Cert.FinBIdeal.τ).loc Cert.FinBIdeal.main_arg1)
      ∧ m' ((c.tc : Thread Cert.FinBRefIdeal.nD Cert.FinBRefIdeal.τ).loc Cert.FinBRefIdeal.main_arg2) = m ((c.tc : Thread Cert.FinBIdeal.nD Cert.FinBIdeal.τ).loc Cert.FinBIdeal.main_arg2)
      ∧ m' ((c.tc : Thread Cert.FinBRefIdeal.nD Cert.FinBRefIdeal.τ).loc Cert.FinBRefIdeal.main_arg3) = m ((c.tc : Thread Cert.FinBIdeal.nD Cert.FinBIdeal.τ).loc Cert.FinBIdeal.main_arg3)
      ∧ m' ((c.tc : Thread Cert.FinBRefIdeal.nD Cert.FinBRefIdeal.τ).loc Cert.FinBRefIdeal.main_arg4) = m ((c.tc : Thread Cert.FinBIdeal.nD Cert.FinBIdeal.τ).loc Cert.FinBIdeal.main_arg4)) →
    ∃ (v0 : (c : Dev Cert.FinBIdeal.nD) → Buf (Elt Ideal) ((c.tc : Thread Cert.FinBIdeal.nD Cert.FinBIdeal.τ).loc Cert.FinBIdeal.main_v7)),
      θ_run (Cert.FinBIdeal.defs (F := Ideal)) (onTc (τ := Cert.FinBIdeal.τ) (Cert.FinBIdeal.main (F := Ideal))) ⟨m, fun _ => 0, g⟩ (fun r => ∀ c : Dev Cert.FinBIdeal.nD,
          r.2.mem ((c.tc : Thread Cert.FinBIdeal.nD Cert.FinBIdeal.τ).loc Cert.FinBIdeal.main_v7) = v0 c
          ∧ r.2.mem ((c.tc : Thread Cert.FinBIdeal.nD Cert.FinBIdeal.τ).loc Cert.FinBIdeal.main_arg0) = m ((c.tc : Thread Cert.FinBIdeal.nD Cert.FinBIdeal.τ).loc Cert.FinBIdeal.main_arg0)
          ∧ r.2.mem ((c.tc : Thread Cert.FinBIdeal.nD Cert.FinBIdeal.τ).loc Cert.FinBIdeal.main_arg1) = m ((c.tc : Thread Cert.FinBIdeal.nD Cert.FinBIdeal.τ).loc Cert.FinBIdeal.main_arg1)
          ∧ r.2.mem ((c.tc : Thread Cert.FinBIdeal.nD Cert.FinBIdeal.τ).loc Cert.FinBIdeal.main_arg2) = m ((c.tc : Thread Cert.FinBIdeal.nD Cert.FinBIdeal.τ).loc Cert.FinBIdeal.main_arg2)
          ∧ r.2.mem ((c.tc : Thread Cert.FinBIdeal.nD Cert.FinBIdeal.τ).loc Cert.FinBIdeal.main_arg3) = m ((c.tc : Thread Cert.FinBIdeal.nD Cert.FinBIdeal.τ).loc Cert.FinBIdeal.main_arg3)
          ∧ r.2.mem ((c.tc : Thread Cert.FinBIdeal.nD Cert.FinBIdeal.τ).loc Cert.FinBIdeal.main_arg4) = m ((c.tc : Thread Cert.FinBIdeal.nD Cert.FinBIdeal.τ).loc Cert.FinBIdeal.main_arg4))
      ∧ θ_run (Cert.FinBRefIdeal.defs (F := Ideal)) (onTc (τ := Cert.FinBRefIdeal.τ) (Cert.FinBRefIdeal.main (F := Ideal))) ⟨m', fun _ => 0, g'⟩ (fun r => ∀ c : Dev Cert.FinBRefIdeal.nD,
          r.2.mem ((c.tc : Thread Cert.FinBRefIdeal.nD Cert.FinBRefIdeal.τ).loc Cert.FinBRefIdeal.main_v37) = v0 c
          ∧ r.2.mem ((c.tc : Thread Cert.FinBRefIdeal.nD Cert.FinBRefIdeal.τ).loc Cert.FinBRefIdeal.main_arg0) = m' ((c.tc : Thread Cert.FinBRefIdeal.nD Cert.FinBRefIdeal.τ).loc Cert.FinBRefIdeal.main_arg0)
          ∧ r.2.mem ((c.tc : Thread Cert.FinBRefIdeal.nD Cert.FinBRefIdeal.τ).loc Cert.FinBRefIdeal.main_arg1) = m' ((c.tc : Thread Cert.FinBRefIdeal.nD Cert.FinBRefIdeal.τ).loc Cert.FinBRefIdeal.main_arg1)
          ∧ r.2.mem ((c.tc : Thread Cert.FinBRefIdeal.nD Cert.FinBRefIdeal.τ).loc Cert.FinBRefIdeal.main_arg2) = m' ((c.tc : Thread Cert.FinBRefIdeal.nD Cert.FinBRefIdeal.τ).loc Cert.FinBRefIdeal.main_arg2)
          ∧ r.2.mem ((c.tc : Thread Cert.FinBRefIdeal.nD Cert.FinBRefIdeal.τ).loc Cert.FinBRefIdeal.main_arg3) = m' ((c.tc : Thread Cert.FinBRefIdeal.nD Cert.FinBRefIdeal.τ).loc Cert.FinBRefIdeal.main_arg3)
          ∧ r.2.mem ((c.tc : Thread Cert.FinBRefIdeal.nD Cert.FinBRefIdeal.τ).loc Cert.FinBRefIdeal.main_arg4) = m' ((c.tc : Thread Cert.FinBRefIdeal.nD Cert.FinBRefIdeal.τ).loc Cert.FinBRefIdeal.main_arg4))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)) →
    ∃ (v0 : (c : Dev Cert.MemkvIdeal.nD) → Buf (Elt Ideal) ((c.tc : Thread Cert.MemkvIdeal.nD Cert.MemkvIdeal.τ).loc Cert.MemkvIdeal.main_v4_0)) (v1 : (c : Dev Cert.MemkvIdeal.nD) → Buf (Elt Ideal) ((c.tc : Thread Cert.MemkvIdeal.nD Cert.MemkvIdeal.τ).loc Cert.MemkvIdeal.main_v4_1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v4_0) = v0 c
          ∧ r.2.mem ((c.tc : Thread Cert.MemkvIdeal.nD Cert.MemkvIdeal.τ).loc Cert.MemkvIdeal.main_v4_1) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v17) = v0 c
          ∧ r.2.mem ((c.tc : Thread Cert.MemkvRefIdeal.nD Cert.MemkvRefIdeal.τ).loc Cert.MemkvRefIdeal.main_v19) = v1 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)) →
    ∃ (v0 : (c : Dev Cert.InprojIdeal.nD) → Buf (Elt Ideal) ((c.tc : Thread Cert.InprojIdeal.nD Cert.InprojIdeal.τ).loc Cert.InprojIdeal.main_v166_0)) (v1 : (c : Dev Cert.InprojIdeal.nD) → Buf (Elt Ideal) ((c.tc : Thread Cert.InprojIdeal.nD Cert.InprojIdeal.τ).loc Cert.InprojIdeal.main_v166_1)) (v2 : (c : Dev Cert.InprojIdeal.nD) → Buf (Elt Ideal) ((c.tc : Thread Cert.InprojIdeal.nD Cert.InprojIdeal.τ).loc Cert.InprojIdeal.main_v166_2)) (v3 : (c : Dev Cert.InprojIdeal.nD) → Buf (Elt Ideal) ((c.tc : Thread Cert.InprojIdeal.nD Cert.InprojIdeal.τ).loc Cert.InprojIdeal.main_v166_3)) (v4 : (c : Dev Cert.InprojIdeal.nD) → Buf (Elt Ideal) ((c.tc : Thread Cert.InprojIdeal.nD Cert.InprojIdeal.τ).loc Cert.InprojIdeal.main_v166_4)) (v5 : (c : Dev Cert.InprojIdeal.nD) → Buf (Elt Ideal) ((c.tc : Thread Cert.InprojIdeal.nD Cert.InprojIdeal.τ).loc Cert.InprojIdeal.main_v166_5)) (v6 : (c : Dev Cert.InprojIdeal.nD) → Buf (Elt Ideal) ((c.tc : Thread Cert.InprojIdeal.nD Cert.InprojIdeal.τ).loc Cert.InprojIdeal.main_v166_6)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v166_0) = v0 c
          ∧ r.2.mem ((c.tc : Thread Cert.InprojIdeal.nD Cert.InprojIdeal.τ).loc Cert.InprojIdeal.main_v166_1) = v1 c
          ∧ r.2.mem ((c.tc : Thread Cert.InprojIdeal.nD Cert.InprojIdeal.τ).loc Cert.InprojIdeal.main_v166_2) = v2 c
          ∧ r.2.mem ((c.tc : Thread Cert.InprojIdeal.nD Cert.InprojIdeal.τ).loc Cert.InprojIdeal.main_v166_3) = v3 c
          ∧ r.2.mem ((c.tc : Thread Cert.InprojIdeal.nD Cert.InprojIdeal.τ).loc Cert.InprojIdeal.main_v166_4) = v4 c
          ∧ r.2.mem ((c.tc : Thread Cert.InprojIdeal.nD Cert.InprojIdeal.τ).loc Cert.InprojIdeal.main_v166_5) = v5 c
          ∧ r.2.mem ((c.tc : Thread Cert.InprojIdeal.nD Cert.InprojIdeal.τ).loc Cert.InprojIdeal.main_v166_6) = v6 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v218) = v0 c
          ∧ r.2.mem ((c.tc : Thread Cert.InprojRefIdeal.nD Cert.InprojRefIdeal.τ).loc Cert.InprojRefIdeal.main_v219) = v1 c
          ∧ r.2.mem ((c.tc : Thread Cert.InprojRefIdeal.nD Cert.InprojRefIdeal.τ).loc Cert.InprojRefIdeal.main_v220) = v2 c
          ∧ r.2.mem ((c.tc : Thread Cert.InprojRefIdeal.nD Cert.InprojRefIdeal.τ).loc Cert.InprojRefIdeal.main_v222) = v3 c
          ∧ r.2.mem ((c.tc : Thread Cert.InprojRefIdeal.nD Cert.InprojRefIdeal.τ).loc Cert.InprojRefIdeal.main_v224) = v4 c
          ∧ r.2.mem ((c.tc : Thread Cert.InprojRefIdeal.nD Cert.InprojRefIdeal.τ).loc Cert.InprojRefIdeal.main_v225) = v5 c
          ∧ r.2.mem ((c.tc : Thread Cert.InprojRefIdeal.nD Cert.InprojRefIdeal.τ).loc Cert.InprojRefIdeal.main_v226) = v6 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6))

def Claim : Prop :=
  ∃ (hMla : Cert.Mla.Facts) (hMlaIdeal : Cert.MlaIdeal.Facts) (hMlaRefIdeal : Cert.MlaRefIdeal.Facts) (hFfn : Cert.Ffn.Facts) (hFfnIdeal : Cert.FfnIdeal.Facts) (hFfnRefIdeal : Cert.FfnRefIdeal.Facts) (hFin : Cert.Fin.Facts) (hFinIdeal : Cert.FinIdeal.Facts) (hFinRefIdeal : Cert.FinRefIdeal.Facts) (hMerge : Cert.Merge.Facts) (hMergeIdeal : Cert.MergeIdeal.Facts) (hMergeRefIdeal : Cert.MergeRefIdeal.Facts) (hFinB : Cert.FinB.Facts) (hFinBIdeal : Cert.FinBIdeal.Facts) (hFinBRefIdeal : Cert.FinBRefIdeal.Facts) (hMemkv : Cert.Memkv.Facts) (hMemkvIdeal : Cert.MemkvIdeal.Facts) (hMemkvRefIdeal : Cert.MemkvRefIdeal.Facts) (hInproj : Cert.Inproj.Facts) (hInprojIdeal : Cert.InprojIdeal.Facts) (hInprojRefIdeal : Cert.InprojRefIdeal.Facts) (hPre_queries_and_keys_finite : Cert.Pre_queries_and_keys_finite.Facts) (hPre_memory_queries_and_keys_finite : Cert.Pre_memory_queries_and_keys_finite.Facts),
    quiescent_Mla (hMla := hMla)
    ∧ quiescent_MlaIdeal (hMlaIdeal := hMlaIdeal)
    ∧ quiescent_MlaIdeal_pre_queries_and_keys_finite (hMlaIdeal := hMlaIdeal) (hPre_queries_and_keys_finite := hPre_queries_and_keys_finite)
    ∧ quiescent_MlaRefIdeal (hMlaRefIdeal := hMlaRefIdeal)
    ∧ quiescent_MlaRefIdeal_pre_queries_and_keys_finite (hMlaRefIdeal := hMlaRefIdeal) (hPre_queries_and_keys_finite := hPre_queries_and_keys_finite)
    ∧ quiescent_Ffn (hFfn := hFfn)
    ∧ quiescent_FfnIdeal (hFfnIdeal := hFfnIdeal)
    ∧ quiescent_FfnRefIdeal (hFfnRefIdeal := hFfnRefIdeal)
    ∧ quiescent_Fin (hFin := hFin)
    ∧ quiescent_FinIdeal (hFinIdeal := hFinIdeal)
    ∧ quiescent_FinRefIdeal (hFinRefIdeal := hFinRefIdeal)
    ∧ quiescent_Merge (hMerge := hMerge)
    ∧ quiescent_MergeIdeal (hMergeIdeal := hMergeIdeal)
    ∧ quiescent_MergeIdeal_pre_memory_queries_and_keys_finite (hMergeIdeal := hMergeIdeal) (hPre_memory_queries_and_keys_finite := hPre_memory_queries_and_keys_finite)
    ∧ quiescent_MergeRefIdeal (hMergeRefIdeal := hMergeRefIdeal)
    ∧ quiescent_MergeRefIdeal_pre_memory_queries_and_keys_finite (hMergeRefIdeal := hMergeRefIdeal) (hPre_memory_queries_and_keys_finite := hPre_memory_queries_and_keys_finite)
    ∧ quiescent_FinB (hFinB := hFinB)
    ∧ quiescent_FinBIdeal (hFinBIdeal := hFinBIdeal)
    ∧ quiescent_FinBRefIdeal (hFinBRefIdeal := hFinBRefIdeal)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_Inproj (hInproj := hInproj)
    ∧ quiescent_InprojIdeal (hInprojIdeal := hInprojIdeal)
    ∧ quiescent_InprojRefIdeal (hInprojRefIdeal := hInprojRefIdeal)
    ∧ preserves_Mla_MlaIdeal
    ∧ algebraic_MlaIdeal_MlaRefIdeal_pre_queries_and_keys_finite (hMlaIdeal := hMlaIdeal) (hMlaRefIdeal := hMlaRefIdeal) (hPre_queries_and_keys_finite := hPre_queries_and_keys_finite)
    ∧ preserves_Ffn_FfnIdeal
    ∧ algebraic_FfnIdeal_FfnRefIdeal (hFfnIdeal := hFfnIdeal) (hFfnRefIdeal := hFfnRefIdeal)
    ∧ preserves_Fin_FinIdeal
    ∧ algebraic_FinIdeal_FinRefIdeal (hFinIdeal := hFinIdeal) (hFinRefIdeal := hFinRefIdeal)
    ∧ preserves_Merge_MergeIdeal
    ∧ algebraic_MergeIdeal_MergeRefIdeal_pre_memory_queries_and_keys_finite (hMergeIdeal := hMergeIdeal) (hMergeRefIdeal := hMergeRefIdeal) (hPre_memory_queries_and_keys_finite := hPre_memory_queries_and_keys_finite)
    ∧ preserves_FinB_FinBIdeal
    ∧ algebraic_FinBIdeal_FinBRefIdeal (hFinBIdeal := hFinBIdeal) (hFinBRefIdeal := hFinBRefIdeal)
    ∧ preserves_Memkv_MemkvIdeal
    ∧ algebraic_MemkvIdeal_MemkvRefIdeal (hMemkvIdeal := hMemkvIdeal) (hMemkvRefIdeal := hMemkvRefIdeal)
    ∧ preserves_Inproj_InprojIdeal
    ∧ algebraic_InprojIdeal_InprojRefIdeal (hInprojIdeal := hInprojIdeal) (hInprojRefIdeal := hInprojRefIdeal)
-- ==== Pre_memory_queries_and_keys_finite.lean ====
abbrev S1x16384x1024 : Shape := ⟨3, ![1, 16384, 1024]⟩
abbrev S1x16384x512 : Shape := ⟨3, ![1, 16384, 512]⟩
abbrev S1x256x512 : Shape := ⟨3, ![1, 256, 512]⟩
abbrev S1x1024 : Shape := ⟨2, ![1, 1024]⟩
abbrev S1024x3072 : Shape := ⟨2, ![1024, 3072]⟩
abbrev S1x512x1024 : Shape := ⟨3, ![1, 512, 1024]⟩
abbrev S1x1024x1024 : Shape := ⟨3, ![1, 1024, 1024]⟩
abbrev S_ : Shape := ⟨0, ![]⟩

class Facts : Prop where
  bitsLt_bf16_f32 : FTy.bits .bf16 < FTy.bits .f32
  bcast_S_S1x16384x512 : S_.BroadcastsInDim S1x16384x512 (![] : Fin 0 → Fin S1x16384x512.rank)
  reducesTo_S1x16384x512_S_d0_1_2 : S1x16384x512.ReducesTo [0, 1, 2] S_
  h_S_ : 0 < S_.numel
  bcast_S_S1x256x512 : S_.BroadcastsInDim S1x256x512 (![] : Fin 0 → Fin S1x256x512.rank)
  reducesTo_S1x256x512_S_d0_1_2 : S1x256x512.ReducesTo [0, 1, 2] S_

variable [Facts]

def fn {F : FTy → Type} [FloatOps F] (main_arg0 : FVec F S1x16384x1024 .f32) (main_arg1 : FVec F S1x16384x512 .bf16) (main_arg2 : FVec F S1x16384x512 .bf16) (main_arg3 : FVec F S1x16384x512 .bf16) (main_arg4 : FVec F S1x256x512 .bf16) (main_arg5 : FVec F S1x256x512 .bf16) (main_arg6 : FVec F S1x1024 .f32) (main_arg7 : FVec F S1024x3072 .f32) (main_arg8 : FVec F S1x512x1024 .f32) (main_arg9 : FVec F S1x512x1024 .f32) (main_arg10 : FVec F S1x512x1024 .f32) (main_arg11 : FVec F S1x1024x1024 .f32) : IVec S_ 1 :=
  let main_v0 : FVec F S1x16384x512 .f32 := (extf .f32 · bitsLt_bf16_f32) main_arg3
  let main_v1 : FVec F S1x256x512 .f32 := (extf .f32 · bitsLt_bf16_f32) main_arg4
  let main_v2 : FVec F S1x16384x512 .f32 := Host.absf main_v0
  let main_cst : FVec F S_ .f32 := constant S_ .f32 0x7F800000#32
  let main_v3 : FVec F S1x16384x512 .f32 := broadcastInDim S1x16384x512 ![] bcast_S_S1x16384x512 main_cst
  let main_v4 : IVec S1x16384x512 1 := cmpf .olt main_v2 main_v3
  let main_c : IVec S_ 1 := constantI S_ 1 1#1
  let main_v5 : IVec S_ 1 := (fun x v => Host.reduce IntOp.andi x v reducesTo_S1x16384x512_S_d0_1_2 h_S_) main_v4 main_c
  let main_v6 : FVec F S1x256x512 .f32 := Host.absf main_v1
  let main_cst_0 : FVec F S_ .f32 := constant S_ .f32 0x7F800000#32
  let main_v7 : FVec F S1x256x512 .f32 := broadcastInDim S1x256x512 ![] bcast_S_S1x256x512 main_cst_0
  let main_v8 : IVec S1x256x512 1 := cmpf .olt main_v6 main_v7
  let main_c_1 : IVec S_ 1 := constantI S_ 1 1#1
  let main_v9 : IVec S_ 1 := (fun x v => Host.reduce IntOp.andi x v reducesTo_S1x256x512_S_d0_1_2 h_S_) main_v8 main_c_1
  let main_v10 : IVec S_ 1 := andi main_v5 main_v9
  main_v10
-- ==== Pre_queries_and_keys_finite.lean ====
abbrev S1x16384x1024 : Shape := ⟨3, ![1, 16384, 1024]⟩
abbrev S1x64x512x256 : Shape := ⟨4, ![1, 64, 512, 256]⟩
abbrev S_ : Shape := ⟨0, ![]⟩

class Facts : Prop where
  bitsLt_bf16_f32 : FTy.bits .bf16 < FTy.bits .f32
  bcast_S_S1x16384x1024 : S_.BroadcastsInDim S1x16384x1024 (![] : Fin 0 → Fin S1x16384x1024.rank)
  reducesTo_S1x16384x1024_S_d0_1_2 : S1x16384x1024.ReducesTo [0, 1, 2] S_
  h_S_ : 0 < S_.numel

variable [Facts]

def fn {F : FTy → Type} [FloatOps F] (main_arg0 : FVec F S1x16384x1024 .bf16) (main_arg1 : FVec F S1x16384x1024 .bf16) (main_arg2 : FVec F S1x64x512x256 .bf16) : IVec S_ 1 :=
  let main_v0 : FVec F S1x16384x1024 .f32 := (extf .f32 · bitsLt_bf16_f32) main_arg0
  let main_v1 : FVec F S1x16384x1024 .f32 := (extf .f32 · bitsLt_bf16_f32) main_arg1
  let main_v2 : FVec F S1x16384x1024 .f32 := Host.absf main_v0
  let main_cst : FVec F S_ .f32 := constant S_ .f32 0x7F800000#32
  let main_v3 : FVec F S1x16384x1024 .f32 := broadcastInDim S1x16384x1024 ![] bcast_S_S1x16384x1024 main_cst
  let main_v4 : IVec S1x16384x1024 1 := cmpf .olt main_v2 main_v3
  let main_c : IVec S_ 1 := constantI S_ 1 1#1
  let main_v5 : IVec S_ 1 := (fun x v => Host.reduce IntOp.andi x v reducesTo_S1x16384x1024_S_d0_1_2 h_S_) main_v4 main_c
  let main_v6 : FVec F S1x16384x1024 .f32 := Host.absf main_v1
  let main_cst_0 : FVec F S_ .f32 := constant S_ .f32 0x7F800000#32
  let main_v7 : FVec F S1x16384x1024 .f32 := broadcastInDim S1x16384x1024 ![] bcast_S_S1x16384x1024 main_cst_0
  let main_v8 : IVec S1x16384x1024 1 := cmpf .olt main_v6 main_v7
  let main_c_1 : IVec S_ 1 := constantI S_ 1 1#1
  let main_v9 : IVec S_ 1 := (fun x v => Host.reduce IntOp.andi x v reducesTo_S1x16384x1024_S_d0_1_2 h_S_) main_v8 main_c_1
  let main_v10 : IVec S_ 1 := andi main_v5 main_v9
  main_v10
-- ==== Mla.lean ====
abbrev S1x16384x1024 : Shape := ⟨3, ![1, 16384, 1024]⟩
abbrev S1x64x512x256 : Shape := ⟨4, ![1, 64, 512, 256]⟩
abbrev S1x16384x512 : Shape := ⟨3, ![1, 16384, 512]⟩
abbrev S1x512x1024 : Shape := ⟨3, ![1, 512, 1024]⟩
abbrev S1x1024x1024 : Shape := ⟨3, ![1, 1024, 1024]⟩
abbrev S1x4x512x256 : Shape := ⟨4, ![1, 4, 512, 256]⟩
abbrev S1x512x512 : Shape := ⟨3, ![1, 512, 512]⟩
abbrev S8x1x512 : Shape := ⟨3, ![8, 1, 512]⟩
abbrev S8x64x512 : Shape := ⟨3, ![8, 64, 512]⟩
abbrev S1x256x128 : Shape := ⟨3, ![1, 256, 128]⟩
abbrev S256x128 : Shape := ⟨2, ![256, 128]⟩
abbrev S1x512x128 : Shape := ⟨3, ![1, 512, 128]⟩
abbrev S512x128 : Shape := ⟨2, ![512, 128]⟩
abbrev S256x512 : Shape := ⟨2, ![256, 512]⟩
abbrev S1x1x512 : Shape := ⟨3, ![1, 1, 512]⟩
abbrev S1x512 : Shape := ⟨2, ![1, 512]⟩
abbrev S512 : Shape := ⟨1, ![512]⟩
abbrev S1x1x64x256 : Shape := ⟨4, ![1, 1, 64, 256]⟩
abbrev S64x256 : Shape := ⟨2, ![64, 256]⟩
abbrev S64x512 : Shape := ⟨2, ![64, 512]⟩
abbrev S1x64x512 : Shape := ⟨3, ![1, 64, 512]⟩
abbrev S128x512 : Shape := ⟨2, ![128, 512]⟩

abbrev nBuf : Space → Nat
  | .hbm => 4
  | .vmem => 11
  | .smem => 0
  | _ => 0

abbrev bufTy : (tb : Table) → Fin (tcTables nBuf tb) → BufTy
  | .hbm, ⟨0, _⟩ => ⟨S1x16384x1024, .bf16⟩
  | .hbm, ⟨1, _⟩ => ⟨S1x16384x1024, .bf16⟩
  | .hbm, ⟨2, _⟩ => ⟨S1x64x512x256, .bf16⟩
  | .hbm, ⟨3, _⟩ => ⟨S1x16384x512, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x4x512x256, .bf16⟩
  | .local _ .vmem, ⟨5, _⟩ => ⟨S1x4x512x256, .bf16⟩
  | .local _ .vmem, ⟨6, _⟩ => ⟨S1x512x512, .bf16⟩
  | .local _ .vmem, ⟨7, _⟩ => ⟨S1x512x512, .bf16⟩
  | .local _ .vmem, ⟨8, _⟩ => ⟨S8x1x512, .f32⟩
  | .local _ .vmem, ⟨9, _⟩ => ⟨S8x1x512, .f32⟩
  | .local _ .vmem, ⟨10, _⟩ => ⟨S8x64x512, .f32⟩
  | _, _ => ⟨S1x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 32, 16], ![false, false, false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c256_i32 : BitVec 32 := 256#32
  let v7 : BitVec 32 := Scalar.muli arg10 c256_i32
  v7
def k0_off1 (k0_t1 : Fin k0_t1_loop.trips) : Fin 3 → Nat :=
  let c0 : Index := 0#32
  let c0_i32_1 : BitVec 32 := 0#32
  let c1_i32 : BitVec 32 := 1#32
  let arg10 : BitVec 32 := Scf.iv c0_i32_1 c1_i32 k0_t1
  let c256_i32 : BitVec 32 := 256#32
  let v7 : BitVec 32 := Scalar.muli arg10 c256_i32
  let v8 : BitVec 32 := v7
  let v9 : Index := Scalar.indexCast v8
  let c0_4 : Index := 0#32
  ![0, v9.toNat, 0]
def k0_off2 (k0_t1 : Fin k0_t1_loop.trips) : Fin 4 → Nat :=
  let c0_19 : Index := 0#32
  let c0_i32_1 : BitVec 32 := 0#32
  let c1_i32 : BitVec 32 := 1#32
  let arg10 : BitVec 32 := Scf.iv c0_i32_1 c1_i32 k0_t1
  let v34 : Index := Scalar.indexCast arg10
  let c0_20 : Index := 0#32
  let c0_21 : Index := 0#32
  ![0, v34.toNat, 0, 0]
def k0_off3 (k0_t1 : Fin k0_t1_loop.trips) : Fin 3 → Nat :=
  let c0_32 : Index := 0#32
  let c0_i32_1 : BitVec 32 := 0#32
  let c1_i32 : BitVec 32 := 1#32
  let arg10 : BitVec 32 := Scf.iv c0_i32_1 c1_i32 k0_t1
  let c256_i32 : BitVec 32 := 256#32
  let v7 : BitVec 32 := Scalar.muli arg10 c256_i32
  let v8 : BitVec 32 := v7
  let v50 : Index := Scalar.indexCast v8
  let c128 : Index := 128#32
  ![0, v50.toNat, 128]
def k0_off4 (k0_t1 : Fin k0_t1_loop.trips) : Fin 4 → Nat :=
  let c0_47 : Index := 0#32
  let c0_i32_1 : BitVec 32 := 0#32
  let c1_i32 : BitVec 32 := 1#32
  let arg10 : BitVec 32 := Scf.iv c0_i32_1 c1_i32 k0_t1
  let v75 : Index := Scalar.indexCast arg10
  let c64 : Index := 64#32
  let c0_48 : Index := 0#32
  ![0, v75.toNat, 64, 0]
def k0_off5 (k0_t1 : Fin k0_t1_loop.trips) : Fin 3 → Nat :=
  let c0_59 : Index := 0#32
  let c0_i32_1 : BitVec 32 := 0#32
  let c1_i32 : BitVec 32 := 1#32
  let arg10 : BitVec 32 := Scf.iv c0_i32_1 c1_i32 k0_t1
  let c256_i32 : BitVec 32 := 256#32
  let v7 : BitVec 32 := Scalar.muli arg10 c256_i32
  let v8 : BitVec 32 := v7
  let v91 : Index := Scalar.indexCast v8
  let c256 : Index := 256#32
  ![0, v91.toNat, 256]
def k0_off6 (k0_t1 : Fin k0_t1_loop.trips) : Fin 4 → Nat :=
  let c0_74 : Index := 0#32
  let c0_i32_1 : BitVec 32 := 0#32
  let c1_i32 : BitVec 32 := 1#32
  let arg10 : BitVec 32 := Scf.iv c0_i32_1 c1_i32 k0_t1
  let v116 : Index := Scalar.indexCast arg10
  let c128_75 : Index := 128#32
  let c0_76 : Index := 0#32
  ![0, v116.toNat, 128, 0]
def k0_off7 (k0_t1 : Fin k0_t1_loop.trips) : Fin 3 → Nat :=
  let c0_87 : Index := 0#32
  let c0_i32_1 : BitVec 32 := 0#32
  let c1_i32 : BitVec 32 := 1#32
  let arg10 : BitVec 32 := Scf.iv c0_i32_1 c1_i32 k0_t1
  let c256_i32 : BitVec 32 := 256#32
  let v7 : BitVec 32 := Scalar.muli arg10 c256_i32
  let v8 : BitVec 32 := v7
  let v132 : Index := Scalar.indexCast v8
  let c384 : Index := 384#32
  ![0, v132.toNat, 384]
def k0_off8 (k0_t1 : Fin k0_t1_loop.trips) : Fin 4 → Nat :=
  let c0_102 : Index := 0#32
  let c0_i32_1 : BitVec 32 := 0#32
  let c1_i32 : BitVec 32 := 1#32
  let arg10 : BitVec 32 := Scf.iv c0_i32_1 c1_i32 k0_t1
  let v157 : Index := Scalar.indexCast arg10
  let c192 : Index := 192#32
  let c0_103 : Index := 0#32
  ![0, v157.toNat, 192, 0]
def k0_off9 (k0_t1 : Fin k0_t1_loop.trips) : Fin 3 → Nat :=
  let c0_114 : Index := 0#32
  let c0_i32_1 : BitVec 32 := 0#32
  let c1_i32 : BitVec 32 := 1#32
  let arg10 : BitVec 32 := Scf.iv c0_i32_1 c1_i32 k0_t1
  let c256_i32 : BitVec 32 := 256#32
  let v7 : BitVec 32 := Scalar.muli arg10 c256_i32
  let v8 : BitVec 32 := v7
  let v173 : Index := Scalar.indexCast v8
  let c512 : Index := 512#32
  ![0, v173.toNat, 512]
def k0_off10 (k0_t1 : Fin k0_t1_loop.trips) : Fin 4 → Nat :=
  let c0_129 : Index := 0#32
  let c0_i32_1 : BitVec 32 := 0#32
  let c1_i32 : BitVec 32 := 1#32
  let arg10 : BitVec 32 := Scf.iv c0_i32_1 c1_i32 k0_t1
  let v198 : Index := Scalar.indexCast arg10
  let c256_130 : Index := 256#32
  let c0_131 : Index := 0#32
  ![0, v198.toNat, 256, 0]
def k0_off11 (k0_t1 : Fin k0_t1_loop.trips) : Fin 3 → Nat :=
  let c0_142 : Index := 0#32
  let c0_i32_1 : BitVec 32 := 0#32
  let c1_i32 : BitVec 32 := 1#32
  let arg10 : BitVec 32 := Scf.iv c0_i32_1 c1_i32 k0_t1
  let c256_i32 : BitVec 32 := 256#32
  let v7 : BitVec 32 := Scalar.muli arg10 c256_i32
  let v8 : BitVec 32 := v7
  let v214 : Index := Scalar.indexCast v8
  let c640 : Index := 640#32
  ![0, v214.toNat, 640]
def k0_off12 (k0_t1 : Fin k0_t1_loop.trips) : Fin 4 → Nat :=
  let c0_157 : Index := 0#32
  let c0_i32_1 : BitVec 32 := 0#32
  let c1_i32 : BitVec 32 := 1#32
  let arg10 : BitVec 32 := Scf.iv c0_i32_1 c1_i32 k0_t1
  let v239 : Index := Scalar.indexCast arg10
  let c320 : Index := 320#32
  let c0_158 : Index := 0#32
  ![0, v239.toNat, 320, 0]
def k0_off13 (k0_t1 : Fin k0_t1_loop.trips) : Fin 3 → Nat :=
  let c0_169 : Index := 0#32
  let c0_i32_1 : BitVec 32 := 0#32
  let c1_i32 : BitVec 32 := 1#32
  let arg10 : BitVec 32 := Scf.iv c0_i32_1 c1_i32 k0_t1
  let c256_i32 : BitVec 32 := 256#32
  let v7 : BitVec 32 := Scalar.muli arg10 c256_i32
  let v8 : BitVec 32 := v7
  let v255 : Index := Scalar.indexCast v8
  let c768 : Index := 768#32
  ![0, v255.toNat, 768]
def k0_off14 (k0_t1 : Fin k0_t1_loop.trips) : Fin 4 → Nat :=
  let c0_184 : Index := 0#32
  let c0_i32_1 : BitVec 32 := 0#32
  let c1_i32 : BitVec 32 := 1#32
  let arg10 : BitVec 32 := Scf.iv c0_i32_1 c1_i32 k0_t1
  let v280 : Index := Scalar.indexCast arg10
  let c384_185 : Index := 384#32
  let c0_186 : Index := 0#32
  ![0, v280.toNat, 384, 0]
def k0_off15 (k0_t1 : Fin k0_t1_loop.trips) : Fin 3 → Nat :=
  let c0_197 : Index := 0#32
  let c0_i32_1 : BitVec 32 := 0#32
  let c1_i32 : BitVec 32 := 1#32
  let arg10 : BitVec 32 := Scf.iv c0_i32_1 c1_i32 k0_t1
  let c256_i32 : BitVec 32 := 256#32
  let v7 : BitVec 32 := Scalar.muli arg10 c256_i32
  let v8 : BitVec 32 := v7
  let v296 : Index := Scalar.indexCast v8
  let c896 : Index := 896#32
  ![0, v296.toNat, 896]
def k0_off16 (k0_t1 : Fin k0_t1_loop.trips) : Fin 4 → Nat :=
  let c0_212 : Index := 0#32
  let c0_i32_1 : BitVec 32 := 0#32
  let c1_i32 : BitVec 32 := 1#32
  let arg10 : BitVec 32 := Scf.iv c0_i32_1 c1_i32 k0_t1
  let v321 : Index := Scalar.indexCast arg10
  let c448 : Index := 448#32
  let c0_213 : Index := 0#32
  ![0, v321.toNat, 448, 0]
def k0_cond2 (i : grid0.Coords) : BitVec 1 :=
  let arg2 : BitVec 32 := BitVec.ofNat 32 (i 2).val
  let c15_i32 : BitVec 32 := 15#32
  let v4 : BitVec 1 := Scalar.cmpi .eq arg2 c15_i32
  let v5 : BitVec 32 := Scalar.extui v4
  let c0_i32_3 : BitVec 32 := 0#32
  let v6 : BitVec 1 := Scalar.cmpi .ne v5 c0_i32_3
  v6

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x4x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlaRefIdeal.lean ====
abbrev S1x16384x1024 : Shape := ⟨3, ![1, 16384, 1024]⟩
abbrev S1x64x512x256 : Shape := ⟨4, ![1, 64, 512, 256]⟩
abbrev S1x16384x8x128 : Shape := ⟨4, ![1, 16384, 8, 128]⟩
abbrev S1x64x256x512 : Shape := ⟨4, ![1, 64, 256, 512]⟩
abbrev S1x16384x8x64 : Shape := ⟨4, ![1, 16384, 8, 64]⟩
abbrev S1x8x16384x16384 : Shape := ⟨4, ![1, 8, 16384, 16384]⟩
abbrev S_ : Shape := ⟨0, ![]⟩
abbrev S1x8x16384 : Shape := ⟨3, ![1, 8, 16384]⟩
abbrev S1x8x16384x1 : Shape := ⟨4, ![1, 8, 16384, 1]⟩
abbrev S1x8x64x16384 : Shape := ⟨4, ![1, 8, 64, 16384]⟩
abbrev S1x16384x512 : Shape := ⟨3, ![1, 16384, 512]⟩

abbrev nBuf : Space → Nat
  | .hbm => 29
  | .vmem => 0
  | .smem => 0
  | _ => 0

abbrev bufTy : (tb : Table) → Fin (tcTables nBuf tb) → BufTy
  | .hbm, ⟨0, _⟩ => ⟨S1x16384x1024, .bf16⟩
  | .hbm, ⟨1, _⟩ => ⟨S1x16384x1024, .bf16⟩
  | .hbm, ⟨2, _⟩ => ⟨S1x64x512x256, .bf16⟩
  | .hbm, ⟨3, _⟩ => ⟨S1x16384x1024, .f32⟩
  | .hbm, ⟨4, _⟩ => ⟨S1x16384x8x128, .f32⟩
  | .hbm, ⟨5, _⟩ => ⟨S1x16384x1024, .f32⟩
  | .hbm, ⟨6, _⟩ => ⟨S1x16384x8x128, .f32⟩
  | .hbm, ⟨7, _⟩ => ⟨S1x64x512x256, .f32⟩
  | .hbm, ⟨8, _⟩ => ⟨S1x64x256x512, .f32⟩
  | .hbm, ⟨9, _⟩ => ⟨S1x16384x8x64, .f32⟩
  | .hbm, ⟨10, _⟩ => ⟨S1x8x16384x16384, .f32⟩
  | .hbm, ⟨11, _⟩ => ⟨S_, .f32⟩
  | .hbm, ⟨12, _⟩ => ⟨S1x8x16384, .f32⟩
  | .hbm, ⟨13, _⟩ => ⟨S_, .f32⟩
  | .hbm, ⟨14, _⟩ => ⟨S1x8x16384, .f32⟩
  | .hbm, ⟨15, _⟩ => ⟨S1x8x16384, .f32⟩
  | .hbm, ⟨16, _⟩ => ⟨S1x8x16384x1, .f32⟩
  | .hbm, ⟨17, _⟩ => ⟨S1x8x16384x16384, .f32⟩
  | .hbm, ⟨18, _⟩ => ⟨S1x8x16384x16384, .f32⟩
  | .hbm, ⟨19, _⟩ => ⟨S1x8x16384x16384, .f32⟩
  | .hbm, ⟨20, _⟩ => ⟨S_, .f32⟩
  | .hbm, ⟨21, _⟩ => ⟨S1x8x16384, .f32⟩
  | .hbm, ⟨22, _⟩ => ⟨S1x8x16384x1, .f32⟩
  | .hbm, ⟨23, _⟩ => ⟨S1x8x16384x16384, .f32⟩
  | .hbm, ⟨24, _⟩ => ⟨S1x8x16384x16384, .f32⟩
  | .hbm, ⟨25, _⟩ => ⟨S1x8x64x16384, .f32⟩
  | .hbm, ⟨26, _⟩ => ⟨S1x16384x8x64, .f32⟩
  | .hbm, ⟨27, _⟩ => ⟨S1x16384x512, .f32⟩
  | .hbm, ⟨28, _⟩ => ⟨S1x16384x512, .bf16⟩
  | _, _ => ⟨S1x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Ffn.lean ====
abbrev S1x16384x1024 : Shape := ⟨3, ![1, 16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x5632 : Shape := ⟨2, ![1024, 5632]⟩
abbrev S2816x1024 : Shape := ⟨2, ![2816, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 13
  | .vmem => 8
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1024x5632, .f32⟩
  | .hbm, ⟨8, _⟩ => ⟨S1024x5632, .bf16⟩
  | .hbm, ⟨9, _⟩ => ⟨S2816x1024, .f32⟩
  | .hbm, ⟨10, _⟩ => ⟨S2816x1024, .bf16⟩
  | .hbm, ⟨11, _⟩ => ⟨S1x1024, .f32⟩
  | .hbm, ⟨12, _⟩ => ⟨S1x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1x512x1024, .f32⟩
  | .local _ .vmem, ⟨7, _⟩ => ⟨S1x512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnRefIdeal.lean ====
abbrev S1x16384x1024 : Shape := ⟨3, ![1, 16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x5632 : Shape := ⟨2, ![1024, 5632]⟩
abbrev S2816x1024 : Shape := ⟨2, ![2816, 1024]⟩
abbrev S1x16384x5632 : Shape := ⟨3, ![1, 16384, 5632]⟩
abbrev S1x16384x2816 : Shape := ⟨3, ![1, 16384, 2816]⟩

abbrev nBuf : Space → Nat
  | .hbm => 42
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S1024, .f32⟩
  | .hbm, ⟨6, _⟩ => ⟨S1x16384x1024, .f32⟩
  | .hbm, ⟨7, _⟩ => ⟨S_, .f32⟩
  | .hbm, ⟨8, _⟩ => ⟨S1x16384, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S_, .f32⟩
  | .hbm, ⟨14, _⟩ => ⟨S1x16384x1, .f32⟩
  | .hbm, ⟨15, _⟩ => ⟨S1x16384x1, .f32⟩
  | .hbm, ⟨16, _⟩ => ⟨S1x16384x1, .f32⟩
  | .hbm, ⟨17, _⟩ => ⟨S1x16384x1024, .f32⟩
  | .hbm, ⟨18, _⟩ => ⟨S1x16384x1024, .f32⟩
  | .hbm, ⟨19, _⟩ => ⟨S1x1x1024, .f32⟩
  | .hbm, ⟨20, _⟩ => ⟨S1x16384x1024, .f32⟩
  | .hbm, ⟨21, _⟩ => ⟨S1x16384x1024, .f32⟩
  | .hbm, ⟨22, _⟩ => ⟨S1024x5632, .f32⟩
  | .hbm, ⟨23, _⟩ => ⟨S2816x1024, .f32⟩
  | .hbm, ⟨24, _⟩ => ⟨S1x16384x5632, .f32⟩
  | .hbm, ⟨25, _⟩ => ⟨S1x16384x2816, .f32⟩
  | .hbm, ⟨26, _⟩ => ⟨S1x16384x2816, .f32⟩
  | .hbm, ⟨27, _⟩ => ⟨S1x16384x2816, .f32⟩
  | .hbm, ⟨28, _⟩ => ⟨S1x16384x2816, .f32⟩
  | .hbm, ⟨29, _⟩ => ⟨S_, .f32⟩
  | .hbm, ⟨30, _⟩ => ⟨S1x16384x2816, .f32⟩
  | .hbm, ⟨31, _⟩ => ⟨S1x16384x2816, .f32⟩
  | .hbm, ⟨32, _⟩ => ⟨S_, .f32⟩
  | .hbm, ⟨33, _⟩ => ⟨S1x16384x2816, .f32⟩
  | .hbm, ⟨34, _⟩ => ⟨S1x16384x2816, .f32⟩
  | .hbm, ⟨35, _⟩ => ⟨S1x16384x2816, .f32⟩
  | .hbm, ⟨36, _⟩ => ⟨S1x16384x2816, .f32⟩
  | .hbm, ⟨37, _⟩ => ⟨S1x16384x1024, .f32⟩
  | .hbm, ⟨38, _⟩ => ⟨S_, .f32⟩
  | .hbm, ⟨39, _⟩ => ⟨S1x16384x1024, .f32⟩
  | .hbm, ⟨40, _⟩ => ⟨S1x16384x1024, .f32⟩
  | .hbm, ⟨41, _⟩ => ⟨S1x16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]
-- ==== Fin.lean ====
abbrev S1x16384x1024 : Shape := ⟨3, ![1, 16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x5632 : Shape := ⟨2, ![1024, 5632]⟩
abbrev S2816x1024 : Shape := ⟨2, ![2816, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 13
  | .vmem => 8
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1024x5632, .f32⟩
  | .hbm, ⟨8, _⟩ => ⟨S1024x5632, .bf16⟩
  | .hbm, ⟨9, _⟩ => ⟨S2816x1024, .f32⟩
  | .hbm, ⟨10, _⟩ => ⟨S2816x1024, .bf16⟩
  | .hbm, ⟨11, _⟩ => ⟨S1x1024, .f32⟩
  | .hbm, ⟨12, _⟩ => ⟨S1x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1x512x1024, .f32⟩
  | .local _ .vmem, ⟨7, _⟩ => ⟨S1x512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FinIdeal.lean ====
abbrev S1x16384x1024 : Shape := ⟨3, ![1, 16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x5632 : Shape := ⟨2, ![1024, 5632]⟩
abbrev S2816x1024 : Shape := ⟨2, ![2816, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 13
  | .vmem => 8
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1024x5632, .f32⟩
  | .hbm, ⟨8, _⟩ => ⟨S1024x5632, .bf16⟩
  | .hbm, ⟨9, _⟩ => ⟨S2816x1024, .f32⟩
  | .hbm, ⟨10, _⟩ => ⟨S2816x1024, .bf16⟩
  | .hbm, ⟨11, _⟩ => ⟨S1x1024, .f32⟩
  | .hbm, ⟨12, _⟩ => ⟨S1x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1x512x1024, .f32⟩
  | .local _ .vmem, ⟨7, _⟩ => ⟨S1x512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FinRefIdeal.lean ====
abbrev S1x16384x1024 : Shape := ⟨3, ![1, 16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x5632 : Shape := ⟨2, ![1024, 5632]⟩
abbrev S2816x1024 : Shape := ⟨2, ![2816, 1024]⟩
abbrev S1x16384x5632 : Shape := ⟨3, ![1, 16384, 5632]⟩
abbrev S1x16384x2816 : Shape := ⟨3, ![1, 16384, 2816]⟩

abbrev nBuf : Space → Nat
  | .hbm => 58
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S1024, .f32⟩
  | .hbm, ⟨6, _⟩ => ⟨S1x16384x1024, .f32⟩
  | .hbm, ⟨7, _⟩ => ⟨S_, .f32⟩
  | .hbm, ⟨8, _⟩ => ⟨S1x16384, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S_, .f32⟩
  | .hbm, ⟨14, _⟩ => ⟨S1x16384x1, .f32⟩
  | .hbm, ⟨15, _⟩ => ⟨S1x16384x1, .f32⟩
  | .hbm, ⟨16, _⟩ => ⟨S1x16384x1, .f32⟩
  | .hbm, ⟨17, _⟩ => ⟨S1x16384x1024, .f32⟩
  | .hbm, ⟨18, _⟩ => ⟨S1x16384x1024, .f32⟩
  | .hbm, ⟨19, _⟩ => ⟨S1x1x1024, .f32⟩
  | .hbm, ⟨20, _⟩ => ⟨S1x16384x1024, .f32⟩
  | .hbm, ⟨21, _⟩ => ⟨S1x16384x1024, .f32⟩
  | .hbm, ⟨22, _⟩ => ⟨S1024x5632, .f32⟩
  | .hbm, ⟨23, _⟩ => ⟨S2816x1024, .f32⟩
  | .hbm, ⟨24, _⟩ => ⟨S1x16384x5632, .f32⟩
  | .hbm, ⟨25, _⟩ => ⟨S1x16384x2816, .f32⟩
  | .hbm, ⟨26, _⟩ => ⟨S1x16384x2816, .f32⟩
  | .hbm, ⟨27, _⟩ => ⟨S1x16384x2816, .f32⟩
  | .hbm, ⟨28, _⟩ => ⟨S1x16384x2816, .f32⟩
  | .hbm, ⟨29, _⟩ => ⟨S_, .f32⟩
  | .hbm, ⟨30, _⟩ => ⟨S1x16384x2816, .f32⟩
  | .hbm, ⟨31, _⟩ => ⟨S1x16384x2816, .f32⟩
  | .hbm, ⟨32, _⟩ => ⟨S_, .f32⟩
  | .hbm, ⟨33, _⟩ => ⟨S1x16384x2816, .f32⟩
  | .hbm, ⟨34, _⟩ => ⟨S1x16384x2816, .f32⟩
  | .hbm, ⟨35, _⟩ => ⟨S1x16384x2816, .f32⟩
  | .hbm, ⟨36, _⟩ => ⟨S1x16384x2816, .f32⟩
  | .hbm, ⟨37, _⟩ => ⟨S1x16384x1024, .f32⟩
  | .hbm, ⟨38, _⟩ => ⟨S_, .f32⟩
  | .hbm, ⟨39, _⟩ => ⟨S1x16384x1024, .f32⟩
  | .hbm, ⟨40, _⟩ => ⟨S1x16384x1024, .f32⟩
  | .hbm, ⟨41, _⟩ => ⟨S1x16384x1024, .f32⟩
  | .hbm, ⟨42, _⟩ => ⟨S1x16384x1024, .f32⟩
  | .hbm, ⟨43, _⟩ => ⟨S_, .f32⟩
  | .hbm, ⟨44, _⟩ => ⟨S1x16384, .f32⟩
  | .hbm, ⟨45, _⟩ => ⟨S1x16384x1, .f32⟩
  | .hbm, ⟨46, _⟩ => ⟨S_, .f32⟩
  | .hbm, ⟨47, _⟩ => ⟨S1x16384x1, .f32⟩
  | .hbm, ⟨48, _⟩ => ⟨S1x16384x1, .f32⟩
  | .hbm, ⟨49, _⟩ => ⟨S_, .f32⟩
  | .hbm, ⟨50, _⟩ => ⟨S1x16384x1, .f32⟩
  | .hbm, ⟨51, _⟩ => ⟨S1x16384x1, .f32⟩
  | .hbm, ⟨52, _⟩ => ⟨S1x16384x1, .f32⟩
  | .hbm, ⟨53, _⟩ => ⟨S1x16384x1024, .f32⟩
  | .hbm, ⟨54, _⟩ => ⟨S1x16384x1024, .f32⟩
  | .hbm, ⟨55, _⟩ => ⟨S1x1x1024, .f32⟩
  | .hbm, ⟨56, _⟩ => ⟨S1x16384x1024, .f32⟩
  | .hbm, ⟨57, _⟩ => ⟨S1x16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Merge.lean ====
abbrev S1x16384x1024 : Shape := ⟨3, ![1, 16384, 1024]⟩
abbrev S1x16384x512 : Shape := ⟨3, ![1, 16384, 512]⟩
abbrev S1x256x512 : Shape := ⟨3, ![1, 256, 512]⟩
abbrev S1x1024 : Shape := ⟨2, ![1, 1024]⟩
abbrev S1024x3072 : Shape := ⟨2, ![1024, 3072]⟩
abbrev S1x512x1024 : Shape := ⟨3, ![1, 512, 1024]⟩
abbrev S1x1024x1024 : Shape := ⟨3, ![1, 1024, 1024]⟩
abbrev S1024 : Shape := ⟨1, ![1024]⟩
abbrev S512x1024 : Shape := ⟨2, ![512, 1024]⟩
abbrev S1024x1024 : Shape := ⟨2, ![1024, 1024]⟩
abbrev S1x512x512 : Shape := ⟨3, ![1, 512, 512]⟩
abbrev S512 : Shape := ⟨1, ![512]⟩
abbrev S512x1 : Shape := ⟨2, ![512, 1]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512x512 : Shape := ⟨2, ![512, 512]⟩

abbrev nBuf : Space → Nat
  | .hbm => 24
  | .vmem => 18
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .bf16⟩
  | .hbm, ⟨2, _⟩ => ⟨S1x16384x512, .bf16⟩
  | .hbm, ⟨3, _⟩ => ⟨S1x16384x512, .bf16⟩
  | .hbm, ⟨4, _⟩ => ⟨S1x256x512, .bf16⟩
  | .hbm, ⟨5, _⟩ => ⟨S1x256x512, .bf16⟩
  | .hbm, ⟨6, _⟩ => ⟨S1x1024, .f32⟩
  | .hbm, ⟨7, _⟩ => ⟨S1024x3072, .f32⟩
  | .hbm, ⟨8, _⟩ => ⟨S1x512x1024, .f32⟩
  | .hbm, ⟨9, _⟩ => ⟨S1x512x1024, .f32⟩
  | .hbm, ⟨10, _⟩ => ⟨S1x512x1024, .f32⟩
  | .hbm, ⟨11, _⟩ => ⟨S1x1024x1024, .f32⟩
  | .hbm, ⟨12, _⟩ => ⟨S1024, .f32⟩
  | .hbm, ⟨13, _⟩ => ⟨S1x1024, .f32⟩
  | .hbm, ⟨14, _⟩ => ⟨S1024x3072, .bf16⟩
  | .hbm, ⟨15, _⟩ => ⟨S512x1024, .f32⟩
  | .hbm, ⟨16, _⟩ => ⟨S512x1024, .bf16⟩
  | .hbm, ⟨17, _⟩ => ⟨S512x1024, .f32⟩
  | .hbm, ⟨18, _⟩ => ⟨S512x1024, .bf16⟩
  | .hbm, ⟨19, _⟩ => ⟨S512x1024, .f32⟩
  | .hbm, ⟨20, _⟩ => ⟨S512x1024, .bf16⟩
  | .hbm, ⟨21, _⟩ => ⟨S1024x1024, .f32⟩
  | .hbm, ⟨22, _⟩ => ⟨S1024x1024, .bf16⟩
  | .hbm, ⟨23, _⟩ => ⟨S1x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x1024, .f32⟩
  | .local _ .vmem, ⟨11, _⟩ => ⟨S1024x3072, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x512x1024, .f32⟩
  | .local _ .vmem, ⟨17, _⟩ => ⟨S1x512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeRefIdeal.lean ====
abbrev S1x16384x1024 : Shape := ⟨3, ![1, 16384, 1024]⟩
abbrev S1x16384x512 : Shape := ⟨3, ![1, 16384, 512]⟩
abbrev S1x256x512 : Shape := ⟨3, ![1, 256, 512]⟩
abbrev S1x1024 : Shape := ⟨2, ![1, 1024]⟩
abbrev S1024x3072 : Shape := ⟨2, ![1024, 3072]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x3072 : Shape := ⟨3, ![1, 16384, 3072]⟩
abbrev S1x256x4x128 : Shape := ⟨4, ![1, 256, 4, 128]⟩
abbrev S1x16384x4x128 : Shape := ⟨4, ![1, 16384, 4, 128]⟩
abbrev S1x4x16384x256 : Shape := ⟨4, ![1, 4, 16384, 256]⟩
abbrev S1x4x16384 : Shape := ⟨3, ![1, 4, 16384]⟩
abbrev S1x4x16384x1 : Shape := ⟨4, ![1, 4, 16384, 1]⟩
abbrev S1x4x128x16384 : Shape := ⟨4, ![1, 4, 128, 16384]⟩
abbrev S512x1024 : Shape := ⟨2, ![512, 1024]⟩
abbrev S1x16384x3x1024 : Shape := ⟨4, ![1, 16384, 3, 1024]⟩
abbrev S1x16384x1x1024 : Shape := ⟨4, ![1, 16384, 1, 1024]⟩
abbrev S1024x1024 : Shape := ⟨2, ![1024, 1024]⟩

abbrev nBuf : Space → Nat
  | .hbm => 88
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .bf16⟩
  | .hbm, ⟨2, _⟩ => ⟨S1x16384x512, .bf16⟩
  | .hbm, ⟨3, _⟩ => ⟨S1x16384x512, .bf16⟩
  | .hbm, ⟨4, _⟩ => ⟨S1x256x512, .bf16⟩
  | .hbm, ⟨5, _⟩ => ⟨S1x256x512, .bf16⟩
  | .hbm, ⟨6, _⟩ => ⟨S1x1024, .f32⟩
  | .hbm, ⟨7, _⟩ => ⟨S1024x3072, .f32⟩
  | .hbm, ⟨8, _⟩ => ⟨S1x512x1024, .f32⟩
  | .hbm, ⟨9, _⟩ => ⟨S1x512x1024, .f32⟩
  | .hbm, ⟨10, _⟩ => ⟨S1x512x1024, .f32⟩
  | .hbm, ⟨11, _⟩ => ⟨S1x1024x1024, .f32⟩
  | .hbm, ⟨12, _⟩ => ⟨S1024, .f32⟩
  | .hbm, ⟨13, _⟩ => ⟨S1x16384x1024, .f32⟩
  | .hbm, ⟨14, _⟩ => ⟨S_, .f32⟩
  | .hbm, ⟨15, _⟩ => ⟨S1x16384, .f32⟩
  | .hbm, ⟨16, _⟩ => ⟨S1x16384x1, .f32⟩
  | .hbm, ⟨17, _⟩ => ⟨S_, .f32⟩
  | .hbm, ⟨18, _⟩ => ⟨S1x16384x1, .f32⟩
  | .hbm, ⟨19, _⟩ => ⟨S1x16384x1, .f32⟩
  | .hbm, ⟨20, _⟩ => ⟨S_, .f32⟩
  | .hbm, ⟨21, _⟩ => ⟨S1x16384x1, .f32⟩
  | .hbm, ⟨22, _⟩ => ⟨S1x16384x1, .f32⟩
  | .hbm, ⟨23, _⟩ => ⟨S1x16384x1, .f32⟩
  | .hbm, ⟨24, _⟩ => ⟨S1x16384x1024, .f32⟩
  | .hbm, ⟨25, _⟩ => ⟨S1x16384x1024, .f32⟩
  | .hbm, ⟨26, _⟩ => ⟨S1x1x1024, .f32⟩
  | .hbm, ⟨27, _⟩ => ⟨S1x16384x1024, .f32⟩
  | .hbm, ⟨28, _⟩ => ⟨S1x16384x1024, .f32⟩
  | .hbm, ⟨29, _⟩ => ⟨S1x16384x3072, .f32⟩
  | .hbm, ⟨30, _⟩ => ⟨S1x256x512, .f32⟩
  | .hbm, ⟨31, _⟩ => ⟨S1x256x4x128, .f32⟩
  | .hbm, ⟨32, _⟩ => ⟨S1x256x512, .f32⟩
  | .hbm, ⟨33, _⟩ => ⟨S1x256x4x128, .f32⟩
  | .hbm, ⟨34, _⟩ => ⟨S1x16384x512, .f32⟩
  | .hbm, ⟨35, _⟩ => ⟨S1x16384x4x128, .f32⟩
  | .hbm, ⟨36, _⟩ => ⟨S1x4x16384x256, .f32⟩
  | .hbm, ⟨37, _⟩ => ⟨S_, .f32⟩
  | .hbm, ⟨38, _⟩ => ⟨S1x4x16384x256, .f32⟩
  | .hbm, ⟨39, _⟩ => ⟨S1x4x16384x256, .f32⟩
  | .hbm, ⟨40, _⟩ => ⟨S_, .f32⟩
  | .hbm, ⟨41, _⟩ => ⟨S1x4x16384, .f32⟩
  | .hbm, ⟨42, _⟩ => ⟨S_, .f32⟩
  | .hbm, ⟨43, _⟩ => ⟨S1x4x16384, .f32⟩
  | .hbm, ⟨44, _⟩ => ⟨S1x4x16384, .f32⟩
  | .hbm, ⟨45, _⟩ => ⟨S1x4x16384x1, .f32⟩
  | .hbm, ⟨46, _⟩ => ⟨S1x4x16384x256, .f32⟩
  | .hbm, ⟨47, _⟩ => ⟨S1x4x16384x256, .f32⟩
  | .hbm, ⟨48, _⟩ => ⟨S1x4x16384x256, .f32⟩
  | .hbm, ⟨49, _⟩ => ⟨S_, .f32⟩
  | .hbm, ⟨50, _⟩ => ⟨S1x4x16384, .f32⟩
  | .hbm, ⟨51, _⟩ => ⟨S1x4x16384x1, .f32⟩
  | .hbm, ⟨52, _⟩ => ⟨S1x4x16384x256, .f32⟩
  | .hbm, ⟨53, _⟩ => ⟨S1x4x16384x256, .f32⟩
  | .hbm, ⟨54, _⟩ => ⟨S1x4x128x16384, .f32⟩
  | .hbm, ⟨55, _⟩ => ⟨S1x16384x4x128, .f32⟩
  | .hbm, ⟨56, _⟩ => ⟨S1x16384x512, .f32⟩
  | .hbm, ⟨57, _⟩ => ⟨S1x16384x512, .f32⟩
  | .hbm, ⟨58, _⟩ => ⟨S512x1024, .f32⟩
  | .hbm, ⟨59, _⟩ => ⟨S1x16384x1024, .f32⟩
  | .hbm, ⟨60, _⟩ => ⟨S1x16384x512, .f32⟩
  | .hbm, ⟨61, _⟩ => ⟨S512x1024, .f32⟩
  | .hbm, ⟨62, _⟩ => ⟨S1x16384x1024, .f32⟩
  | .hbm, ⟨63, _⟩ => ⟨S512x1024, .f32⟩
  | .hbm, ⟨64, _⟩ => ⟨S1x16384x1024, .f32⟩
  | .hbm, ⟨65, _⟩ => ⟨S1x16384x3x1024, .f32⟩
  | .hbm, ⟨66, _⟩ => ⟨S1x16384x3x1024, .f32⟩
  | .hbm, ⟨67, _⟩ => ⟨S1x16384x3x1024, .f32⟩
  | .hbm, ⟨68, _⟩ => ⟨S_, .f32⟩
  | .hbm, ⟨69, _⟩ => ⟨S1x16384x3x1024, .f32⟩
  | .hbm, ⟨70, _⟩ => ⟨S1x16384x3x1024, .f32⟩
  | .hbm, ⟨71, _⟩ => ⟨S_, .f32⟩
  | .hbm, ⟨72, _⟩ => ⟨S1x16384x3x1024, .f32⟩
  | .hbm, ⟨73, _⟩ => ⟨S1x16384x3x1024, .f32⟩
  | .hbm, ⟨74, _⟩ => ⟨S1x16384x1x1024, .f32⟩
  | .hbm, ⟨75, _⟩ => ⟨S1x16384x1024, .f32⟩
  | .hbm, ⟨76, _⟩ => ⟨S1x16384x1024, .f32⟩
  | .hbm, ⟨77, _⟩ => ⟨S1x16384x1x1024, .f32⟩
  | .hbm, ⟨78, _⟩ => ⟨S1x16384x1024, .f32⟩
  | .hbm, ⟨79, _⟩ => ⟨S1x16384x1024, .f32⟩
  | .hbm, ⟨80, _⟩ => ⟨S1x16384x1024, .f32⟩
  | .hbm, ⟨81, _⟩ => ⟨S1x16384x1x1024, .f32⟩
  | .hbm, ⟨82, _⟩ => ⟨S1x16384x1024, .f32⟩
  | .hbm, ⟨83, _⟩ => ⟨S1x16384x1024, .f32⟩
  | .hbm, ⟨84, _⟩ => ⟨S1x16384x1024, .f32⟩
  | .hbm, ⟨85, _⟩ => ⟨S1024x1024, .f32⟩
  | .hbm, ⟨86, _⟩ => ⟨S1x16384x1024, .f32⟩
  | .hbm, ⟨87, _⟩ => ⟨S1x16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_6 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]
-- ==== FinB.lean ====
abbrev S8x4096x1024 : Shape := ⟨3, ![8, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x5632 : Shape := ⟨2, ![1024, 5632]⟩
abbrev S2816x1024 : Shape := ⟨2, ![2816, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 13
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1024x5632, .f32⟩
  | .hbm, ⟨8, _⟩ => ⟨S1024x5632, .bf16⟩
  | .hbm, ⟨9, _⟩ => ⟨S2816x1024, .f32⟩
  | .hbm, ⟨10, _⟩ => ⟨S2816x1024, .bf16⟩
  | .hbm, ⟨11, _⟩ => ⟨S1x1024, .f32⟩
  | .hbm, ⟨12, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1x512x1024, .f32⟩
  | .local _ .vmem, ⟨7, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FinBRefIdeal.lean ====
abbrev S8x4096x1024 : Shape := ⟨3, ![8, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x5632 : Shape := ⟨2, ![1024, 5632]⟩
abbrev S2816x1024 : Shape := ⟨2, ![2816, 1024]⟩
abbrev S8x4096x5632 : Shape := ⟨3, ![8, 4096, 5632]⟩
abbrev S8x4096x2816 : Shape := ⟨3, ![8, 4096, 2816]⟩

abbrev nBuf : Space → Nat
  | .hbm => 58
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S1024x5632, .f32⟩
  | .hbm, ⟨23, _⟩ => ⟨S2816x1024, .f32⟩
  | .hbm, ⟨24, _⟩ => ⟨S8x4096x5632, .f32⟩
  | .hbm, ⟨25, _⟩ => ⟨S8x4096x2816, .f32⟩
  | .hbm, ⟨26, _⟩ => ⟨S8x4096x2816, .f32⟩
  | .hbm, ⟨27, _⟩ => ⟨S8x4096x2816, .f32⟩
  | .hbm, ⟨28, _⟩ => ⟨S8x4096x2816, .f32⟩
  | .hbm, ⟨29, _⟩ => ⟨S_, .f32⟩
  | .hbm, ⟨30, _⟩ => ⟨S8x4096x2816, .f32⟩
  | .hbm, ⟨31, _⟩ => ⟨S8x4096x2816, .f32⟩
  | .hbm, ⟨32, _⟩ => ⟨S_, .f32⟩
  | .hbm, ⟨33, _⟩ => ⟨S8x4096x2816, .f32⟩
  | .hbm, ⟨34, _⟩ => ⟨S8x4096x2816, .f32⟩
  | .hbm, ⟨35, _⟩ => ⟨S8x4096x2816, .f32⟩
  | .hbm, ⟨36, _⟩ => ⟨S8x4096x2816, .f32⟩
  | .hbm, ⟨37, _⟩ => ⟨S8x4096x1024, .f32⟩
  | .hbm, ⟨38, _⟩ => ⟨S_, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096, .f32⟩
  | .hbm, ⟨45, _⟩ => ⟨S8x4096x1, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S_, .f32⟩
  | .hbm, ⟨50, _⟩ => ⟨S8x4096x1, .f32⟩
  | .hbm, ⟨51, _⟩ => ⟨S8x4096x1, .f32⟩
  | .hbm, ⟨52, _⟩ => ⟨S8x4096x1, .f32⟩
  | .hbm, ⟨53, _⟩ => ⟨S8x4096x1024, .f32⟩
  | .hbm, ⟨54, _⟩ => ⟨S8x4096x1024, .f32⟩
  | .hbm, ⟨55, _⟩ => ⟨S1x1x1024, .f32⟩
  | .hbm, ⟨56, _⟩ => ⟨S8x4096x1024, .f32⟩
  | .hbm, ⟨57, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Memkv.lean ====
abbrev S1x256x1024 : Shape := ⟨3, ![1, 256, 1024]⟩
abbrev S1x1024 : Shape := ⟨2, ![1, 1024]⟩
abbrev S1x1024x1024 : Shape := ⟨3, ![1, 1024, 1024]⟩
abbrev S1024 : Shape := ⟨1, ![1024]⟩
abbrev S1024x1024 : Shape := ⟨2, ![1024, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩

abbrev nBuf : Space → Nat
  | .hbm => 9
  | .vmem => 5
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x1024x1024, .f32⟩
  | .hbm, ⟨3, _⟩ => ⟨S1024, .f32⟩
  | .hbm, ⟨4, _⟩ => ⟨S1x1024, .f32⟩
  | .hbm, ⟨5, _⟩ => ⟨S1024x1024, .f32⟩
  | .hbm, ⟨6, _⟩ => ⟨S1024x1024, .bf16⟩
  | .hbm, ⟨7, _⟩ => ⟨S1x256x512, .bf16⟩
  | .hbm, ⟨8, _⟩ => ⟨S1x256x512, .bf16⟩
  | .local _ .vmem, ⟨0, _⟩ => ⟨S1x256x1024, .f32⟩
  | .local _ .vmem, ⟨1, _⟩ => ⟨S1x1024, .f32⟩
  | .local _ .vmem, ⟨2, _⟩ => ⟨S1024x1024, .bf16⟩
  | .local _ .vmem, ⟨3, _⟩ => ⟨S1x256x512, .bf16⟩
  | .local _ .vmem, ⟨4, _⟩ => ⟨S1x256x512, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== MemkvRefIdeal.lean ====
abbrev S1x256x1024 : Shape := ⟨3, ![1, 256, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S1x256 : Shape := ⟨2, ![1, 256]⟩
abbrev S1x256x1 : Shape := ⟨3, ![1, 256, 1]⟩
abbrev S1x1x1024 : Shape := ⟨3, ![1, 1, 1024]⟩
abbrev S1024x1024 : Shape := ⟨2, ![1024, 1024]⟩
abbrev S1x256x512 : Shape := ⟨3, ![1, 256, 512]⟩

abbrev nBuf : Space → Nat
  | .hbm => 26
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x1024x1024, .f32⟩
  | .hbm, ⟨3, _⟩ => ⟨S1024, .f32⟩
  | .hbm, ⟨4, _⟩ => ⟨S1x256x1024, .f32⟩
  | .hbm, ⟨5, _⟩ => ⟨S_, .f32⟩
  | .hbm, ⟨6, _⟩ => ⟨S1x256, .f32⟩
  | .hbm, ⟨7, _⟩ => ⟨S1x256x1, .f32⟩
  | .hbm, ⟨8, _⟩ => ⟨S_, .f32⟩
  | .hbm, ⟨9, _⟩ => ⟨S1x256x1, .f32⟩
  | .hbm, ⟨10, _⟩ => ⟨S1x256x1, .f32⟩
  | .hbm, ⟨11, _⟩ => ⟨S_, .f32⟩
  | .hbm, ⟨12, _⟩ => ⟨S1x256x1, .f32⟩
  | .hbm, ⟨13, _⟩ => ⟨S1x256x1, .f32⟩
  | .hbm, ⟨14, _⟩ => ⟨S1x256x1, .f32⟩
  | .hbm, ⟨15, _⟩ => ⟨S1x256x1024, .f32⟩
  | .hbm, ⟨16, _⟩ => ⟨S1x256x1024, .f32⟩
  | .hbm, ⟨17, _⟩ => ⟨S1x1x1024, .f32⟩
  | .hbm, ⟨18, _⟩ => ⟨S1x256x1024, .f32⟩
  | .hbm, ⟨19, _⟩ => ⟨S1x256x1024, .f32⟩
  | .hbm, ⟨20, _⟩ => ⟨S1024x1024, .f32⟩
  | .hbm, ⟨21, _⟩ => ⟨S1x256x1024, .f32⟩
  | .hbm, ⟨22, _⟩ => ⟨S1x256x512, .f32⟩
  | .hbm, ⟨23, _⟩ => ⟨S1x256x512, .bf16⟩
  | .hbm, ⟨24, _⟩ => ⟨S1x256x512, .f32⟩
  | .hbm, ⟨25, _⟩ => ⟨S1x256x512, .bf16⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Inproj.lean ====
abbrev S1x16384x1024 : Shape := ⟨3, ![1, 16384, 1024]⟩
abbrev S1x1024 : Shape := ⟨2, ![1, 1024]⟩
abbrev S1x1024x5024 : Shape := ⟨3, ![1, 1024, 5024]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S1024x5024 : Shape := ⟨2, ![1024, 5024]⟩
abbrev S1024x512 : Shape := ⟨2, ![1024, 512]⟩
abbrev S1024x128 : Shape := ⟨2, ![1024, 128]⟩
abbrev S1024x384 : Shape := ⟨2, ![1024, 384]⟩
abbrev S1024x256 : Shape := ⟨2, ![1024, 256]⟩
abbrev S1024x32 : Shape := ⟨2, ![1024, 32]⟩
abbrev S1024x3072 : Shape := ⟨2, ![1024, 3072]⟩
abbrev S_ : Shape := ⟨0, ![]⟩
abbrev S1 : Shape := ⟨1, ![1]⟩
abbrev S1024x2048 : Shape := ⟨2, ![1024, 2048]⟩
abbrev S384x768 : Shape := ⟨2, ![384, 768]⟩
abbrev S384x8x96 : Shape := ⟨3, ![384, 8, 96]⟩
abbrev S384x8x128 : Shape := ⟨3, ![384, 8, 128]⟩
abbrev S384x1024 : Shape := ⟨2, ![384, 1024]⟩
abbrev S256x1024 : Shape := ⟨2, ![256, 1024]⟩
abbrev S256x8x128 : Shape := ⟨3, ![256, 8, 128]⟩
abbrev S256x8x64 : Shape := ⟨3, ![256, 8, 64]⟩
abbrev S256x512 : Shape := ⟨2, ![256, 512]⟩
abbrev S512x256 : Shape := ⟨2, ![512, 256]⟩
abbrev S32 : Shape := ⟨1, ![32]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S128 : Shape := ⟨1, ![128]⟩
abbrev S128x1 : Shape := ⟨2, ![128, 1]⟩
abbrev S16384x128 : Shape := ⟨2, ![16384, 128]⟩
abbrev S1x128 : Shape := ⟨2, ![1, 128]⟩
abbrev S1x16384x128 : Shape := ⟨3, ![1, 16384, 128]⟩
abbrev S3x16384x128 : Shape := ⟨3, ![3, 16384, 128]⟩
abbrev S16 : Shape := ⟨1, ![16]⟩
abbrev S1x16 : Shape := ⟨2, ![1, 16]⟩
abbrev S16384x16 : Shape := ⟨2, ![16384, 16]⟩
abbrev S1024 : Shape := ⟨1, ![1024]⟩
abbrev S384 : Shape := ⟨1, ![384]⟩
abbrev S256 : Shape := ⟨1, ![256]⟩
abbrev S1x16384x512 : Shape := ⟨3, ![1, 16384, 512]⟩
abbrev S1x64x512x256 : Shape := ⟨4, ![1, 64, 512, 256]⟩
abbrev S1x512x1024 : Shape := ⟨3, ![1, 512, 1024]⟩
abbrev S3x512x128 : Shape := ⟨3, ![3, 512, 128]⟩
abbrev S1x512x512 : Shape := ⟨3, ![1, 512, 512]⟩
abbrev S1x512x128 : Shape := ⟨3, ![1, 512, 128]⟩
abbrev S1x2x512x256 : Shape := ⟨4, ![1, 2, 512, 256]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S512x128 : Shape := ⟨2, ![512, 128]⟩
abbrev S512x512 : Shape := ⟨2, ![512, 512]⟩
abbrev S512x384 : Shape := ⟨2, ![512, 384]⟩
abbrev S1x1x512x256 : Shape := ⟨4, ![1, 1, 512, 256]⟩

abbrev nBuf : Space → Nat
  | .hbm => 294
  | .vmem => 27
  | .smem => 0
  | _ => 0

abbrev hbmTy0_0 (i : Nat) : BufTy := match i % 128 with
  | 0 => ⟨S1x16384x1024, .f32⟩
  | 1 => ⟨S1x1024, .f32⟩
  | 2 => ⟨S1x1024x5024, .f32⟩
  | 3 => ⟨S1x384, .f32⟩
  | 4 => ⟨S1x384x768, .f32⟩
  | 5 => ⟨S1x256, .f32⟩
  | 6 => ⟨S1x256x1024, .f32⟩
  | 7 => ⟨S1024x5024, .f32⟩
  | 8 => ⟨S1024x512, .f32⟩
  | 9 => ⟨S1024x5024, .f32⟩
  | 10 => ⟨S1024x128, .f32⟩
  | 11 => ⟨S1024x5024, .f32⟩
  | 12 => ⟨S1024x128, .f32⟩
  | 13 => ⟨S1024x5024, .f32⟩
  | 14 => ⟨S1024x384, .f32⟩
  | 15 => ⟨S1024x5024, .f32⟩
  | 16 => ⟨S1024x256, .f32⟩
  | 17 => ⟨S1024x5024, .f32⟩
  | 18 => ⟨S1024x32, .f32⟩
  | 19 => ⟨S1024x5024, .f32⟩
  | 20 => ⟨S1024x512, .f32⟩
  | 21 => ⟨S1024x5024, .f32⟩
  | 22 => ⟨S1024x3072, .f32⟩
  | 23 => ⟨S_, .f32⟩
  | 24 => ⟨S1024x128, .f32⟩
  | 25 => ⟨S_, .i32⟩
  | 26 => ⟨S1, .i32⟩
  | 27 => ⟨S1024x128, .f32⟩
  | 28 => ⟨S1024x2048, .f32⟩
  | 29 => ⟨S1024x2048, .bf16⟩
  | 30 => ⟨S384x768, .f32⟩
  | 31 => ⟨S384x8x96, .f32⟩
  | 32 => ⟨S_, .i32⟩
  | 33 => ⟨S_, .f32⟩
  | 34 => ⟨S384x8x128, .f32⟩
  | 35 => ⟨S384x1024, .f32⟩
  | 36 => ⟨S384x1024, .bf16⟩
  | 37 => ⟨S256x1024, .f32⟩
  | 38 => ⟨S256x8x128, .f32⟩
  | 39 => ⟨S256x8x64, .f32⟩
  | 40 => ⟨S_, .i32⟩
  | 41 => ⟨S_, .f32⟩
  | 42 => ⟨S256x8x128, .f32⟩
  | 43 => ⟨S256x1024, .f32⟩
  | 44 => ⟨S256x1024, .bf16⟩
  | 45 => ⟨S256x8x64, .f32⟩
  | 46 => ⟨S256x512, .f32⟩
  | 47 => ⟨S512x256, .f32⟩
  | 48 => ⟨S512x256, .bf16⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S16384, .f32⟩
  | 64 => ⟨S16384x1, .f32⟩
  | 65 => ⟨S1x32, .f32⟩
  | 66 => ⟨S16384x32, .f32⟩
  | 67 => ⟨S16384x32, .f32⟩
  | 68 => ⟨S16384x32, .f32⟩
  | 69 => ⟨S16384x32, .f32⟩
  | 70 => ⟨S16384x32, .f32⟩
  | 71 => ⟨S128, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S128, .i32⟩
  | 79 => ⟨S128, .i32⟩
  | 80 => ⟨S_, .i32⟩
  | 81 => ⟨S128, .i32⟩
  | 82 => ⟨S128, .i1⟩
  | 83 => ⟨S_, .i32⟩
  | 84 => ⟨S128, .i32⟩
  | 85 => ⟨S128, .i1⟩
  | 86 => ⟨S_, .i32⟩
  | 87 => ⟨S_, .i1⟩
  | 88 => ⟨S128, .i1⟩
  | 89 => ⟨S128, .i1⟩
  | 90 => ⟨S128, .i1⟩
  | 91 => ⟨S128, .i32⟩
  | 92 => ⟨S128, .i32⟩
  | 93 => ⟨S128, .i32⟩
  | 94 => ⟨S_, .i32⟩
  | 95 => ⟨S128, .i32⟩
  | 96 => ⟨S128, .i32⟩
  | 97 => ⟨S_, .i32⟩
  | 98 => ⟨S128, .i32⟩
  | 99 => ⟨S128, .i1⟩
  | 100 => ⟨S_, .i32⟩
  | 101 => ⟨S128, .i32⟩
  | 102 => ⟨S128, .i1⟩
  | 103 => ⟨S128, .i1⟩
  | 104 => ⟨S_, .i32⟩
  | 105 => ⟨S128, .i32⟩
  | 106 => ⟨S128, .i1⟩
  | 107 => ⟨S_, .i32⟩
  | 108 => ⟨S128, .i32⟩
  | 109 => ⟨S128, .i1⟩
  | 110 => ⟨S128, .i1⟩
  | 111 => ⟨S_, .i32⟩
  | 112 => ⟨S128, .i32⟩
  | 113 => ⟨S128, .i32⟩
  | 114 => ⟨S128, .i32⟩
  | 115 => ⟨S_, .i32⟩
  | 116 => ⟨S_, .i32⟩
  | 117 => ⟨S_, .i32⟩
  | 118 => ⟨S128, .i32⟩
  | 119 => ⟨S128, .i32⟩
  | 120 => ⟨S_, .i32⟩
  | 121 => ⟨S128, .i32⟩
  | 122 => ⟨S128, .i32⟩
  | 123 => ⟨S_, .i32⟩
  | 124 => ⟨S128, .i32⟩
  | 125 => ⟨S128, .i1⟩
  | 126 => ⟨S_, .i32⟩
  | 127 => ⟨S128, .i32⟩
  | _ => ⟨S1x16384x1024, .f32⟩

abbrev hbmTy0_1 (i : Nat) : BufTy := match i % 128 with
  | 0 => ⟨S128, .i32⟩
  | 1 => ⟨S128, .i32⟩
  | 2 => ⟨S128x1, .i32⟩
  | 3 => ⟨S16384x128, .f32⟩
  | 4 => ⟨S_, .i32⟩
  | 5 => ⟨S128, .i32⟩
  | 6 => ⟨S128, .i1⟩
  | 7 => ⟨S_, .i32⟩
  | 8 => ⟨S128, .i32⟩
  | 9 => ⟨S128, .i32⟩
  | 10 => ⟨S128, .i32⟩
  | 11 => ⟨S128x1, .i32⟩
  | 12 => ⟨S16384x128, .f32⟩
  | 13 => ⟨S128, .i1⟩
  | 14 => ⟨S1x128, .i1⟩
  | 15 => ⟨S_, .f32⟩
  | 16 => ⟨S_, .f32⟩
  | 17 => ⟨S16384x128, .i1⟩
  | 18 => ⟨S16384x128, .f32⟩
  | 19 => ⟨S16384x128, .f32⟩
  | 20 => ⟨S1x128, .i1⟩
  | 21 => ⟨S16384x128, .f32⟩
  | 22 => ⟨S_, .f32⟩
  | 23 => ⟨S_, .f32⟩
  | 24 => ⟨S16384x128, .i1⟩
  | 25 => ⟨S16384x128, .f32⟩
  | 26 => ⟨S16384x128, .f32⟩
  | 27 => ⟨S1x128, .i1⟩
  | 28 => ⟨S_, .f32⟩
  | 29 => ⟨S_, .f32⟩
  | 30 => ⟨S16384x128, .i1⟩
  | 31 => ⟨S16384x128, .f32⟩
  | 32 => ⟨S16384x128, .f32⟩
  | 33 => ⟨S1x16384x128, .f32⟩
  | 34 => ⟨S1x16384x128, .f32⟩
  | 35 => ⟨S1x16384x128, .f32⟩
  | 36 => ⟨S3x16384x128, .f32⟩
  | 37 => ⟨S16, .f32⟩
  | 38 => ⟨S_, .f32⟩
  | 39 => ⟨S16, .f32⟩
  | 40 => ⟨S16, .f32⟩
  | 41 => ⟨S_, .f32⟩
  | 42 => ⟨S16, .f32⟩
  | 43 => ⟨S16, .f32⟩
  | 44 => ⟨S16, .f32⟩
  | 45 => ⟨S_, .f32⟩
  | 46 => ⟨S16, .f32⟩
  | 47 => ⟨S16, .f32⟩
  | 48 => ⟨S_, .f32⟩
  | 49 => ⟨S16, .f32⟩
  | 50 => ⟨S16, .f32⟩
  | 51 => ⟨S16384, .f32⟩
  | 52 => ⟨S16384x1, .f32⟩
  | 53 => ⟨S1x16, .f32⟩
  | 54 => ⟨S16384x16, .f32⟩
  | 55 => ⟨S16384x16, .f32⟩
  | 56 => ⟨S16384x16, .f32⟩
  | 57 => ⟨S16384x16, .f32⟩
  | 58 => ⟨S16384x16, .f32⟩
  | 59 => ⟨S128, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S128, .i32⟩
  | 67 => ⟨S128, .i32⟩
  | 68 => ⟨S_, .i32⟩
  | 69 => ⟨S128, .i32⟩
  | 70 => ⟨S128, .i1⟩
  | 71 => ⟨S_, .i32⟩
  | 72 => ⟨S128, .i32⟩
  | 73 => ⟨S128, .i1⟩
  | 74 => ⟨S_, .i32⟩
  | 75 => ⟨S_, .i1⟩
  | 76 => ⟨S128, .i1⟩
  | 77 => ⟨S128, .i1⟩
  | 78 => ⟨S128, .i1⟩
  | 79 => ⟨S128, .i32⟩
  | 80 => ⟨S128, .i32⟩
  | 81 => ⟨S128, .i32⟩
  | 82 => ⟨S_, .i32⟩
  | 83 => ⟨S128, .i32⟩
  | 84 => ⟨S128, .i32⟩
  | 85 => ⟨S_, .i32⟩
  | 86 => ⟨S128, .i32⟩
  | 87 => ⟨S128, .i1⟩
  | 88 => ⟨S_, .i32⟩
  | 89 => ⟨S128, .i32⟩
  | 90 => ⟨S128, .i1⟩
  | 91 => ⟨S128, .i1⟩
  | 92 => ⟨S_, .i32⟩
  | 93 => ⟨S128, .i32⟩
  | 94 => ⟨S128, .i1⟩
  | 95 => ⟨S_, .i32⟩
  | 96 => ⟨S128, .i32⟩
  | 97 => ⟨S128, .i1⟩
  | 98 => ⟨S128, .i1⟩
  | 99 => ⟨S_, .i32⟩
  | 100 => ⟨S128, .i32⟩
  | 101 => ⟨S128, .i32⟩
  | 102 => ⟨S128, .i32⟩
  | 103 => ⟨S_, .i32⟩
  | 104 => ⟨S_, .i32⟩
  | 105 => ⟨S_, .i32⟩
  | 106 => ⟨S128, .i32⟩
  | 107 => ⟨S128, .i32⟩
  | 108 => ⟨S_, .i32⟩
  | 109 => ⟨S128, .i32⟩
  | 110 => ⟨S128, .i32⟩
  | 111 => ⟨S_, .i32⟩
  | 112 => ⟨S128, .i32⟩
  | 113 => ⟨S128, .i1⟩
  | 114 => ⟨S_, .i32⟩
  | 115 => ⟨S128, .i32⟩
  | 116 => ⟨S128, .i32⟩
  | 117 => ⟨S128, .i32⟩
  | 118 => ⟨S128x1, .i32⟩
  | 119 => ⟨S16384x128, .f32⟩
  | 120 => ⟨S_, .i32⟩
  | 121 => ⟨S128, .i32⟩
  | 122 => ⟨S128, .i1⟩
  | 123 => ⟨S_, .i32⟩
  | 124 => ⟨S128, .i32⟩
  | 125 => ⟨S128, .i32⟩
  | 126 => ⟨S128, .i32⟩
  | 127 => ⟨S128x1, .i32⟩
  | _ => ⟨S1x16384x1024, .f32⟩

abbrev hbmTy0_2 (i : Nat) : BufTy := match i % 128 with
  | 0 => ⟨S16384x128, .f32⟩
  | 1 => ⟨S128, .i1⟩
  | 2 => ⟨S1x128, .i1⟩
  | 3 => ⟨S_, .f32⟩
  | 4 => ⟨S_, .f32⟩
  | 5 => ⟨S16384x128, .i1⟩
  | 6 => ⟨S16384x128, .f32⟩
  | 7 => ⟨S16384x128, .f32⟩
  | 8 => ⟨S1x128, .i1⟩
  | 9 => ⟨S16384x128, .f32⟩
  | 10 => ⟨S_, .f32⟩
  | 11 => ⟨S_, .f32⟩
  | 12 => ⟨S16384x128, .i1⟩
  | 13 => ⟨S16384x128, .f32⟩
  | 14 => ⟨S16384x128, .f32⟩
  | 15 => ⟨S1x128, .i1⟩
  | 16 => ⟨S_, .f32⟩
  | 17 => ⟨S_, .f32⟩
  | 18 => ⟨S16384x128, .i1⟩
  | 19 => ⟨S16384x128, .f32⟩
  | 20 => ⟨S16384x128, .f32⟩
  | 21 => ⟨S1x16384x128, .f32⟩
  | 22 => ⟨S1x16384x128, .f32⟩
  | 23 => ⟨S1x16384x128, .f32⟩
  | 24 => ⟨S3x16384x128, .f32⟩
  | 25 => ⟨S1024, .f32⟩
  | 26 => ⟨S1x1024, .f32⟩
  | 27 => ⟨S384, .f32⟩
  | 28 => ⟨S1x384, .f32⟩
  | 29 => ⟨S256, .f32⟩
  | 30 => ⟨S1x256, .f32⟩
  | 31 => ⟨S1x16384x512, .bf16⟩
  | 32 => ⟨S1x16384x128, .bf16⟩
  | 33 => ⟨S1x16384x128, .bf16⟩
  | 34 => ⟨S1x16384x1024, .bf16⟩
  | 35 => ⟨S1x16384x1024, .bf16⟩
  | 36 => ⟨S1x64x512x256, .bf16⟩
  | 37 => ⟨S1x16384x512, .bf16⟩
  | _ => ⟨S1x16384x1024, .f32⟩

abbrev hbmTy (i : Nat) : BufTy := match i / 128 with
  | 0 => hbmTy0_0 i
  | 1 => hbmTy0_1 i
  | 2 => hbmTy0_2 i
  | _ => ⟨S1x16384x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2048, .bf16⟩
  | .local _ .vmem, ⟨4, _⟩ => ⟨S3x512x128, .f32⟩
  | .local _ .vmem, ⟨5, _⟩ => ⟨S3x512x128, .f32⟩
  | .local _ .vmem, ⟨6, _⟩ => ⟨S3x512x128, .f32⟩
  | .local _ .vmem, ⟨7, _⟩ => ⟨S3x512x128, .f32⟩
  | .local _ .vmem, ⟨8, _⟩ => ⟨S1x384, .f32⟩
  | .local _ .vmem, ⟨9, _⟩ => ⟨S384x1024, .bf16⟩
  | .local _ .vmem, ⟨10, _⟩ => ⟨S1x256, .f32⟩
  | .local _ .vmem, ⟨11, _⟩ => ⟨S256x1024, .bf16⟩
  | .local _ .vmem, ⟨12, _⟩ => ⟨S512x256, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x128, .bf16⟩
  | .local _ .vmem, ⟨16, _⟩ => ⟨S1x512x128, .bf16⟩
  | .local _ .vmem, ⟨17, _⟩ => ⟨S1x512x128, .bf16⟩
  | .local _ .vmem, ⟨18, _⟩ => ⟨S1x512x128, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x2x512x256, .bf16⟩
  | .local _ .vmem, ⟨24, _⟩ => ⟨S1x2x512x256, .bf16⟩
  | .local _ .vmem, ⟨25, _⟩ => ⟨S1x512x512, .bf16⟩
  | .local _ .vmem, ⟨26, _⟩ => ⟨S1x512x512, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_0 : Ref sig .tc := ⟨.hbm, 32, rfl⟩
abbrev main_call0_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_1 : Ref sig .tc := ⟨.hbm, 40, rfl⟩
abbrev main_call1_v0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_2 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_6 : Ref sig .tc := ⟨.hbm, 72, rfl⟩
abbrev main_call2_v0 : Ref sig .tc := ⟨.hbm, 73, rfl⟩
abbrev main_call2_c : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_c_1 : Ref sig .tc := ⟨.hbm, 80, rfl⟩
abbrev main_call2_v5 : Ref sig .tc := ⟨.hbm, 81, rfl⟩
abbrev main_call2_v6 : Ref sig .tc := ⟨.hbm, 82, rfl⟩
abbrev main_call2_c_2 : Ref sig .tc := ⟨.hbm, 83, rfl⟩
abbrev main_call2_v7 : Ref sig .tc := ⟨.hbm, 84, rfl⟩
abbrev main_call2_v8 : Ref sig .tc := ⟨.hbm, 85, rfl⟩
abbrev main_call2_c_3 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_v55 : Ref sig .tc := ⟨.hbm, 93, rfl⟩
abbrev main_c_7 : Ref sig .tc := ⟨.hbm, 94, rfl⟩
abbrev main_v56 : Ref sig .tc := ⟨.hbm, 95, rfl⟩
abbrev main_v57 : Ref sig .tc := ⟨.hbm, 96, rfl⟩
abbrev main_c_8 : Ref sig .tc := ⟨.hbm, 97, rfl⟩
abbrev main_v58 : Ref sig .tc := ⟨.hbm, 98, rfl⟩
abbrev main_v59 : Ref sig .tc := ⟨.hbm, 99, rfl⟩
abbrev main_c_9 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_c_10 : Ref sig .tc := ⟨.hbm, 104, rfl⟩
abbrev main_v63 : Ref sig .tc := ⟨.hbm, 105, rfl⟩
abbrev main_v64 : Ref sig .tc := ⟨.hbm, 106, rfl⟩
abbrev main_c_11 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_c_12 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_c_13 : Ref sig .tc := ⟨.hbm, 115, rfl⟩
abbrev main_c_14 : Ref sig .tc := ⟨.hbm, 116, rfl⟩
abbrev main_call4_v0 : Ref sig .tc := ⟨.hbm, 117, rfl⟩
abbrev main_call4_v1 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_v71 : Ref sig .tc := ⟨.hbm, 122, rfl⟩
abbrev main_c_15 : Ref sig .tc := ⟨.hbm, 123, rfl⟩
abbrev main_v72 : Ref sig .tc := ⟨.hbm, 124, rfl⟩
abbrev main_v73 : Ref sig .tc := ⟨.hbm, 125, rfl⟩
abbrev main_c_16 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_c_17 : Ref sig .tc := ⟨.hbm, 132, rfl⟩
abbrev main_v79 : Ref sig .tc := ⟨.hbm, 133, rfl⟩
abbrev main_v80 : Ref sig .tc := ⟨.hbm, 134, rfl⟩
abbrev main_c_18 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_cst_19 : Ref sig .tc := ⟨.hbm, 143, rfl⟩
abbrev main_call5_v0 : Ref sig .tc := ⟨.hbm, 144, rfl⟩
abbrev main_call5_v1 : Ref sig .tc := ⟨.hbm, 145, rfl⟩
abbrev main_call5_v2 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_cst_20 : Ref sig .tc := ⟨.hbm, 150, rfl⟩
abbrev main_call6_v0 : Ref sig .tc := ⟨.hbm, 151, rfl⟩
abbrev main_call6_v1 : Ref sig .tc := ⟨.hbm, 152, rfl⟩
abbrev main_call6_v2 : Ref sig .tc := ⟨.hbm, 153, rfl⟩
abbrev main_v91 : Ref sig .tc := ⟨.hbm, 154, rfl⟩
abbrev main_v92 : Ref sig .tc := ⟨.hbm, 155, rfl⟩
abbrev main_cst_21 : Ref sig .tc := ⟨.hbm, 156, rfl⟩
abbrev main_call7_v0 : Ref sig .tc := ⟨.hbm, 157, rfl⟩
abbrev main_call7_v1 : Ref sig .tc := ⟨.hbm, 158, rfl⟩
abbrev main_call7_v2 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_cst_22 : Ref sig .tc := ⟨.hbm, 166, rfl⟩
abbrev main_v99 : Ref sig .tc := ⟨.hbm, 167, rfl⟩
abbrev main_v100 : Ref sig .tc := ⟨.hbm, 168, rfl⟩
abbrev main_cst_23 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_cst_24 : Ref sig .tc := ⟨.hbm, 173, rfl⟩
abbrev main_v104 : Ref sig .tc := ⟨.hbm, 174, rfl⟩
abbrev main_v105 : Ref sig .tc := ⟨.hbm, 175, rfl⟩
abbrev main_cst_25 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_c_26 : Ref sig .tc := ⟨.hbm, 188, rfl⟩
abbrev main_call8_v0 : Ref sig .tc := ⟨.hbm, 189, rfl⟩
abbrev main_call8_c : Ref sig .tc := ⟨.hbm, 190, rfl⟩
abbrev main_call8_v1 : Ref sig .tc := ⟨.hbm, 191, rfl⟩
abbrev main_call8_c_0 : Ref sig .tc := ⟨.hbm, 192, rfl⟩
abbrev main_call8_v2 : Ref sig .tc := ⟨.hbm, 193, rfl⟩
abbrev main_call8_v3 : Ref sig .tc := ⟨.hbm, 194, rfl⟩
abbrev main_call8_v4 : Ref sig .tc := ⟨.hbm, 195, rfl⟩
abbrev main_call8_c_1 : Ref sig .tc := ⟨.hbm, 196, rfl⟩
abbrev main_call8_v5 : Ref sig .tc := ⟨.hbm, 197, rfl⟩
abbrev main_call8_v6 : Ref sig .tc := ⟨.hbm, 198, rfl⟩
abbrev main_call8_c_2 : Ref sig .tc := ⟨.hbm, 199, rfl⟩
abbrev main_call8_v7 : Ref sig .tc := ⟨.hbm, 200, rfl⟩
abbrev main_call8_v8 : Ref sig .tc := ⟨.hbm, 201, rfl⟩
abbrev main_call8_c_3 : Ref sig .tc := ⟨.hbm, 202, rfl⟩
abbrev main_call8_v9 : Ref sig .tc := ⟨.hbm, 203, rfl⟩
abbrev main_call8_v10 : Ref sig .tc := ⟨.hbm, 204, rfl⟩
abbrev main_call8_v11 : Ref sig .tc := ⟨.hbm, 205, rfl⟩
abbrev main_call8_v12 : Ref sig .tc := ⟨.hbm, 206, rfl⟩
abbrev main_call8_v13 : Ref sig .tc := ⟨.hbm, 207, rfl⟩
abbrev main_call8_v14 : Ref sig .tc := ⟨.hbm, 208, rfl⟩
abbrev main_v117 : Ref sig .tc := ⟨.hbm, 209, rfl⟩
abbrev main_c_27 : Ref sig .tc := ⟨.hbm, 210, rfl⟩
abbrev main_v118 : Ref sig .tc := ⟨.hbm, 211, rfl⟩
abbrev main_v119 : Ref sig .tc := ⟨.hbm, 212, rfl⟩
abbrev main_c_28 : Ref sig .tc := ⟨.hbm, 213, rfl⟩
abbrev main_v120 : Ref sig .tc := ⟨.hbm, 214, rfl⟩
abbrev main_v121 : Ref sig .tc := ⟨.hbm, 215, rfl⟩
abbrev main_c_29 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_c_30 : Ref sig .tc := ⟨.hbm, 220, rfl⟩
abbrev main_v125 : Ref sig .tc := ⟨.hbm, 221, rfl⟩
abbrev main_v126 : Ref sig .tc := ⟨.hbm, 222, rfl⟩
abbrev main_c_31 : Ref sig .tc := ⟨.hbm, 223, rfl⟩
abbrev main_v127 : Ref sig .tc := ⟨.hbm, 224, rfl⟩
abbrev main_v128 : Ref sig .tc := ⟨.hbm, 225, rfl⟩
abbrev main_v129 : Ref sig .tc := ⟨.hbm, 226, rfl⟩
abbrev main_c_32 : Ref sig .tc := ⟨.hbm, 227, rfl⟩
abbrev main_v130 : Ref sig .tc := ⟨.hbm, 228, rfl⟩
abbrev main_v131 : Ref sig .tc := ⟨.hbm, 229, rfl⟩
abbrev main_v132 : Ref sig .tc := ⟨.hbm, 230, rfl⟩
abbrev main_c_33 : Ref sig .tc := ⟨.hbm, 231, rfl⟩
abbrev main_c_34 : Ref sig .tc := ⟨.hbm, 232, rfl⟩
abbrev main_call10_v0 : Ref sig .tc := ⟨.hbm, 233, rfl⟩
abbrev main_call10_v1 : Ref sig .tc := ⟨.hbm, 234, rfl⟩
abbrev main_call10_v2 : Ref sig .tc := ⟨.hbm, 235, rfl⟩
abbrev main_call10_v3 : Ref sig .tc := ⟨.hbm, 236, rfl⟩
abbrev main_call10_v4 : Ref sig .tc := ⟨.hbm, 237, rfl⟩
abbrev main_v133 : Ref sig .tc := ⟨.hbm, 238, rfl⟩
abbrev main_c_35 : Ref sig .tc := ⟨.hbm, 239, rfl⟩
abbrev main_v134 : Ref sig .tc := ⟨.hbm, 240, rfl⟩
abbrev main_v135 : Ref sig .tc := ⟨.hbm, 241, rfl⟩
abbrev main_c_36 : Ref sig .tc := ⟨.hbm, 242, rfl⟩
abbrev main_v136 : Ref sig .tc := ⟨.hbm, 243, rfl⟩
abbrev main_v137 : Ref sig .tc := ⟨.hbm, 244, rfl⟩
abbrev main_v138 : Ref sig .tc := ⟨.hbm, 245, rfl⟩
abbrev main_v139 : Ref sig .tc := ⟨.hbm, 246, rfl⟩
abbrev main_v140 : Ref sig .tc := ⟨.hbm, 247, rfl⟩
abbrev main_c_37 : Ref sig .tc := ⟨.hbm, 248, rfl⟩
abbrev main_v141 : Ref sig .tc := ⟨.hbm, 249, rfl⟩
abbrev main_v142 : Ref sig .tc := ⟨.hbm, 250, rfl⟩
abbrev main_c_38 : Ref sig .tc := ⟨.hbm, 251, rfl⟩
abbrev main_v143 : Ref sig .tc := ⟨.hbm, 252, rfl⟩
abbrev main_v144 : Ref sig .tc := ⟨.hbm, 253, rfl⟩
abbrev main_v145 : Ref sig .tc := ⟨.hbm, 254, rfl⟩
abbrev main_v146 : Ref sig .tc := ⟨.hbm, 255, rfl⟩
abbrev main_v147 : Ref sig .tc := ⟨.hbm, 256, rfl⟩
abbrev main_v148 : Ref sig .tc := ⟨.hbm, 257, rfl⟩
abbrev main_v149 : Ref sig .tc := ⟨.hbm, 258, rfl⟩
abbrev main_cst_39 : Ref sig .tc := ⟨.hbm, 259, rfl⟩
abbrev main_call11_v0 : Ref sig .tc := ⟨.hbm, 260, rfl⟩
abbrev main_call11_v1 : Ref sig .tc := ⟨.hbm, 261, rfl⟩
abbrev main_call11_v2 : Ref sig .tc := ⟨.hbm, 262, rfl⟩
abbrev main_v150 : Ref sig .tc := ⟨.hbm, 263, rfl⟩
abbrev main_v151 : Ref sig .tc := ⟨.hbm, 264, rfl⟩
abbrev main_v152 : Ref sig .tc := ⟨.hbm, 265, rfl⟩
abbrev main_cst_40 : Ref sig .tc := ⟨.hbm, 266, rfl⟩
abbrev main_call12_v0 : Ref sig .tc := ⟨.hbm, 267, rfl⟩
abbrev main_call12_v1 : Ref sig .tc := ⟨.hbm, 268, rfl⟩
abbrev main_call12_v2 : Ref sig .tc := ⟨.hbm, 269, rfl⟩
abbrev main_v153 : Ref sig .tc := ⟨.hbm, 270, rfl⟩
abbrev main_v154 : Ref sig .tc := ⟨.hbm, 271, rfl⟩
abbrev main_cst_41 : Ref sig .tc := ⟨.hbm, 272, rfl⟩
abbrev main_call13_v0 : Ref sig .tc := ⟨.hbm, 273, rfl⟩
abbrev main_call13_v1 : Ref sig .tc := ⟨.hbm, 274, rfl⟩
abbrev main_call13_v2 : Ref sig .tc := ⟨.hbm, 275, rfl⟩
abbrev main_v155 : Ref sig .tc := ⟨.hbm, 276, rfl⟩
abbrev main_v156 : Ref sig .tc := ⟨.hbm, 277, rfl⟩
abbrev main_v157 : Ref sig .tc := ⟨.hbm, 278, rfl⟩
abbrev main_v158 : Ref sig .tc := ⟨.hbm, 279, rfl⟩
abbrev main_v159 : Ref sig .tc := ⟨.hbm, 280, rfl⟩
abbrev main_v160 : Ref sig .tc := ⟨.hbm, 281, rfl⟩
abbrev main_v161 : Ref sig .tc := ⟨.hbm, 282, rfl⟩
abbrev main_v162 : Ref sig .tc := ⟨.hbm, 283, rfl⟩
abbrev main_v163 : Ref sig .tc := ⟨.hbm, 284, rfl⟩
abbrev main_v164 : Ref sig .tc := ⟨.hbm, 285, rfl⟩
abbrev main_v165 : Ref sig .tc := ⟨.hbm, 286, rfl⟩
abbrev main_v166_0 : Ref sig .tc := ⟨.hbm, 287, rfl⟩
abbrev main_v166_1 : Ref sig .tc := ⟨.hbm, 288, rfl⟩
abbrev main_v166_2 : Ref sig .tc := ⟨.hbm, 289, rfl⟩
abbrev main_v166_3 : Ref sig .tc := ⟨.hbm, 290, rfl⟩
abbrev main_v166_4 : Ref sig .tc := ⟨.hbm, 291, rfl⟩
abbrev main_v166_5 : Ref sig .tc := ⟨.hbm, 292, rfl⟩
abbrev main_v166_6 : Ref sig .tc := ⟨.hbm, 293, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S3x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== InprojRefIdeal.lean ====
abbrev S1x16384x1024 : Shape := ⟨3, ![1, 16384, 1024]⟩
abbrev S1x1024 : Shape := ⟨2, ![1, 1024]⟩
abbrev S1x1024x5024 : Shape := ⟨3, ![1, 1024, 5024]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x5024 : Shape := ⟨2, ![1024, 5024]⟩
abbrev S1x16384x5024 : Shape := ⟨3, ![1, 16384, 5024]⟩
abbrev S1x16384x512 : Shape := ⟨3, ![1, 16384, 512]⟩
abbrev S1x16384x128 : Shape := ⟨3, ![1, 16384, 128]⟩
abbrev S1x16384x384 : Shape := ⟨3, ![1, 16384, 384]⟩
abbrev S1x16384x256 : Shape := ⟨3, ![1, 16384, 256]⟩
abbrev S1x16384x32 : Shape := ⟨3, ![1, 16384, 32]⟩
abbrev S1x16384x8x64 : Shape := ⟨4, ![1, 16384, 8, 64]⟩
abbrev S32 : Shape := ⟨1, ![32]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S16384x1x32 : Shape := ⟨3, ![16384, 1, 32]⟩
abbrev S1x16384x8x32 : Shape := ⟨4, ![1, 16384, 8, 32]⟩
abbrev S1x16384x1x32 : Shape := ⟨4, ![1, 16384, 1, 32]⟩
abbrev S1x16384x2x64 : Shape := ⟨4, ![1, 16384, 2, 64]⟩
abbrev S1x16384x2x32 : Shape := ⟨4, ![1, 16384, 2, 32]⟩
abbrev S384 : Shape := ⟨1, ![384]⟩
abbrev S1x1x384 : Shape := ⟨3, ![1, 1, 384]⟩
abbrev S384x768 : Shape := ⟨2, ![384, 768]⟩
abbrev S1x16384x768 : Shape := ⟨3, ![1, 16384, 768]⟩
abbrev S1x16384x8x96 : Shape := ⟨4, ![1, 16384, 8, 96]⟩
abbrev S256 : Shape := ⟨1, ![256]⟩
abbrev S1x1x256 : Shape := ⟨3, ![1, 1, 256]⟩
abbrev S256x1024 : Shape := ⟨2, ![256, 1024]⟩
abbrev S1x16384x8x128 : Shape := ⟨4, ![1, 16384, 8, 128]⟩
abbrev S16 : Shape := ⟨1, ![16]⟩
abbrev S1x16 : Shape := ⟨2, ![1, 16]⟩
abbrev S16384x16 : Shape := ⟨2, ![16384, 16]⟩
abbrev S16384x1x16 : Shape := ⟨3, ![16384, 1, 16]⟩
abbrev S1x16384x8x16 : Shape := ⟨4, ![1, 16384, 8, 16]⟩
abbrev S1x16384x1x16 : Shape := ⟨4, ![1, 16384, 1, 16]⟩
abbrev S1x16384x16 : Shape := ⟨3, ![1, 16384, 16]⟩
abbrev S1x64x256x512 : Shape := ⟨4, ![1, 64, 256, 512]⟩
abbrev S1x64x512x256 : Shape := ⟨4, ![1, 64, 512, 256]⟩

abbrev nBuf : Space → Nat
  | .hbm => 262
  | .vmem => 0
  | .smem => 0
  | _ => 0

abbrev hbmTy0_0 (i : Nat) : BufTy := match i % 128 with
  | 0 => ⟨S1x16384x1024, .f32⟩
  | 1 => ⟨S1x1024, .f32⟩
  | 2 => ⟨S1x1024x5024, .f32⟩
  | 3 => ⟨S1x384, .f32⟩
  | 4 => ⟨S1x384x768, .f32⟩
  | 5 => ⟨S1x256, .f32⟩
  | 6 => ⟨S1x256x1024, .f32⟩
  | 7 => ⟨S1024, .f32⟩
  | 8 => ⟨S1x16384x1024, .f32⟩
  | 9 => ⟨S_, .f32⟩
  | 10 => ⟨S1x16384, .f32⟩
  | 11 => ⟨S1x16384x1, .f32⟩
  | 12 => ⟨S_, .f32⟩
  | 13 => ⟨S1x16384x1, .f32⟩
  | 14 => ⟨S1x16384x1, .f32⟩
  | 15 => ⟨S_, .f32⟩
  | 16 => ⟨S1x16384x1, .f32⟩
  | 17 => ⟨S1x16384x1, .f32⟩
  | 18 => ⟨S1x16384x1, .f32⟩
  | 19 => ⟨S1x16384x1024, .f32⟩
  | 20 => ⟨S1x16384x1024, .f32⟩
  | 21 => ⟨S1x1x1024, .f32⟩
  | 22 => ⟨S1x16384x1024, .f32⟩
  | 23 => ⟨S1x16384x1024, .f32⟩
  | 24 => ⟨S1024x5024, .f32⟩
  | 25 => ⟨S1x16384x5024, .f32⟩
  | 26 => ⟨S1x16384x512, .f32⟩
  | 27 => ⟨S1x16384x128, .f32⟩
  | 28 => ⟨S1x16384x128, .f32⟩
  | 29 => ⟨S1x16384x384, .f32⟩
  | 30 => ⟨S1x16384x256, .f32⟩
  | 31 => ⟨S1x16384x32, .f32⟩
  | 32 => ⟨S1x16384x512, .f32⟩
  | 33 => ⟨S1x16384x8x64, .f32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S16384, .f32⟩
  | 49 => ⟨S16384x1, .f32⟩
  | 50 => ⟨S1x32, .f32⟩
  | 51 => ⟨S16384x32, .f32⟩
  | 52 => ⟨S16384x32, .f32⟩
  | 53 => ⟨S16384x32, .f32⟩
  | 54 => ⟨S16384x32, .f32⟩
  | 55 => ⟨S16384x1x32, .f32⟩
  | 56 => ⟨S16384x32, .f32⟩
  | 57 => ⟨S16384x1x32, .f32⟩
  | 58 => ⟨S1x16384x8x32, .f32⟩
  | 59 => ⟨S1x16384x8x32, .f32⟩
  | 60 => ⟨S1x16384x1x32, .f32⟩
  | 61 => ⟨S1x16384x8x32, .f32⟩
  | 62 => ⟨S1x16384x8x32, .f32⟩
  | 63 => ⟨S1x16384x1x32, .f32⟩
  | 64 => ⟨S1x16384x8x32, .f32⟩
  | 65 => ⟨S1x16384x8x32, .f32⟩
  | 66 => ⟨S1x16384x8x32, .f32⟩
  | 67 => ⟨S1x16384x1x32, .f32⟩
  | 68 => ⟨S1x16384x8x32, .f32⟩
  | 69 => ⟨S1x16384x8x32, .f32⟩
  | 70 => ⟨S1x16384x1x32, .f32⟩
  | 71 => ⟨S1x16384x8x32, .f32⟩
  | 72 => ⟨S1x16384x8x32, .f32⟩
  | 73 => ⟨S1x16384x8x32, .f32⟩
  | 74 => ⟨S1x16384x8x64, .f32⟩
  | 75 => ⟨S_, .f32⟩
  | 76 => ⟨S1x16384x8x64, .f32⟩
  | 77 => ⟨S1x16384x8x64, .f32⟩
  | 78 => ⟨S1x16384x512, .f32⟩
  | 79 => ⟨S1x16384x2x64, .f32⟩
  | 80 => ⟨S32, .f32⟩
  | 81 => ⟨S_, .f32⟩
  | 82 => ⟨S32, .f32⟩
  | 83 => ⟨S32, .f32⟩
  | 84 => ⟨S_, .f32⟩
  | 85 => ⟨S32, .f32⟩
  | 86 => ⟨S32, .f32⟩
  | 87 => ⟨S32, .f32⟩
  | 88 => ⟨S_, .f32⟩
  | 89 => ⟨S32, .f32⟩
  | 90 => ⟨S32, .f32⟩
  | 91 => ⟨S_, .f32⟩
  | 92 => ⟨S32, .f32⟩
  | 93 => ⟨S32, .f32⟩
  | 94 => ⟨S16384, .f32⟩
  | 95 => ⟨S16384x1, .f32⟩
  | 96 => ⟨S1x32, .f32⟩
  | 97 => ⟨S16384x32, .f32⟩
  | 98 => ⟨S16384x32, .f32⟩
  | 99 => ⟨S16384x32, .f32⟩
  | 100 => ⟨S16384x32, .f32⟩
  | 101 => ⟨S16384x1x32, .f32⟩
  | 102 => ⟨S16384x32, .f32⟩
  | 103 => ⟨S16384x1x32, .f32⟩
  | 104 => ⟨S1x16384x2x32, .f32⟩
  | 105 => ⟨S1x16384x2x32, .f32⟩
  | 106 => ⟨S1x16384x1x32, .f32⟩
  | 107 => ⟨S1x16384x2x32, .f32⟩
  | 108 => ⟨S1x16384x2x32, .f32⟩
  | 109 => ⟨S1x16384x1x32, .f32⟩
  | 110 => ⟨S1x16384x2x32, .f32⟩
  | 111 => ⟨S1x16384x2x32, .f32⟩
  | 112 => ⟨S1x16384x2x32, .f32⟩
  | 113 => ⟨S1x16384x1x32, .f32⟩
  | 114 => ⟨S1x16384x2x32, .f32⟩
  | 115 => ⟨S1x16384x2x32, .f32⟩
  | 116 => ⟨S1x16384x1x32, .f32⟩
  | 117 => ⟨S1x16384x2x32, .f32⟩
  | 118 => ⟨S1x16384x2x32, .f32⟩
  | 119 => ⟨S1x16384x2x32, .f32⟩
  | 120 => ⟨S1x16384x2x64, .f32⟩
  | 121 => ⟨S1x16384x128, .f32⟩
  | 122 => ⟨S384, .f32⟩
  | 123 => ⟨S1x16384x384, .f32⟩
  | 124 => ⟨S_, .f32⟩
  | 125 => ⟨S1x16384, .f32⟩
  | 126 => ⟨S1x16384x1, .f32⟩
  | 127 => ⟨S_, .f32⟩
  | _ => ⟨S1x16384x1024, .f32⟩

abbrev hbmTy0_1 (i : Nat) : BufTy := match i % 128 with
  | 0 => ⟨S1x16384x1, .f32⟩
  | 1 => ⟨S1x16384x1, .f32⟩
  | 2 => ⟨S_, .f32⟩
  | 3 => ⟨S1x16384x1, .f32⟩
  | 4 => ⟨S1x16384x1, .f32⟩
  | 5 => ⟨S1x16384x1, .f32⟩
  | 6 => ⟨S1x16384x384, .f32⟩
  | 7 => ⟨S1x16384x384, .f32⟩
  | 8 => ⟨S1x1x384, .f32⟩
  | 9 => ⟨S1x16384x384, .f32⟩
  | 10 => ⟨S1x16384x384, .f32⟩
  | 11 => ⟨S384x768, .f32⟩
  | 12 => ⟨S1x16384x768, .f32⟩
  | 13 => ⟨S1x16384x8x96, .f32⟩
  | 14 => ⟨S256, .f32⟩
  | 15 => ⟨S1x16384x256, .f32⟩
  | 16 => ⟨S_, .f32⟩
  | 17 => ⟨S1x16384, .f32⟩
  | 18 => ⟨S1x16384x1, .f32⟩
  | 19 => ⟨S_, .f32⟩
  | 20 => ⟨S1x16384x1, .f32⟩
  | 21 => ⟨S1x16384x1, .f32⟩
  | 22 => ⟨S_, .f32⟩
  | 23 => ⟨S1x16384x1, .f32⟩
  | 24 => ⟨S1x16384x1, .f32⟩
  | 25 => ⟨S1x16384x1, .f32⟩
  | 26 => ⟨S1x16384x256, .f32⟩
  | 27 => ⟨S1x16384x256, .f32⟩
  | 28 => ⟨S1x1x256, .f32⟩
  | 29 => ⟨S1x16384x256, .f32⟩
  | 30 => ⟨S1x16384x256, .f32⟩
  | 31 => ⟨S256x1024, .f32⟩
  | 32 => ⟨S1x16384x1024, .f32⟩
  | 33 => ⟨S1x16384x8x128, .f32⟩
  | 34 => ⟨S_, .f32⟩
  | 35 => ⟨S1x16384x8x32, .f32⟩
  | 36 => ⟨S1x16384x8x64, .f32⟩
  | 37 => ⟨S1x16384x8x32, .f32⟩
  | 38 => ⟨S16, .f32⟩
  | 39 => ⟨S_, .f32⟩
  | 40 => ⟨S16, .f32⟩
  | 41 => ⟨S16, .f32⟩
  | 42 => ⟨S_, .f32⟩
  | 43 => ⟨S16, .f32⟩
  | 44 => ⟨S16, .f32⟩
  | 45 => ⟨S16, .f32⟩
  | 46 => ⟨S_, .f32⟩
  | 47 => ⟨S16, .f32⟩
  | 48 => ⟨S16, .f32⟩
  | 49 => ⟨S_, .f32⟩
  | 50 => ⟨S16, .f32⟩
  | 51 => ⟨S16, .f32⟩
  | 52 => ⟨S16384, .f32⟩
  | 53 => ⟨S16384x1, .f32⟩
  | 54 => ⟨S1x16, .f32⟩
  | 55 => ⟨S16384x16, .f32⟩
  | 56 => ⟨S16384x16, .f32⟩
  | 57 => ⟨S16384x16, .f32⟩
  | 58 => ⟨S16384x16, .f32⟩
  | 59 => ⟨S16384x1x16, .f32⟩
  | 60 => ⟨S16384x16, .f32⟩
  | 61 => ⟨S16384x1x16, .f32⟩
  | 62 => ⟨S1x16384x8x16, .f32⟩
  | 63 => ⟨S1x16384x8x16, .f32⟩
  | 64 => ⟨S1x16384x1x16, .f32⟩
  | 65 => ⟨S1x16384x8x16, .f32⟩
  | 66 => ⟨S1x16384x8x16, .f32⟩
  | 67 => ⟨S1x16384x1x16, .f32⟩
  | 68 => ⟨S1x16384x8x16, .f32⟩
  | 69 => ⟨S1x16384x8x16, .f32⟩
  | 70 => ⟨S1x16384x8x16, .f32⟩
  | 71 => ⟨S1x16384x1x16, .f32⟩
  | 72 => ⟨S1x16384x8x16, .f32⟩
  | 73 => ⟨S1x16384x8x16, .f32⟩
  | 74 => ⟨S1x16384x1x16, .f32⟩
  | 75 => ⟨S1x16384x8x16, .f32⟩
  | 76 => ⟨S1x16384x8x16, .f32⟩
  | 77 => ⟨S1x16384x8x16, .f32⟩
  | 78 => ⟨S1x16384x8x32, .f32⟩
  | 79 => ⟨S1x16384x8x128, .f32⟩
  | 80 => ⟨S_, .f32⟩
  | 81 => ⟨S1x16384x8x128, .f32⟩
  | 82 => ⟨S1x16384x8x128, .f32⟩
  | 83 => ⟨S16, .f32⟩
  | 84 => ⟨S_, .f32⟩
  | 85 => ⟨S16, .f32⟩
  | 86 => ⟨S16, .f32⟩
  | 87 => ⟨S_, .f32⟩
  | 88 => ⟨S16, .f32⟩
  | 89 => ⟨S16, .f32⟩
  | 90 => ⟨S16, .f32⟩
  | 91 => ⟨S_, .f32⟩
  | 92 => ⟨S16, .f32⟩
  | 93 => ⟨S16, .f32⟩
  | 94 => ⟨S_, .f32⟩
  | 95 => ⟨S16, .f32⟩
  | 96 => ⟨S16, .f32⟩
  | 97 => ⟨S16384, .f32⟩
  | 98 => ⟨S16384x1, .f32⟩
  | 99 => ⟨S1x16, .f32⟩
  | 100 => ⟨S16384x16, .f32⟩
  | 101 => ⟨S16384x16, .f32⟩
  | 102 => ⟨S16384x16, .f32⟩
  | 103 => ⟨S16384x16, .f32⟩
  | 104 => ⟨S16384x16, .f32⟩
  | 105 => ⟨S1x16384x16, .f32⟩
  | 106 => ⟨S1x16384x16, .f32⟩
  | 107 => ⟨S1x16384x16, .f32⟩
  | 108 => ⟨S1x16384x16, .f32⟩
  | 109 => ⟨S1x16384x16, .f32⟩
  | 110 => ⟨S1x16384x16, .f32⟩
  | 111 => ⟨S1x16384x16, .f32⟩
  | 112 => ⟨S1x16384x16, .f32⟩
  | 113 => ⟨S1x16384x16, .f32⟩
  | 114 => ⟨S1x16384x16, .f32⟩
  | 115 => ⟨S1x16384x16, .f32⟩
  | 116 => ⟨S1x16384x16, .f32⟩
  | 117 => ⟨S1x16384x32, .f32⟩
  | 118 => ⟨S1x16384x1x32, .f32⟩
  | 119 => ⟨S1x16384x8x32, .f32⟩
  | 120 => ⟨S1x16384x8x64, .f32⟩
  | 121 => ⟨S1x16384x8x128, .f32⟩
  | 122 => ⟨S1x16384x8x64, .f32⟩
  | 123 => ⟨S1x64x256x512, .f32⟩
  | 124 => ⟨S1x64x512x256, .f32⟩
  | 125 => ⟨S1x16384x512, .bf16⟩
  | 126 => ⟨S1x16384x128, .bf16⟩
  | 127 => ⟨S1x16384x128, .bf16⟩
  | _ => ⟨S1x16384x1024, .f32⟩

abbrev hbmTy0_2 (i : Nat) : BufTy := match i % 128 with
  | 0 => ⟨S1x16384x1024, .f32⟩
  | 1 => ⟨S1x16384x1024, .bf16⟩
  | 2 => ⟨S1x16384x1024, .f32⟩
  | 3 => ⟨S1x16384x1024, .bf16⟩
  | 4 => ⟨S1x64x512x256, .bf16⟩
  | 5 => ⟨S1x16384x512, .bf16⟩
  | _ => ⟨S1x16384x1024, .f32⟩

abbrev hbmTy (i : Nat) : BufTy := match i / 128 with
  | 0 => hbmTy0_0 i
  | 1 => hbmTy0_1 i
  | 2 => hbmTy0_2 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_6 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_7 : Ref sig .tc := ⟨.hbm, 81, rfl⟩
abbrev main_v66 : Ref sig .tc := ⟨.hbm, 82, rfl⟩
abbrev main_v67 : Ref sig .tc := ⟨.hbm, 83, rfl⟩
abbrev main_cst_8 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_9 : Ref sig .tc := ⟨.hbm, 88, rfl⟩
abbrev main_v71 : Ref sig .tc := ⟨.hbm, 89, rfl⟩
abbrev main_v72 : Ref sig .tc := ⟨.hbm, 90, rfl⟩
abbrev main_cst_10 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_cst_11 : Ref sig .tc := ⟨.hbm, 124, rfl⟩
abbrev main_v105 : Ref sig .tc := ⟨.hbm, 125, rfl⟩
abbrev main_v106 : Ref sig .tc := ⟨.hbm, 126, rfl⟩
abbrev main_cst_12 : Ref sig .tc := ⟨.hbm, 127, rfl⟩
abbrev main_v107 : Ref sig .tc := ⟨.hbm, 128, rfl⟩
abbrev main_v108 : Ref sig .tc := ⟨.hbm, 129, rfl⟩
abbrev main_cst_13 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_cst_14 : Ref sig .tc := ⟨.hbm, 144, rfl⟩
abbrev main_v122 : Ref sig .tc := ⟨.hbm, 145, rfl⟩
abbrev main_v123 : Ref sig .tc := ⟨.hbm, 146, rfl⟩
abbrev main_cst_15 : Ref sig .tc := ⟨.hbm, 147, rfl⟩
abbrev main_v124 : Ref sig .tc := ⟨.hbm, 148, rfl⟩
abbrev main_v125 : Ref sig .tc := ⟨.hbm, 149, rfl⟩
abbrev main_cst_16 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_cst_17 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_cst_18 : Ref sig .tc := ⟨.hbm, 167, rfl⟩
abbrev main_v141 : Ref sig .tc := ⟨.hbm, 168, rfl⟩
abbrev main_v142 : Ref sig .tc := ⟨.hbm, 169, rfl⟩
abbrev main_cst_19 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_cst_20 : Ref sig .tc := ⟨.hbm, 174, rfl⟩
abbrev main_v146 : Ref sig .tc := ⟨.hbm, 175, rfl⟩
abbrev main_v147 : Ref sig .tc := ⟨.hbm, 176, rfl⟩
abbrev main_cst_21 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_cst_22 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_cst_23 : Ref sig .tc := ⟨.hbm, 212, rfl⟩
abbrev main_v181 : Ref sig .tc := ⟨.hbm, 213, rfl⟩
abbrev main_v182 : Ref sig .tc := ⟨.hbm, 214, rfl⟩
abbrev main_cst_24 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_cst_25 : Ref sig .tc := ⟨.hbm, 219, rfl⟩
abbrev main_v186 : Ref sig .tc := ⟨.hbm, 220, rfl⟩
abbrev main_v187 : Ref sig .tc := ⟨.hbm, 221, rfl⟩
abbrev main_cst_26 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_v221 : Ref sig .tc := ⟨.hbm, 256, rfl⟩
abbrev main_v222 : Ref sig .tc := ⟨.hbm, 257, rfl⟩
abbrev main_v223 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩

abbrev nD : Nat := 1
abbrev τ : Topo := Topo.v7x

variable {F : FTy → Type} [FloatOps F]
-- ==== Proof.MlaTrip.lean ====
module

public import proofs.«01_k».proof.Proof.Gen.MlaIdeal.Value
public import Idealize.ShloMosaic.Lib.Pipeline.ValueKit

/-! One trip of the attention kernel's inner loop, head by head: the running maximum, the running sum
and the running weighted sum of the values after 256 further keys, as functions of what they held
before and of the query, key and value blocks. -/

@[expose] public section

set_option maxRecDepth 16384
noncomputable section

namespace Cert.MlaVal
open Cert.MlaIdeal Cert.MlaIdeal.Gen Idealize.ShloMosaic Idealize.ShloMosaic.TcCoe Idealize.SL.Sem
open Idealize.ShloMosaic.Pipeline (Dat)

/-- Key `r` of the group of 256 keys the trip `k` takes, in the block of 1024 keys. -/
def keyOf (k : Fin 4) (r : Fin 256) : Fin 1024 := ⟨256 * k.val + r.val, by omega⟩
/-- Entry `d` of head `h`, among the 1024 entries of a query or a key. -/
def colOf (h : Fin 8) (d : Fin 128) : Fin 1024 := ⟨128 * h.val + d.val, by omega⟩
/-- Entry `d` of head `h`, among the 512 entries of a value. -/
def valOf (h : Fin 8) (d : Fin 64) : Fin 512 := ⟨64 * h.val + d.val, by omega⟩

/-- The score of key `r` of the block against query `q` of the block, in head `h`. -/
def scB (X3 : S1x512x1024.Idx → EReal) (X4 : S1x1024x1024.Idx → EReal) (h : Fin 8) (r : Fin 1024) (q : Fin 512) : EReal :=
  ∑ d : Fin 128, X4 (ix3 0 r (colOf h d)) * X3 (ix3 0 q (colOf h d))

/-- The running maximum after the trip. -/
def newM (X3 : S1x512x1024.Idx → EReal) (X4 : S1x1024x1024.Idx → EReal) (M : S8x1x512.Idx → EReal) (k : Fin 4) (h : Fin 8) (q : Fin 512) : EReal :=
  max (M (ix3 h 0 q)) (Finset.fold max (Ideal.ofBits .f32 4286578688#32) (fun r => scB X3 X4 h (keyOf k r) q) Finset.univ)

/-- The running sum of the exponentials after the trip. -/
def newL (X3 : S1x512x1024.Idx → EReal) (X4 : S1x1024x1024.Idx → EReal) (M L : S8x1x512.Idx → EReal) (k : Fin 4) (h : Fin 8) (q : Fin 512) : EReal :=
  Ideal.exp (M (ix3 h 0 q) - newM X3 X4 M k h q) * L (ix3 h 0 q)
    + ∑ r : Fin 256, Ideal.exp (scB X3 X4 h (keyOf k r) q - newM X3 X4 M k h q)

/-- The running weighted sum of the values after the trip. -/
def newA (X3 : S1x512x1024.Idx → EReal) (X4 : S1x1024x1024.Idx → EReal) (X5 : S1x4x512x256.Idx → EReal) (M : S8x1x512.Idx → EReal)
    (A : S8x64x512.Idx → EReal) (k : Fin 4) (h : Fin 8) (d : Fin 64) (q : Fin 512) : EReal :=
  Ideal.exp (M (ix3 h 0 q) - newM X3 X4 M k h q) * A (ix3 h d q)
    + ∑ r : Fin 256, X5 (ix4 0 k (valOf h d) r) * Ideal.exp (scB X3 X4 h (keyOf k r) q - newM X3 X4 M k h q)

/-- What a trip stores as one head's running maximum. -/
def um (a : FVec Ideal S1x256x128 .bf16) (b : FVec Ideal S1x512x128 .bf16) (o : FVec Ideal S1x1x512 .f32) : FVec Ideal S1x1x512 .f32 :=
  k0_pay14 (k0_pay8 a b o)
/-- What a trip stores as one head's running sum. -/
def ul (a : FVec Ideal S1x256x128 .bf16) (b : FVec Ideal S1x512x128 .bf16) (o l : FVec Ideal S1x1x512 .f32) : FVec Ideal S1x1x512 .f32 :=
  k0_pay11 a b o l
/-- What a trip stores as one head's running weighted sum. -/
def ua (a : FVec Ideal S1x256x128 .bf16) (b : FVec Ideal S1x512x128 .bf16) (o : FVec Ideal S1x1x512 .f32)
    (v : FVec Ideal S1x1x64x256 .bf16) (w : FVec Ideal S1x64x512 .f32) : FVec Ideal S1x64x512 .f32 :=
  k0_pay13 (k0_pay9 a b o) (k0_pay12 a b o v) w

/-! The other heads store the same functions of their own slices. -/
section heads
variable (a : FVec Ideal S1x256x128 .bf16) (b : FVec Ideal S1x512x128 .bf16) (o l : FVec Ideal S1x1x512 .f32)
    (v : FVec Ideal S1x1x64x256 .bf16) (w : FVec Ideal S1x64x512 .f32)
theorem um0 : k0_pay14 (k0_pay8 a b o) = um a b o := rfl
theorem um1 : k0_pay22 (k0_pay17 a b o) = um a b o := rfl
theorem um2 : k0_pay30 (k0_pay25 a b o) = um a b o := rfl
theorem um3 : k0_pay38 (k0_pay31 a b) o = um a b o := rfl
theorem um4 : k0_pay47 (k0_pay41 a b o) = um a b o := rfl
theorem um5 : k0_pay55 (k0_pay50 a b o) = um a b o := rfl
theorem um6 : k0_pay64 (k0_pay58 a b o) = um a b o := rfl
theorem um7 : k0_pay4 (k0_pay67 (k0_pay65 a b) (k0_pay66 o)) = um a b o := rfl
theorem ul0 : k0_pay11 a b o l = ul a b o l := rfl
theorem ul1 : k0_pay20 a b o l = ul a b o l := rfl
theorem ul2 : k0_pay28 (k0_pay26 a b o) (k0_pay27 a b o) l = ul a b o l := rfl
theorem ul3 : k0_pay36 (k0_pay31 a b) o l = ul a b o l := rfl
theorem ul4 : k0_pay44 a b o l = ul a b o l := rfl
theorem ul5 : k0_pay53 a b o l = ul a b o l := rfl
theorem ul6 : k0_pay62 (k0_pay60 a b o) (k0_pay61 a b o l) = ul a b o l := rfl
theorem ul7 : k0_pay70 (k0_pay65 a b) (k0_pay66 o) l = ul a b o l := rfl
theorem ua0 : k0_pay13 (k0_pay9 a b o) (k0_pay12 a b o v) w = ua a b o v w := rfl
theorem ua1 : k0_pay21 (k0_pay18 a b o) (k0_pay19 a b o) v w = ua a b o v w := rfl
theorem ua2 : k0_pay29 (k0_pay26 a b o) (k0_pay27 a b o) v w = ua a b o v w := rfl
theorem ua3 : k0_pay37 (k0_pay31 a b) o v w = ua a b o v w := rfl
theorem ua4 : k0_pay46 (k0_pay45 a b o v w) = ua a b o v w := rfl
theorem ua5 : k0_pay54 (k0_pay51 a b o) (k0_pay52 a b o) v w = ua a b o v w := rfl
theorem ua6 : k0_pay63 (k0_pay59 a b o) (k0_pay60 a b o) v w = ua a b o v w := rfl
theorem ua7 : k0_pay71 (k0_pay65 a b) (k0_pay66 o) v w = ua a b o v w := rfl

theorem score_at (r : Fin 256) (q : Fin 512) :
    k0_pay6 (F := Ideal) a b (ix2 r q) = ∑ d : Fin 128, a (ix3 0 r d) * b (ix3 0 q d) := by
  pointwise [k0_pay6]

theorem um_at (q : Fin 512) : um a b o (ix3 0 0 q) =
    max (o (ix3 0 0 q)) (Finset.fold max (Ideal.ofBits .f32 4286578688#32)
      (fun x => ∑ d : Fin 128, a (ix3 0 x d) * b (ix3 0 q d)) Finset.univ) := by
  pointwise [um, k0_pay14, k0_pay8, k0_pay7, k0_pay6]

theorem ul_at (q : Fin 512) : ul a b o l (ix3 0 0 q) =
    Ideal.exp (o (ix3 0 0 q) - um a b o (ix3 0 0 q)) * l (ix3 0 0 q)
      + ∑ x : Fin 256, Ideal.exp ((∑ d : Fin 128, a (ix3 0 x d) * b (ix3 0 q d)) - um a b o (ix3 0 0 q)) := by
  pointwise [ul, um, k0_pay14, k0_pay11, k0_pay10, k0_pay9, k0_pay8, k0_pay7, k0_pay6]

theorem ua_at (d : Fin 64) (q : Fin 512) : ua a b o v w (ix3 0 d q) =
    Ideal.exp (o (ix3 0 0 q) - um a b o (ix3 0 0 q)) * w (ix3 0 d q)
      + ∑ x : Fin 256, v (ix4 0 0 d x) * Ideal.exp ((∑ e : Fin 128, a (ix3 0 x e) * b (ix3 0 q e)) - um a b o (ix3 0 0 q)) := by
  pointwise [ua, um, k0_pay14, k0_pay13, k0_pay12, k0_pay10, k0_pay9, k0_pay8, k0_pay7, k0_pay6]

variable (X3 : S1x512x1024.Idx → EReal) (X4 : S1x1024x1024.Idx → EReal) (X5 : S1x4x512x256.Idx → EReal)
  (M L : S8x1x512.Idx → EReal) (A : S8x64x512.Idx → EReal) (k : Fin 4) (h : Fin 8)

theorem um_new (ha : ∀ r d, a (ix3 0 r d) = X4 (ix3 0 (keyOf k r) (colOf h d)))
    (hb : ∀ q d, b (ix3 0 q d) = X3 (ix3 0 q (colOf h d))) (ho : ∀ q, o (ix3 0 0 q) = M (ix3 h 0 q)) (q : Fin 512) :
    um a b o (ix3 0 0 q) = newM X3 X4 M k h q := by
  rw [um_at]; unfold newM scB; simp only [ha, hb, ho]

theorem ul_new (ha : ∀ r d, a (ix3 0 r d) = X4 (ix3 0 (keyOf k r) (colOf h d)))
    (hb : ∀ q d, b (ix3 0 q d) = X3 (ix3 0 q (colOf h d))) (ho : ∀ q, o (ix3 0 0 q) = M (ix3 h 0 q))
    (hl : ∀ q, l (ix3 0 0 q) = L (ix3 h 0 q)) (q : Fin 512) :
    ul a b o l (ix3 0 0 q) = newL X3 X4 M L k h q := by
  rw [ul_at, um_new a b o X3 X4 M k h ha hb ho]; unfold newL scB; simp only [ha, hb, ho, hl]

theorem ua_new (ha : ∀ r d, a (ix3 0 r d) = X4 (ix3 0 (keyOf k r) (colOf h d)))
    (hb : ∀ q d, b (ix3 0 q d) = X3 (ix3 0 q (colOf h d))) (ho : ∀ q, o (ix3 0 0 q) = M (ix3 h 0 q))
    (hv : ∀ d r, v (ix4 0 0 d r) = X5 (ix4 0 k (valOf h d) r))
    (hw : ∀ d q, w (ix3 0 d q) = A (ix3 h d q)) (d : Fin 64) (q : Fin 512) :
    ua a b o v w (ix3 0 d q) = newA X3 X4 X5 M A k h d q := by
  rw [ua_at, um_new a b o X3 X4 M k h ha hb ho]; unfold newA scB; simp only [ha, hb, ho, hv, hw]
end heads

end Cert.MlaVal
end
-- ==== Proof.MlaLoop.lean ====
module

public import proofs.«01_k».proof.Proof.MlaTrip

/-! What the inner loop's trips leave in the three running buffers. -/

@[expose] public section

set_option maxRecDepth 16384
noncomputable section

namespace Cert.MlaVal
open Cert.MlaIdeal Cert.MlaIdeal.Gen Idealize.ShloMosaic Idealize.ShloMosaic.TcCoe Idealize.SL.Sem
open Idealize.ShloMosaic.Pipeline (Dat)

/-- A trip as one of four. -/
def tripOf (k : Fin k0_t1_loop.trips) : Fin 4 := ⟨k.val, Nat.lt_of_lt_of_le k.isLt k0_t1_abs.2.1⟩

section trip
variable (𝒱 : Variants) (c : Dev nD) (bd : Option 𝒱.V) (i : grid0.Coords)
  (arg3 : Memref sig .tc .vmem S1x512x1024 .bf16) (harg3 : arg3.IsWhole) (arg4 : Memref sig .tc .vmem S1x1024x1024 .bf16) (harg4 : arg4.IsWhole)
  (arg5 : Memref sig .tc .vmem S1x4x512x256 .bf16) (harg5 : arg5.IsWhole) (arg6 : Memref sig .tc .vmem S1x512x512 .bf16) (harg6 : arg6.IsWhole)
  (arg7 : Memref sig .tc .vmem S8x1x512 .f32) (harg7 : arg7.IsWhole) (arg8 : Memref sig .tc .vmem S8x1x512 .f32) (harg8 : arg8.IsWhole)
  (arg9 : Memref sig .tc .vmem S8x64x512 .f32) (harg9 : arg9.IsWhole)
  (X3 : BufTy.Contents (Elt Ideal) arg3.view.ty) (X4 : BufTy.Contents (Elt Ideal) arg4.view.ty) (X5 : BufTy.Contents (Elt Ideal) arg5.view.ty)
  (k : Fin k0_t1_loop.trips)
  (f7 : BufTy.Contents (Elt Ideal) arg7.view.ty) (f8 : BufTy.Contents (Elt Ideal) arg8.view.ty) (f9 : BufTy.Contents (Elt Ideal) arg9.view.ty)

theorem rd_key (off : Fin 3 → ℕ) (inb) (h : Fin 8) (e : off = ![0, 256 * k.val, 128 * h.val]) (r : Fin 256) (d : Fin 128) :
    arg4.view.readAt (Elt Ideal) (Rect.unit (s := S1x1024x1024) off S1x256x128.size inb).toLoadRect X4 (ix3 0 r d)
      = arg4.view.read (Elt Ideal) X4 (ix3 0 (keyOf (tripOf k) r) (colOf h d)) := by
  subst e
  rw [View.readAt_apply]
  congr 1
  funext a
  fin_cases a <;> apply Fin.ext <;> simp [Rect.unit, keyOf, colOf, tripOf]

theorem rd_query (off : Fin 3 → ℕ) (inb) (h : Fin 8) (e : off = ![0, 0, 128 * h.val]) (q : Fin 512) (d : Fin 128) :
    arg3.view.readAt (Elt Ideal) (Rect.unit (s := S1x512x1024) off S1x512x128.size inb).toLoadRect X3 (ix3 0 q d)
      = arg3.view.read (Elt Ideal) X3 (ix3 0 q (colOf h d)) := by
  subst e
  rw [View.readAt_apply]
  congr 1
  funext a
  fin_cases a <;> apply Fin.ext <;> simp [Rect.unit, colOf]

theorem rd_value (off : Fin 4 → ℕ) (inb) (h : Fin 8) (e : off = ![0, k.val, 64 * h.val, 0]) (d : Fin 64) (r : Fin 256) :
    arg5.view.readAt (Elt Ideal) (Rect.unit (s := S1x4x512x256) off S1x1x64x256.size inb).toLoadRect X5 (ix4 0 0 d r)
      = arg5.view.read (Elt Ideal) X5 (ix4 0 (tripOf k) (valOf h d) r) := by
  subst e
  rw [View.readAt_apply]
  congr 1
  funext a
  fin_cases a <;> apply Fin.ext <;> simp [Rect.unit, valOf, tripOf]

theorem rd_row (arg : Memref sig .tc .vmem S8x1x512 .f32) (f : BufTy.Contents (Elt Ideal) arg.view.ty)
    (off : Fin 3 → ℕ) (inb) (h : Fin 8) (e : off = ![h.val, 0, 0]) (q : Fin 512) :
    arg.view.readAt (Elt Ideal) (Rect.unit (s := S8x1x512) off S1x1x512.size inb).toLoadRect f (ix3 0 0 q)
      = arg.view.read (Elt Ideal) f (ix3 h 0 q) := by
  subst e
  rw [View.readAt_apply]
  congr 1
  funext a
  fin_cases a <;> apply Fin.ext <;> simp [Rect.unit]

theorem rd_acc (off : Fin 3 → ℕ) (inb) (h : Fin 8) (e : off = ![h.val, 0, 0]) (d : Fin 64) (q : Fin 512) :
    arg9.view.readAt (Elt Ideal) (Rect.unit (s := S8x64x512) off S1x64x512.size inb).toLoadRect f9 (ix3 0 d q)
      = arg9.view.read (Elt Ideal) f9 (ix3 h d q) := by
  subst e
  rw [View.readAt_apply]
  congr 1
  funext a
  fin_cases a <;> apply Fin.ext <;> simp [Rect.unit]

theorem emb_row (off : Fin 3 → ℕ) (inb) (h : Fin 8) (e : off = ![h.val, 0, 0]) (q : Fin 512) :
    (Rect.unit (s := S8x1x512) off S1x1x512.size inb).emb (ix3 0 0 q) = ix3 h 0 q := by
  subst e
  funext a
  apply Fin.ext
  rw [ValueKit.rect_emb_unit_val]
  fin_cases a <;> simp <;> rfl

theorem emb_acc (off : Fin 3 → ℕ) (inb) (h : Fin 8) (e : off = ![h.val, 0, 0]) (d : Fin 64) (q : Fin 512) :
    (Rect.unit (s := S8x64x512) off S1x64x512.size inb).emb (ix3 0 d q) = ix3 h d q := by
  subst e
  funext a
  apply Fin.ext
  rw [ValueKit.rect_emb_unit_val]
  fin_cases a <;> simp <;> rfl

theorem piece_m (h : Fin 8) (off : Fin 3 → ℕ) (inb) (e : off = ![h.val, 0, 0]) (o4 : Fin 3 → ℕ) (inb4) (e4 : o4 = ![0, 256 * k.val, 128 * h.val])
    (o3 : Fin 3 → ℕ) (inb3) (e3 : o3 = ![0, 0, 128 * h.val]) (o7 : Fin 3 → ℕ) (inb7) (e7 : o7 = ![h.val, 0, 0]) (x : S1x1x512.Idx) :
    um (arg4.view.readAt (Elt Ideal) (Rect.unit (s := S1x1024x1024) o4 S1x256x128.size inb4).toLoadRect X4)
        (arg3.view.readAt (Elt Ideal) (Rect.unit (s := S1x512x1024) o3 S1x512x128.size inb3).toLoadRect X3)
        (arg7.view.readAt (Elt Ideal) (Rect.unit (s := S8x1x512) o7 S1x1x512.size inb7).toLoadRect f7) x
      = (fun y : S8x1x512.Idx => newM (arg3.view.read (Elt Ideal) X3) (arg4.view.read (Elt Ideal) X4) (arg7.view.read (Elt Ideal) f7) (tripOf k) (y 0) (y 2))
          ((Rect.unit (s := S8x1x512) off S1x1x512.size inb).emb x) := by
  obtain ⟨p, p', q, rfl⟩ : ∃ (p p' : Fin 1) (q : Fin 512), x = ix3 p p' q := ⟨x 0, x 1, x 2, by funext a; fin_cases a <;> rfl⟩
  obtain rfl := Subsingleton.elim p 0
  obtain rfl := Subsingleton.elim p' 0
  rw [emb_row off inb h e q]
  exact um_new _ _ _ _ _ _ (tripOf k) h (rd_key arg4 X4 k o4 inb4 h e4) (rd_query arg3 X3 o3 inb3 h e3) (rd_row arg7 f7 o7 inb7 h e7) q

theorem piece_l (h : Fin 8) (off : Fin 3 → ℕ) (inb) (e : off = ![h.val, 0, 0]) (o4 : Fin 3 → ℕ) (inb4) (e4 : o4 = ![0, 256 * k.val, 128 * h.val])
    (o3 : Fin 3 → ℕ) (inb3) (e3 : o3 = ![0, 0, 128 * h.val]) (o7 : Fin 3 → ℕ) (inb7) (e7 : o7 = ![h.val, 0, 0])
    (o8 : Fin 3 → ℕ) (inb8) (e8 : o8 = ![h.val, 0, 0]) (x : S1x1x512.Idx) :
    ul (arg4.view.readAt (Elt Ideal) (Rect.unit (s := S1x1024x1024) o4 S1x256x128.size inb4).toLoadRect X4)
        (arg3.view.readAt (Elt Ideal) (Rect.unit (s := S1x512x1024) o3 S1x512x128.size inb3).toLoadRect X3)
        (arg7.view.readAt (Elt Ideal) (Rect.unit (s := S8x1x512) o7 S1x1x512.size inb7).toLoadRect f7)
        (arg8.view.readAt (Elt Ideal) (Rect.unit (s := S8x1x512) o8 S1x1x512.size inb8).toLoadRect f8) x
      = (fun y : S8x1x512.Idx => newL (arg3.view.read (Elt Ideal) X3) (arg4.view.read (Elt Ideal) X4) (arg7.view.read (Elt Ideal) f7) (arg8.view.read (Elt Ideal) f8) (tripOf k) (y 0) (y 2))
          ((Rect.unit (s := S8x1x512) off S1x1x512.size inb).emb x) := by
  obtain ⟨p, p', q, rfl⟩ : ∃ (p p' : Fin 1) (q : Fin 512), x = ix3 p p' q := ⟨x 0, x 1, x 2, by funext a; fin_cases a <;> rfl⟩
  obtain rfl := Subsingleton.elim p 0
  obtain rfl := Subsingleton.elim p' 0
  rw [emb_row off inb h e q]
  exact ul_new _ _ _ _ _ _ _ _ (tripOf k) h (rd_key arg4 X4 k o4 inb4 h e4) (rd_query arg3 X3 o3 inb3 h e3) (rd_row arg7 f7 o7 inb7 h e7)
    (rd_row arg8 f8 o8 inb8 h e8) q

theorem piece_a (h : Fin 8) (off : Fin 3 → ℕ) (inb) (e : off = ![h.val, 0, 0]) (o4 : Fin 3 → ℕ) (inb4) (e4 : o4 = ![0, 256 * k.val, 128 * h.val])
    (o3 : Fin 3 → ℕ) (inb3) (e3 : o3 = ![0, 0, 128 * h.val]) (o7 : Fin 3 → ℕ) (inb7) (e7 : o7 = ![h.val, 0, 0])
    (o5 : Fin 4 → ℕ) (inb5) (e5 : o5 = ![0, k.val, 64 * h.val, 0]) (o9 : Fin 3 → ℕ) (inb9) (e9 : o9 = ![h.val, 0, 0]) (x : S1x64x512.Idx) :
    ua (arg4.view.readAt (Elt Ideal) (Rect.unit (s := S1x1024x1024) o4 S1x256x128.size inb4).toLoadRect X4)
        (arg3.view.readAt (Elt Ideal) (Rect.unit (s := S1x512x1024) o3 S1x512x128.size inb3).toLoadRect X3)
        (arg7.view.readAt (Elt Ideal) (Rect.unit (s := S8x1x512) o7 S1x1x512.size inb7).toLoadRect f7)
        (arg5.view.readAt (Elt Ideal) (Rect.unit (s := S1x4x512x256) o5 S1x1x64x256.size inb5).toLoadRect X5)
        (arg9.view.readAt (Elt Ideal) (Rect.unit (s := S8x64x512) o9 S1x64x512.size inb9).toLoadRect f9) x
      = (fun y : S8x64x512.Idx => newA (arg3.view.read (Elt Ideal) X3) (arg4.view.read (Elt Ideal) X4) (arg5.view.read (Elt Ideal) X5) (arg7.view.read (Elt Ideal) f7)
            (arg9.view.read (Elt Ideal) f9) (tripOf k) (y 0) (y 1) (y 2))
          ((Rect.unit (s := S8x64x512) off S1x64x512.size inb).emb x) := by
  obtain ⟨p, d, q, rfl⟩ : ∃ (p : Fin 1) (d : Fin 64) (q : Fin 512), x = ix3 p d q := ⟨x 0, x 1, x 2, by funext a; fin_cases a <;> rfl⟩
  obtain rfl := Subsingleton.elim p 0
  rw [emb_acc off inb h e d q]
  exact ua_new _ _ _ _ _ _ _ _ _ _ (tripOf k) h (rd_key arg4 X4 k o4 inb4 h e4) (rd_query arg3 X3 o3 inb3 h e3) (rd_row arg7 f7 o7 inb7 h e7)
    (rd_value arg5 X5 k o5 inb5 h e5) (rd_acc arg9 f9 o9 inb9 h e9) d q

theorem row_mem (h : Fin 8) (off : Fin 3 → ℕ) (inb) (e : off = ![h.val, 0, 0]) (y : S8x1x512.Idx) (hy : (y 0).val = h.val) :
    y ∈ (Rect.unit (s := S8x1x512) off S1x1x512.size inb).set := by
  obtain ⟨p, p', q, rfl⟩ : ∃ (p : Fin 8) (p' : Fin 1) (q : Fin 512), y = ix3 p p' q := ⟨y 0, y 1, y 2, by funext a; fin_cases a <;> rfl⟩
  obtain rfl := Subsingleton.elim p' 0
  obtain rfl : p = h := Fin.ext hy
  rw [← emb_row off inb p e]
  exact LoadRect.idx_mem _ _

theorem acc_mem (h : Fin 8) (off : Fin 3 → ℕ) (inb) (e : off = ![h.val, 0, 0]) (y : S8x64x512.Idx) (hy : (y 0).val = h.val) :
    y ∈ (Rect.unit (s := S8x64x512) off S1x64x512.size inb).set := by
  obtain ⟨p, d, q, rfl⟩ : ∃ (p : Fin 8) (d : Fin 64) (q : Fin 512), y = ix3 p d q := ⟨y 0, y 1, y 2, by funext a; fin_cases a <;> rfl⟩
  obtain rfl : p = h := Fin.ext hy
  rw [← emb_acc off inb p e]
  exact LoadRect.idx_mem _ _

theorem trip_m : arg7.view.read (Elt Ideal) (arg7.view.writes (Elt Ideal) f7
      (tripL_k0_t1 (F := Ideal) 𝒱 c bd i arg3 harg3 arg4 harg4 arg5 harg5 arg6 harg6 arg7 harg7 arg8 harg8 arg9 harg9 X3 X4 X5 k f7 f8 f9).1)
    = (fun y : S8x1x512.Idx => newM (arg3.view.read (Elt Ideal) X3) (arg4.view.read (Elt Ideal) X4) (arg7.view.read (Elt Ideal) f7) (tripOf k) (y 0) (y 2)) := by
  funext y
  refine View.read_writes_apply_of_pieces arg7.view f7 (fun y : S8x1x512.Idx => newM (arg3.view.read (Elt Ideal) X3) (arg4.view.read (Elt Ideal) X4) (arg7.view.read (Elt Ideal) f7) (tripOf k) (y 0) (y 2)) _ ?_ y ?_
  · unfold tripL_k0_t1 trip_k0_t1
    dsimp only
    refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩
    · exact fun x => (congrFun (um7 _ _ _) x).trans (piece_m arg3 arg4 arg7 X3 X4 k f7 7 _ inb_S8x1x512_S1x1x512_7_0_0 rfl _ _ (k0_off15_eq k) _ _ rfl _ _ rfl x)
    · exact fun x => (congrFun (um6 _ _ _) x).trans (piece_m arg3 arg4 arg7 X3 X4 k f7 6 _ inb_S8x1x512_S1x1x512_6_0_0 rfl _ _ (k0_off13_eq k) _ _ rfl _ _ rfl x)
    · exact fun x => (congrFun (um5 _ _ _) x).trans (piece_m arg3 arg4 arg7 X3 X4 k f7 5 _ inb_S8x1x512_S1x1x512_5_0_0 rfl _ _ (k0_off11_eq k) _ _ rfl _ _ rfl x)
    · exact fun x => (congrFun (um4 _ _ _) x).trans (piece_m arg3 arg4 arg7 X3 X4 k f7 4 _ inb_S8x1x512_S1x1x512_4_0_0 rfl _ _ (k0_off9_eq k) _ _ rfl _ _ rfl x)
    · exact fun x => (congrFun (um3 _ _ _) x).trans (piece_m arg3 arg4 arg7 X3 X4 k f7 3 _ inb_S8x1x512_S1x1x512_3_0_0 rfl _ _ (k0_off7_eq k) _ _ rfl _ _ rfl x)
    · exact fun x => (congrFun (um2 _ _ _) x).trans (piece_m arg3 arg4 arg7 X3 X4 k f7 2 _ inb_S8x1x512_S1x1x512_2_0_0 rfl _ _ (k0_off5_eq k) _ _ rfl _ _ rfl x)
    · exact fun x => (congrFun (um1 _ _ _) x).trans (piece_m arg3 arg4 arg7 X3 X4 k f7 1 _ inb_S8x1x512_S1x1x512_1_0_0 rfl _ _ (k0_off3_eq k) _ _ rfl _ _ rfl x)
    · exact fun x => (congrFun (um0 _ _ _) x).trans (piece_m arg3 arg4 arg7 X3 X4 k f7 0 _ inb_S8x1x512_S1x1x512_0_0_0 rfl _ _ (k0_off1_eq k) _ _ rfl _ _ rfl x)
  · unfold tripL_k0_t1 trip_k0_t1
    dsimp only
    have hy : (y 0).val < 8 := (y 0).isLt
    generalize hz : (y 0).val = z at hy
    interval_cases z
    · exact ⟨_, List.Mem.tail _ (List.Mem.tail _ (List.Mem.tail _ (List.Mem.tail _ (List.Mem.tail _ (List.Mem.tail _ (List.Mem.tail _ (List.Mem.head _))))))), row_mem 0 _ inb_S8x1x512_S1x1x512_0_0_0 rfl y hz⟩
    · exact ⟨_, List.Mem.tail _ (List.Mem.tail _ (List.Mem.tail _ (List.Mem.tail _ (List.Mem.tail _ (List.Mem.tail _ (List.Mem.head _)))))), row_mem 1 _ inb_S8x1x512_S1x1x512_1_0_0 rfl y hz⟩
    · exact ⟨_, List.Mem.tail _ (List.Mem.tail _ (List.Mem.tail _ (List.Mem.tail _ (List.Mem.tail _ (List.Mem.head _))))), row_mem 2 _ inb_S8x1x512_S1x1x512_2_0_0 rfl y hz⟩
    · exact ⟨_, List.Mem.tail _ (List.Mem.tail _ (List.Mem.tail _ (List.Mem.tail _ (List.Mem.head _)))), row_mem 3 _ inb_S8x1x512_S1x1x512_3_0_0 rfl y hz⟩
    · exact ⟨_, List.Mem.tail _ (List.Mem.tail _ (List.Mem.tail _ (List.Mem.head _))), row_mem 4 _ inb_S8x1x512_S1x1x512_4_0_0 rfl y hz⟩
    · exact ⟨_, List.Mem.tail _ (List.Mem.tail _ (List.Mem.head _)), row_mem 5 _ inb_S8x1x512_S1x1x512_5_0_0 rfl y hz⟩
    · exact ⟨_, List.Mem.tail _ (List.Mem.head _), row_mem 6 _ inb_S8x1x512_S1x1x512_6_0_0 rfl y hz⟩
    · exact ⟨_, List.Mem.head _, row_mem 7 _ inb_S8x1x512_S1x1x512_7_0_0 rfl y hz⟩

theorem trip_l : arg8.view.read (Elt Ideal) (arg8.view.writes (Elt Ideal) f8
      (tripL_k0_t1 (F := Ideal) 𝒱 c bd i arg3 harg3 arg4 harg4 arg5 harg5 arg6 harg6 arg7 harg7 arg8 harg8 arg9 harg9 X3 X4 X5 k f7 f8 f9).2.1)
    = (fun y : S8x1x512.Idx => newL (arg3.view.read (Elt Ideal) X3) (arg4.view.read (Elt Ideal) X4) (arg7.view.read (Elt Ideal) f7) (arg8.view.read (Elt Ideal) f8) (tripOf k) (y 0) (y 2)) := by
  funext y
  refine View.read_writes_apply_of_pieces arg8.view f8 (fun y : S8x1x512.Idx => newL (arg3.view.read (Elt Ideal) X3) (arg4.view.read (Elt Ideal) X4) (arg7.view.read (Elt Ideal) f7) (arg8.view.read (Elt Ideal) f8) (tripOf k) (y 0) (y 2)) _ ?_ y ?_
  · unfold tripL_k0_t1 trip_k0_t1
    dsimp only
    refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩
    · exact fun x => (congrFun (ul7 _ _ _ _) x).trans (piece_l arg3 arg4 arg7 arg8 X3 X4 k f7 f8 7 _ inb_S8x1x512_S1x1x512_7_0_0 rfl _ _ (k0_off15_eq k) _ _ rfl _ _ rfl _ _ rfl x)
    · exact fun x => (congrFun (ul6 _ _ _ _) x).trans (piece_l arg3 arg4 arg7 arg8 X3 X4 k f7 f8 6 _ inb_S8x1x512_S1x1x512_6_0_0 rfl _ _ (k0_off13_eq k) _ _ rfl _ _ rfl _ _ rfl x)
    · exact fun x => (congrFun (ul5 _ _ _ _) x).trans (piece_l arg3 arg4 arg7 arg8 X3 X4 k f7 f8 5 _ inb_S8x1x512_S1x1x512_5_0_0 rfl _ _ (k0_off11_eq k) _ _ rfl _ _ rfl _ _ rfl x)
    · exact fun x => (congrFun (ul4 _ _ _ _) x).trans (piece_l arg3 arg4 arg7 arg8 X3 X4 k f7 f8 4 _ inb_S8x1x512_S1x1x512_4_0_0 rfl _ _ (k0_off9_eq k) _ _ rfl _ _ rfl _ _ rfl x)
    · exact fun x => (congrFun (ul3 _ _ _ _) x).trans (piece_l arg3 arg4 arg7 arg8 X3 X4 k f7 f8 3 _ inb_S8x1x512_S1x1x512_3_0_0 rfl _ _ (k0_off7_eq k) _ _ rfl _ _ rfl _ _ rfl x)
    · exact fun x => (congrFun (ul2 _ _ _ _) x).trans (piece_l arg3 arg4 arg7 arg8 X3 X4 k f7 f8 2 _ inb_S8x1x512_S1x1x512_2_0_0 rfl _ _ (k0_off5_eq k) _ _ rfl _ _ rfl _ _ rfl x)
    · exact fun x => (congrFun (ul1 _ _ _ _) x).trans (piece_l arg3 arg4 arg7 arg8 X3 X4 k f7 f8 1 _ inb_S8x1x512_S1x1x512_1_0_0 rfl _ _ (k0_off3_eq k) _ _ rfl _ _ rfl _ _ rfl x)
    · exact fun x => (congrFun (ul0 _ _ _ _) x).trans (piece_l arg3 arg4 arg7 arg8 X3 X4 k f7 f8 0 _ inb_S8x1x512_S1x1x512_0_0_0 rfl _ _ (k0_off1_eq k) _ _ rfl _ _ rfl _ _ rfl x)
  · unfold tripL_k0_t1 trip_k0_t1
    dsimp only
    have hy : (y 0).val < 8 := (y 0).isLt
    generalize hz : (y 0).val = z at hy
    interval_cases z
    · exact ⟨_, List.Mem.tail _ (List.Mem.tail _ (List.Mem.tail _ (List.Mem.tail _ (List.Mem.tail _ (List.Mem.tail _ (List.Mem.tail _ (List.Mem.head _))))))), row_mem 0 _ inb_S8x1x512_S1x1x512_0_0_0 rfl y hz⟩
    · exact ⟨_, List.Mem.tail _ (List.Mem.tail _ (List.Mem.tail _ (List.Mem.tail _ (List.Mem.tail _ (List.Mem.tail _ (List.Mem.head _)))))), row_mem 1 _ inb_S8x1x512_S1x1x512_1_0_0 rfl y hz⟩
    · exact ⟨_, List.Mem.tail _ (List.Mem.tail _ (List.Mem.tail _ (List.Mem.tail _ (List.Mem.tail _ (List.Mem.head _))))), row_mem 2 _ inb_S8x1x512_S1x1x512_2_0_0 rfl y hz⟩
    · exact ⟨_, List.Mem.tail _ (List.Mem.tail _ (List.Mem.tail _ (List.Mem.tail _ (List.Mem.head _)))), row_mem 3 _ inb_S8x1x512_S1x1x512_3_0_0 rfl y hz⟩
    · exact ⟨_, List.Mem.tail _ (List.Mem.tail _ (List.Mem.tail _ (List.Mem.head _))), row_mem 4 _ inb_S8x1x512_S1x1x512_4_0_0 rfl y hz⟩
    · exact ⟨_, List.Mem.tail _ (List.Mem.tail _ (List.Mem.head _)), row_mem 5 _ inb_S8x1x512_S1x1x512_5_0_0 rfl y hz⟩
    · exact ⟨_, List.Mem.tail _ (List.Mem.head _), row_mem 6 _ inb_S8x1x512_S1x1x512_6_0_0 rfl y hz⟩
    · exact ⟨_, List.Mem.head _, row_mem 7 _ inb_S8x1x512_S1x1x512_7_0_0 rfl y hz⟩

theorem trip_a : arg9.view.read (Elt Ideal) (arg9.view.writes (Elt Ideal) f9
      (tripL_k0_t1 (F := Ideal) 𝒱 c bd i arg3 harg3 arg4 harg4 arg5 harg5 arg6 harg6 arg7 harg7 arg8 harg8 arg9 harg9 X3 X4 X5 k f7 f8 f9).2.2)
    = (fun y : S8x64x512.Idx => newA (arg3.view.read (Elt Ideal) X3) (arg4.view.read (Elt Ideal) X4) (arg5.view.read (Elt Ideal) X5) (arg7.view.read (Elt Ideal) f7) (arg9.view.read (Elt Ideal) f9) (tripOf k) (y 0) (y 1) (y 2)) := by
  funext y
  refine View.read_writes_apply_of_pieces arg9.view f9 (fun y : S8x64x512.Idx => newA (arg3.view.read (Elt Ideal) X3) (arg4.view.read (Elt Ideal) X4) (arg5.view.read (Elt Ideal) X5) (arg7.view.read (Elt Ideal) f7) (arg9.view.read (Elt Ideal) f9) (tripOf k) (y 0) (y 1) (y 2)) _ ?_ y ?_
  · unfold tripL_k0_t1 trip_k0_t1
    dsimp only
    refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩
    · exact fun x => (congrFun (ua7 _ _ _ _ _) x).trans (piece_a arg3 arg4 arg5 arg7 arg9 X3 X4 X5 k f7 f9 7 _ inb_S8x64x512_S1x64x512_7_0_0 rfl _ _ (k0_off15_eq k) _ _ rfl _ _ rfl _ _ (k0_off16_eq k) _ _ rfl x)
    · exact fun x => (congrFun (ua6 _ _ _ _ _) x).trans (piece_a arg3 arg4 arg5 arg7 arg9 X3 X4 X5 k f7 f9 6 _ inb_S8x64x512_S1x64x512_6_0_0 rfl _ _ (k0_off13_eq k) _ _ rfl _ _ rfl _ _ (k0_off14_eq k) _ _ rfl x)
    · exact fun x => (congrFun (ua5 _ _ _ _ _) x).trans (piece_a arg3 arg4 arg5 arg7 arg9 X3 X4 X5 k f7 f9 5 _ inb_S8x64x512_S1x64x512_5_0_0 rfl _ _ (k0_off11_eq k) _ _ rfl _ _ rfl _ _ (k0_off12_eq k) _ _ rfl x)
    · exact fun x => (congrFun (ua4 _ _ _ _ _) x).trans (piece_a arg3 arg4 arg5 arg7 arg9 X3 X4 X5 k f7 f9 4 _ inb_S8x64x512_S1x64x512_4_0_0 rfl _ _ (k0_off9_eq k) _ _ rfl _ _ rfl _ _ (k0_off10_eq k) _ _ rfl x)
    · exact fun x => (congrFun (ua3 _ _ _ _ _) x).trans (piece_a arg3 arg4 arg5 arg7 arg9 X3 X4 X5 k f7 f9 3 _ inb_S8x64x512_S1x64x512_3_0_0 rfl _ _ (k0_off7_eq k) _ _ rfl _ _ rfl _ _ (k0_off8_eq k) _ _ rfl x)
    · exact fun x => (congrFun (ua2 _ _ _ _ _) x).trans (piece_a arg3 arg4 arg5 arg7 arg9 X3 X4 X5 k f7 f9 2 _ inb_S8x64x512_S1x64x512_2_0_0 rfl _ _ (k0_off5_eq k) _ _ rfl _ _ rfl _ _ (k0_off6_eq k) _ _ rfl x)
    · exact fun x => (congrFun (ua1 _ _ _ _ _) x).trans (piece_a arg3 arg4 arg5 arg7 arg9 X3 X4 X5 k f7 f9 1 _ inb_S8x64x512_S1x64x512_1_0_0 rfl _ _ (k0_off3_eq k) _ _ rfl _ _ rfl _ _ (k0_off4_eq k) _ _ rfl x)
    · exact fun x => (congrFun (ua0 _ _ _ _ _) x).trans (piece_a arg3 arg4 arg5 arg7 arg9 X3 X4 X5 k f7 f9 0 _ inb_S8x64x512_S1x64x512_0_0_0 rfl _ _ (k0_off1_eq k) _ _ rfl _ _ rfl _ _ (k0_off2_eq k) _ _ rfl x)
  · unfold tripL_k0_t1 trip_k0_t1
    dsimp only
    have hy : (y 0).val < 8 := (y 0).isLt
    generalize hz : (y 0).val = z at hy
    interval_cases z
    · exact ⟨_, List.Mem.tail _ (List.Mem.tail _ (List.Mem.tail _ (List.Mem.tail _ (List.Mem.tail _ (List.Mem.tail _ (List.Mem.tail _ (List.Mem.head _))))))), acc_mem 0 _ inb_S8x64x512_S1x64x512_0_0_0 rfl y hz⟩
    · exact ⟨_, List.Mem.tail _ (List.Mem.tail _ (List.Mem.tail _ (List.Mem.tail _ (List.Mem.tail _ (List.Mem.tail _ (List.Mem.head _)))))), acc_mem 1 _ inb_S8x64x512_S1x64x512_1_0_0 rfl y hz⟩
    · exact ⟨_, List.Mem.tail _ (List.Mem.tail _ (List.Mem.tail _ (List.Mem.tail _ (List.Mem.tail _ (List.Mem.head _))))), acc_mem 2 _ inb_S8x64x512_S1x64x512_2_0_0 rfl y hz⟩
    · exact ⟨_, List.Mem.tail _ (List.Mem.tail _ (List.Mem.tail _ (List.Mem.tail _ (List.Mem.head _)))), acc_mem 3 _ inb_S8x64x512_S1x64x512_3_0_0 rfl y hz⟩
    · exact ⟨_, List.Mem.tail _ (List.Mem.tail _ (List.Mem.tail _ (List.Mem.head _))), acc_mem 4 _ inb_S8x64x512_S1x64x512_4_0_0 rfl y hz⟩
    · exact ⟨_, List.Mem.tail _ (List.Mem.tail _ (List.Mem.head _)), acc_mem 5 _ inb_S8x64x512_S1x64x512_5_0_0 rfl y hz⟩
    · exact ⟨_, List.Mem.tail _ (List.Mem.head _), acc_mem 6 _ inb_S8x64x512_S1x64x512_6_0_0 rfl y hz⟩
    · exact ⟨_, List.Mem.head _, acc_mem 7 _ inb_S8x64x512_S1x64x512_7_0_0 rfl y hz⟩

end trip

end Cert.MlaVal
end
-- ==== Proof.Softmax.lean ====
module

public import Idealize.ShloMosaic.Lib.Pipeline.ValueKit
public import Mathlib.Algebra.BigOperators.Intervals
public import Mathlib.Tactic.FieldSimp
public import Mathlib.Tactic.Ring

/-! Softmax taken over a growing prefix of the keys, with a running maximum: the sums kept at one
maximum are rescaled to the next, and at the end their quotient is the softmax's weighted sum. -/

@[expose] public section

set_option maxRecDepth 16384
noncomputable section

namespace Cert.Softmax
open Idealize.ShloMosaic

/-- After `n` keys with scores `s` and values `v`: the maximum kept is some real number, and the two
sums are those of the exponentials, and of the values times the exponentials, shifted by it. -/
def Kept {D : Type} (s : ℕ → EReal) (v : D → ℕ → EReal) (n : ℕ) (m l : EReal) (a : D → EReal) : Prop :=
  ∃ μ : ℝ, m = μ ∧ l = ∑ r ∈ Finset.range n, Ideal.exp (s r - μ) ∧ ∀ d, a d = ∑ r ∈ Finset.range n, v d r * Ideal.exp (s r - μ)

theorem kept_zero {D : Type} (s : ℕ → EReal) (v : D → ℕ → EReal) (μ : ℝ) : Kept s v 0 μ 0 (fun _ => 0) :=
  ⟨μ, rfl, by simp, fun _ => by simp⟩

theorem coe_mul_sum {ι : Type} (c : ℝ) (hc : 0 ≤ c) (t : Finset ι) (f : ι → EReal) :
    (c : EReal) * ∑ r ∈ t, f r = ∑ r ∈ t, (c : EReal) * f r := by
  classical
  induction t using Finset.induction_on with
  | empty => simp
  | insert x t hx ih =>
    rw [Finset.sum_insert hx, Finset.sum_insert hx, ← ih,
      EReal.left_distrib_of_nonneg_of_ne_top (EReal.coe_nonneg.2 hc) (EReal.coe_ne_top c)]

theorem exp_sub_coe (x y : ℝ) : Ideal.exp ((x : EReal) - y) = ((Real.exp (x - y) : ℝ) : EReal) := by
  rw [← EReal.coe_sub, Ideal.exp_coe]

/-- The maximum of a real number and finitely many real numbers is real. -/
theorem real_max {N : ℕ} (μ : ℝ) (x : Fin N → ℝ) :
    ∃ μ' : ℝ, max (μ : EReal) (Finset.fold max ⊥ (fun r => (x r : EReal)) Finset.univ) = μ' := by
  refine ⟨_, (EReal.coe_toReal ?_ ?_).symm⟩
  · refine ne_of_lt (max_lt (EReal.coe_lt_top μ) ?_)
    rw [Finset.fold_max_lt]
    exact ⟨bot_lt_top, fun r _ => EReal.coe_lt_top _⟩
  · exact ne_of_gt (lt_of_lt_of_le (EReal.bot_lt_coe μ) (le_max_left _ _))

/-- The maximum of finitely many real numbers, at least one, is real. -/
theorem real_fold {N : ℕ} (hN : 0 < N) (x : Fin N → ℝ) :
    ∃ μ' : ℝ, Finset.fold max ⊥ (fun r => (x r : EReal)) Finset.univ = μ' := by
  refine ⟨_, (EReal.coe_toReal ?_ ?_).symm⟩
  · refine ne_of_lt ?_
    rw [Finset.fold_max_lt]
    exact ⟨bot_lt_top, fun r _ => EReal.coe_lt_top _⟩
  · refine ne_of_gt ?_
    rw [Finset.lt_fold_max]
    exact Or.inr ⟨⟨0, hN⟩, Finset.mem_univ _, EReal.bot_lt_coe _⟩

/-- Rescaling the sums from one shift to the next, and adding `N` further keys. -/
theorem Kept.step {D : Type} {s : ℕ → EReal} {v : D → ℕ → EReal} {n N : ℕ} {m l m' l' : EReal} {a a' : D → EReal}
    (x : ℕ → ℝ) (hs : ∀ r, s r = x r) (h : Kept s v n m l a)
    (hm : m' = max m (Finset.fold max ⊥ (fun r : Fin N => s (n + r.val)) Finset.univ))
    (hl : l' = Ideal.exp (m - m') * l + ∑ r : Fin N, Ideal.exp (s (n + r.val) - m'))
    (ha : ∀ d, a' d = Ideal.exp (m - m') * a d + ∑ r : Fin N, v d (n + r.val) * Ideal.exp (s (n + r.val) - m')) :
    Kept s v (n + N) m' l' a' := by
  obtain ⟨μ, rfl, rfl, hA⟩ := h
  simp only [hs] at hm hl ha hA
  obtain ⟨μ', hμ'⟩ := real_max μ (fun r : Fin N => x (n + r.val))
  rw [hμ'] at hm
  subst hm
  have hc : ∀ r, Real.exp (μ - μ') * Real.exp (x r - μ) = Real.exp (x r - μ') := fun r => by
    rw [← Real.exp_add]; congr 1; ring
  refine ⟨μ', rfl, ?_, fun d => ?_⟩
  · simp only [hl, hs, exp_sub_coe, Finset.sum_range_add]
    rw [coe_mul_sum _ (Real.exp_pos _).le]
    simp only [← EReal.coe_mul, hc]
    rw [Finset.sum_range (fun i => ((Real.exp (x (n + i) - μ') : ℝ) : EReal))]
  · simp only [ha, hA, hs, exp_sub_coe, Finset.sum_range_add]
    rw [coe_mul_sum _ (Real.exp_pos _).le]
    simp only [mul_left_comm ((Real.exp (μ - μ') : ℝ) : EReal), ← EReal.coe_mul, hc]
    rw [Finset.sum_range (fun i => v d (n + i) * ((Real.exp (x (n + i) - μ') : ℝ) : EReal))]

theorem coe_sum {ι : Type} (t : Finset ι) (f : ι → ℝ) : ∑ r ∈ t, (f r : EReal) = ((∑ r ∈ t, f r : ℝ) : EReal) := by
  classical
  induction t using Finset.induction_on with
  | empty => simp
  | insert x t hx ih => rw [Finset.sum_insert hx, Finset.sum_insert hx, ih, EReal.coe_add]

theorem div_coe {y : ℝ} (hy : y ≠ 0) (x : EReal) : Ideal.div x y = x * ((y⁻¹ : ℝ) : EReal) := by
  have : (y : EReal) ≠ 0 := by exact_mod_cast hy
  simp [Ideal.div, this, EReal.coe_inv]

/-- At the end the quotient of the two sums is the sum of the values weighted by the softmax, whatever
real number the softmax shifts its scores by. -/
theorem Kept.quotient {D : Type} {s : ℕ → EReal} {v : D → ℕ → EReal} {n : ℕ} {m l : EReal} {a : D → EReal}
    (x : ℕ → ℝ) (hs : ∀ r, s r = x r) (hn : 0 < n) (h : Kept s v n m l a) (ν : ℝ) (d : D) :
    Ideal.div (a d) l = ∑ r : Fin n, v d r.val * Ideal.div (Ideal.exp (s r.val - ν)) (∑ r' : Fin n, Ideal.exp (s r'.val - ν)) := by
  obtain ⟨μ, rfl, rfl, hA⟩ := h
  simp only [hA, hs, exp_sub_coe]
  rw [Finset.sum_range (fun i => ((Real.exp (x i - μ) : ℝ) : EReal)), Finset.sum_range (fun i => v d i * ((Real.exp (x i - μ) : ℝ) : EReal))]
  have hpos : ∀ κ : ℝ, 0 < ∑ r : Fin n, Real.exp (x r.val - κ) := fun κ =>
    Finset.sum_pos (fun r _ => Real.exp_pos _) ⟨⟨0, hn⟩, Finset.mem_univ _⟩
  rw [coe_sum, coe_sum, div_coe (hpos μ).ne', mul_comm, coe_mul_sum _ (inv_pos.2 (hpos μ)).le]
  refine Finset.sum_congr rfl fun r _ => ?_
  rw [div_coe (hpos ν).ne', mul_left_comm, ← EReal.coe_mul, ← EReal.coe_mul]
  congr 2
  have e : ∀ q : ℕ, Real.exp (x q - ν) = Real.exp (μ - ν) * Real.exp (x q - μ) := fun q => by
    rw [← Real.exp_add]; congr 1; ring
  simp only [e, ← Finset.mul_sum]
  have h1 := (hpos μ).ne'
  have h2 := (Real.exp_pos (μ - ν)).ne'
  generalize (∑ r : Fin n, Real.exp (x r.val - μ)) = S at h1 ⊢
  generalize Real.exp (μ - ν) = E at h2 ⊢
  generalize Real.exp (x r.val - μ) = w
  field_simp

end Cert.Softmax
end
-- ==== Proof.MlaKept.lean ====
module

public import proofs.«01_k».proof.Proof.MlaLoop
public import proofs.«01_k».proof.Proof.Softmax

/-! The inner loop, trip by trip: each trip takes 256 further keys into the running sums. -/

@[expose] public section

set_option maxRecDepth 16384
noncomputable section

namespace Cert.MlaVal
open Cert.MlaIdeal Cert.MlaIdeal.Gen Idealize.ShloMosaic Idealize.ShloMosaic.TcCoe Idealize.SL.Sem
open Idealize.ShloMosaic.Pipeline (Dat)
open Cert.Softmax

/-- The three running buffers hold, for every head and query of a tile, the sums over the first `n` keys. -/
def KeptAll (s : Fin 8 → Fin 512 → ℕ → EReal) (v : Fin 8 → Fin 64 → ℕ → EReal) (n : ℕ)
    (M L : FVec Ideal S8x1x512 .f32) (A : FVec Ideal S8x64x512 .f32) : Prop :=
  ∀ h q, Kept (s h q) (v h) n (M (ix3 h 0 q)) (L (ix3 h 0 q)) (fun d => A (ix3 h d q))

theorem bot_bits : Ideal.ofBits .f32 4286578688#32 = ⊥ := by simp [Ideal.ofBits, Ideal.ieee]

theorem KeptAll.trip {s : Fin 8 → Fin 512 → ℕ → EReal} {v : Fin 8 → Fin 64 → ℕ → EReal} {n : ℕ}
    {M L : FVec Ideal S8x1x512 .f32} {A : FVec Ideal S8x64x512 .f32}
    (x : Fin 8 → Fin 512 → ℕ → ℝ) (hs : ∀ h q r, s h q r = x h q r) (H : KeptAll s v n M L A)
    (X3 : FVec Ideal S1x512x1024 .bf16) (X4 : FVec Ideal S1x1024x1024 .bf16) (X5 : FVec Ideal S1x4x512x256 .bf16) (k : Fin 4)
    (hk : ∀ h q (r : Fin 256), scB X3 X4 h (keyOf k r) q = s h q (n + r.val))
    (hv : ∀ h d (r : Fin 256), X5 (ix4 0 k (valOf h d) r) = v h d (n + r.val)) :
    KeptAll s v (n + 256) (fun y => newM X3 X4 M k (y 0) (y 2)) (fun y => newL X3 X4 M L k (y 0) (y 2))
      (fun y => newA X3 X4 X5 M A k (y 0) (y 1) (y 2)) := fun h q => by
  refine Kept.step (x h q) (hs h q) (H h q) ?_ ?_ fun d => ?_
  · show newM X3 X4 M k h q = _
    unfold newM
    rw [bot_bits]
    simp only [hk]
  · show newL X3 X4 M L k h q = Ideal.exp (_ - newM X3 X4 M k h q) * _ + ∑ r : Fin 256, Ideal.exp (_ - newM X3 X4 M k h q)
    unfold newL
    simp only [hk]
  · show newA X3 X4 X5 M A k h d q = Ideal.exp (_ - newM X3 X4 M k h q) * _ + ∑ r : Fin 256, _ * Ideal.exp (_ - newM X3 X4 M k h q)
    unfold newA
    simp only [hk, hv]

section loop
variable (𝒱 : Variants) (c : Dev nD) (bd : Option 𝒱.V) (i : grid0.Coords)
  (arg3 : Memref sig .tc .vmem S1x512x1024 .bf16) (harg3 : arg3.IsWhole) (arg4 : Memref sig .tc .vmem S1x1024x1024 .bf16) (harg4 : arg4.IsWhole)
  (arg5 : Memref sig .tc .vmem S1x4x512x256 .bf16) (harg5 : arg5.IsWhole) (arg6 : Memref sig .tc .vmem S1x512x512 .bf16) (harg6 : arg6.IsWhole)
  (arg7 : Memref sig .tc .vmem S8x1x512 .f32) (harg7 : arg7.IsWhole) (arg8 : Memref sig .tc .vmem S8x1x512 .f32) (harg8 : arg8.IsWhole)
  (arg9 : Memref sig .tc .vmem S8x64x512 .f32) (harg9 : arg9.IsWhole)
  (X3 : BufTy.Contents (Elt Ideal) arg3.view.ty) (X4 : BufTy.Contents (Elt Ideal) arg4.view.ty) (X5 : BufTy.Contents (Elt Ideal) arg5.view.ty)
  (G7 : BufTy.Contents (Elt Ideal) arg7.view.ty) (G8 : BufTy.Contents (Elt Ideal) arg8.view.ty) (G9 : BufTy.Contents (Elt Ideal) arg9.view.ty)

/-- After `j` trips the buffers hold the sums over `256 j` further keys. -/
theorem loop_kept {s : Fin 8 → Fin 512 → ℕ → EReal} {v : Fin 8 → Fin 64 → ℕ → EReal} {n : ℕ}
    (x : Fin 8 → Fin 512 → ℕ → ℝ) (hs : ∀ h q r, s h q r = x h q r)
    (H : KeptAll s v n (arg7.view.read (Elt Ideal) G7) (arg8.view.read (Elt Ideal) G8) (arg9.view.read (Elt Ideal) G9))
    (hk : ∀ h q (k : Fin 4) (r : Fin 256), scB (arg3.view.read (Elt Ideal) X3) (arg4.view.read (Elt Ideal) X4) h (keyOf k r) q = s h q (n + 256 * k.val + r.val))
    (hv : ∀ h d (k : Fin 4) (r : Fin 256), (arg5.view.read (Elt Ideal) X5 : FVec Ideal S1x4x512x256 .bf16) (ix4 0 k (valOf h d) r) = v h d (n + 256 * k.val + r.val))
    (j : ℕ) (hj : j ≤ k0_t1_loop.trips) :
    KeptAll s v (n + 256 * j)
      (arg7.view.read (Elt Ideal) (arg7.view.writes (Elt Ideal) G7 (pb_k0_t1 (F := Ideal) 𝒱 c bd i arg3 harg3 arg4 harg4 arg5 harg5 arg6 harg6 arg7 harg7 arg8 harg8 arg9 harg9 X3 X4 X5 G7 G8 G9 j).1))
      (arg8.view.read (Elt Ideal) (arg8.view.writes (Elt Ideal) G8 (pb_k0_t1 (F := Ideal) 𝒱 c bd i arg3 harg3 arg4 harg4 arg5 harg5 arg6 harg6 arg7 harg7 arg8 harg8 arg9 harg9 X3 X4 X5 G7 G8 G9 j).2.1))
      (arg9.view.read (Elt Ideal) (arg9.view.writes (Elt Ideal) G9 (pb_k0_t1 (F := Ideal) 𝒱 c bd i arg3 harg3 arg4 harg4 arg5 harg5 arg6 harg6 arg7 harg7 arg8 harg8 arg9 harg9 X3 X4 X5 G7 G8 G9 j).2.2)) := by
  induction j with
  | zero => exact H
  | succ j ih =>
    have e := pb_k0_t1_succ (F := Ideal) 𝒱 c bd i arg3 harg3 arg4 harg4 arg5 harg5 arg6 harg6 arg7 harg7 arg8 harg8 arg9 harg9 X3 X4 X5 G7 G8 G9 ⟨j, hj⟩
    dsimp only at e
    rw [e]
    dsimp only
    rw [View.writes_append, View.writes_append, View.writes_append, trip_m, trip_l, trip_a]
    exact (ih (Nat.le_of_succ_le hj)).trip x hs _ _ _ (tripOf ⟨j, hj⟩) (fun h q r => hk h q _ r) (fun h d r => hv h d _ r)

end loop

end Cert.MlaVal
end
-- ==== Proof.MlaCase.lean ====
module

public import proofs.«01_k».proof.Proof.MlaKept
public import proofs.«01_k».proof.Proof.Gen.MlaIdeal.Value

/-! What a grid point leaves in the running buffers: 1024 further keys. -/

@[expose] public section

set_option maxRecDepth 16384
noncomputable section

namespace Cert.MlaVal
open Cert.MlaIdeal Cert.MlaIdeal.Gen Idealize.ShloMosaic Idealize.ShloMosaic.TcCoe Idealize.SL.Sem
open Idealize.ShloMosaic.Pipeline (Dat)
open Cert.Softmax

variable (c : Dev nD) (i : grid0.Coords)
  (arg3 : Memref sig .tc .vmem S1x512x1024 .bf16) (harg3 : arg3.IsWhole) (arg4 : Memref sig .tc .vmem S1x1024x1024 .bf16) (harg4 : arg4.IsWhole)
  (arg5 : Memref sig .tc .vmem S1x4x512x256 .bf16) (harg5 : arg5.IsWhole) (arg6 : Memref sig .tc .vmem S1x512x512 .bf16) (harg6 : arg6.IsWhole)
  (arg7 : Memref sig .tc .vmem S8x1x512 .f32) (harg7 : arg7.IsWhole) (arg8 : Memref sig .tc .vmem S8x1x512 .f32) (harg8 : arg8.IsWhole)
  (arg9 : Memref sig .tc .vmem S8x64x512 .f32) (harg9 : arg9.IsWhole)
  (x0 : FVec Ideal S1x512x1024 .bf16) (x1 : FVec Ideal S1x1024x1024 .bf16) (x2 : FVec Ideal S1x4x512x256 .bf16)
  (xs0 xs1 : FVec Ideal S8x1x512 .f32) (xs2 : FVec Ideal S8x64x512 .f32)

theorem full {S : Shape} {e : EltTy} {sp : Space} (v : View sig .tc sp S e) (f : v.ty.Contents (Elt Ideal)) {off : Fin S.rank → ℕ} (h : off = fun _ => 0)
    (inb : ∀ a, off a + S.size a ≤ S.size a) (w : S.Idx → Elt Ideal e) : v.read (Elt Ideal) (v.writes (Elt Ideal) f [⟨Rect.unit off S.size inb, w⟩]) = w := by
  subst h
  rw [View.read_writes_eq_canon v f _ (fun y => ⟨_, List.mem_singleton_self _, by
    show y ∈ (Rect.whole S).set; rw [Rect.set_whole]; exact Finset.mem_univ y⟩), View.canon_unit_zero rfl]

theorem pay1_at (y : S8x1x512.Idx) : k0_pay1 (F := Ideal) y = Ideal.ofBits .f32 4048155338#32 := by pointwise [k0_pay1]
theorem pay2_at (y : S8x1x512.Idx) : k0_pay2 (F := Ideal) y = 0 := by pointwise [k0_pay2]
theorem pay3_at (y : S8x64x512.Idx) : k0_pay3 (F := Ideal) y = 0 := by pointwise [k0_pay3]

theorem zeros3 : (![0, 0, 0] : Fin 3 → ℕ) = fun _ => 0 := by funext a; fin_cases a <;> rfl

theorem trips_eq : k0_t1_loop.trips = 4 := by decide +kernel

/-- A point past a query tile's first. -/
theorem kept_B (hc0 : ¬cond0_0 i) (hc1 : ¬cond0_1 i) {s : Fin 8 → Fin 512 → ℕ → EReal} {v : Fin 8 → Fin 64 → ℕ → EReal} {n : ℕ}
    (x : Fin 8 → Fin 512 → ℕ → ℝ) (hs : ∀ h q r, s h q r = x h q r) (H : KeptAll s v n xs0 xs1 xs2)
    (hk : ∀ h q (k : Fin 4) (r : Fin 256), scB x0 x1 h (keyOf k r) q = s h q (n + 256 * k.val + r.val))
    (hv : ∀ h d (k : Fin 4) (r : Fin 256), x2 (ix4 0 k (valOf h d) r) = v h d (n + 256 * k.val + r.val)) :
    KeptAll s v (n + 1024) (sout0_B_0 (F := Ideal) c i arg3 harg3 arg4 harg4 arg5 harg5 arg6 harg6 arg7 harg7 arg8 harg8 arg9 harg9 hc0 hc1 x0 x1 x2 xs0 xs1 xs2) (sout0_B_1 (F := Ideal) c i arg3 harg3 arg4 harg4 arg5 harg5 arg6 harg6 arg7 harg7 arg8 harg8 arg9 harg9 hc0 hc1 x0 x1 x2 xs0 xs1 xs2) (sout0_B_2 (F := Ideal) c i arg3 harg3 arg4 harg4 arg5 harg5 arg6 harg6 arg7 harg7 arg8 harg8 arg9 harg9 hc0 hc1 x0 x1 x2 xs0 xs1 xs2) := by
  have e0 : sout0_B_0 (F := Ideal) c i arg3 harg3 arg4 harg4 arg5 harg5 arg6 harg6 arg7 harg7 arg8 harg8 arg9 harg9 hc0 hc1 x0 x1 x2 xs0 xs1 xs2 = arg7.view.read (Elt Ideal) (arg7.view.writes (Elt Ideal) (harg7.unread xs0) (kernelRun0_B (F := Ideal) c i arg3 harg3 arg4 harg4 arg5 harg5 arg6 harg6 arg7 harg7 arg8 harg8 arg9 harg9 hc0 hc1 x0 x1 x2 xs0 xs1 xs2).2.1) :=
    (View.read_writes_eq_canon (Val := Elt Ideal) _ _ _ (scover0_B_0 (F := Ideal) c i arg3 harg3 arg4 harg4 arg5 harg5 arg6 harg6 arg7 harg7 arg8 harg8 arg9 harg9 hc0 hc1 x0 x1 x2 xs0 xs1 xs2)).trans (View.read_writes_eq_canon (Val := Elt Ideal) _ _ _ (scover0_B_0 (F := Ideal) c i arg3 harg3 arg4 harg4 arg5 harg5 arg6 harg6 arg7 harg7 arg8 harg8 arg9 harg9 hc0 hc1 x0 x1 x2 xs0 xs1 xs2)).symm
  have p0 : (kernelRun0_B (F := Ideal) c i arg3 harg3 arg4 harg4 arg5 harg5 arg6 harg6 arg7 harg7 arg8 harg8 arg9 harg9 hc0 hc1 x0 x1 x2 xs0 xs1 xs2).2.1 = (pb_k0_t1 (F := Ideal) Variants.none c none i arg3 harg3 arg4 harg4 arg5 harg5 arg6 harg6 arg7 harg7 arg8 harg8 arg9 harg9 (harg3.unread x0) (harg4.unread x1) (harg5.unread x2) (harg7.unread xs0) (harg8.unread xs1) (harg9.unread xs2) k0_t1_loop.trips).1 := by
    unfold kernelRun0_B; rfl
  have e1 : sout0_B_1 (F := Ideal) c i arg3 harg3 arg4 harg4 arg5 harg5 arg6 harg6 arg7 harg7 arg8 harg8 arg9 harg9 hc0 hc1 x0 x1 x2 xs0 xs1 xs2 = arg8.view.read (Elt Ideal) (arg8.view.writes (Elt Ideal) (harg8.unread xs1) (kernelRun0_B (F := Ideal) c i arg3 harg3 arg4 harg4 arg5 harg5 arg6 harg6 arg7 harg7 arg8 harg8 arg9 harg9 hc0 hc1 x0 x1 x2 xs0 xs1 xs2).2.2.1) :=
    (View.read_writes_eq_canon (Val := Elt Ideal) _ _ _ (scover0_B_1 (F := Ideal) c i arg3 harg3 arg4 harg4 arg5 harg5 arg6 harg6 arg7 harg7 arg8 harg8 arg9 harg9 hc0 hc1 x0 x1 x2 xs0 xs1 xs2)).trans (View.read_writes_eq_canon (Val := Elt Ideal) _ _ _ (scover0_B_1 (F := Ideal) c i arg3 harg3 arg4 harg4 arg5 harg5 arg6 harg6 arg7 harg7 arg8 harg8 arg9 harg9 hc0 hc1 x0 x1 x2 xs0 xs1 xs2)).symm
  have p1 : (kernelRun0_B (F := Ideal) c i arg3 harg3 arg4 harg4 arg5 harg5 arg6 harg6 arg7 harg7 arg8 harg8 arg9 harg9 hc0 hc1 x0 x1 x2 xs0 xs1 xs2).2.2.1 = (pb_k0_t1 (F := Ideal) Variants.none c none i arg3 harg3 arg4 harg4 arg5 harg5 arg6 harg6 arg7 harg7 arg8 harg8 arg9 harg9 (harg3.unread x0) (harg4.unread x1) (harg5.unread x2) (harg7.unread xs0) (harg8.unread xs1) (harg9.unread xs2) k0_t1_loop.trips).2.1 := by
    unfold kernelRun0_B; rfl
  have e2 : sout0_B_2 (F := Ideal) c i arg3 harg3 arg4 harg4 arg5 harg5 arg6 harg6 arg7 harg7 arg8 harg8 arg9 harg9 hc0 hc1 x0 x1 x2 xs0 xs1 xs2 = arg9.view.read (Elt Ideal) (arg9.view.writes (Elt Ideal) (harg9.unread xs2) (kernelRun0_B (F := Ideal) c i arg3 harg3 arg4 harg4 arg5 harg5 arg6 harg6 arg7 harg7 arg8 harg8 arg9 harg9 hc0 hc1 x0 x1 x2 xs0 xs1 xs2).2.2.2.1) :=
    (View.read_writes_eq_canon (Val := Elt Ideal) _ _ _ (scover0_B_2 (F := Ideal) c i arg3 harg3 arg4 harg4 arg5 harg5 arg6 harg6 arg7 harg7 arg8 harg8 arg9 harg9 hc0 hc1 x0 x1 x2 xs0 xs1 xs2)).trans (View.read_writes_eq_canon (Val := Elt Ideal) _ _ _ (scover0_B_2 (F := Ideal) c i arg3 harg3 arg4 harg4 arg5 harg5 arg6 harg6 arg7 harg7 arg8 harg8 arg9 harg9 hc0 hc1 x0 x1 x2 xs0 xs1 xs2)).symm
  have p2 : (kernelRun0_B (F := Ideal) c i arg3 harg3 arg4 harg4 arg5 harg5 arg6 harg6 arg7 harg7 arg8 harg8 arg9 harg9 hc0 hc1 x0 x1 x2 xs0 xs1 xs2).2.2.2.1 = (pb_k0_t1 (F := Ideal) Variants.none c none i arg3 harg3 arg4 harg4 arg5 harg5 arg6 harg6 arg7 harg7 arg8 harg8 arg9 harg9 (harg3.unread x0) (harg4.unread x1) (harg5.unread x2) (harg7.unread xs0) (harg8.unread xs1) (harg9.unread xs2) k0_t1_loop.trips).2.2 := by
    unfold kernelRun0_B; rfl
  rw [e0.trans (congrArg (fun L => arg7.view.read (Elt Ideal) (arg7.view.writes (Elt Ideal) (harg7.unread xs0) L)) p0), e1.trans (congrArg (fun L => arg8.view.read (Elt Ideal) (arg8.view.writes (Elt Ideal) (harg8.unread xs1) L)) p1),
    e2.trans (congrArg (fun L => arg9.view.read (Elt Ideal) (arg9.view.writes (Elt Ideal) (harg9.unread xs2) L)) p2), trips_eq]
  exact loop_kept Variants.none c none i arg3 harg3 arg4 harg4 arg5 harg5 arg6 harg6 arg7 harg7 arg8 harg8 arg9 harg9 (harg3.unread x0) (harg4.unread x1) (harg5.unread x2)
    (harg7.unread xs0) (harg8.unread xs1) (harg9.unread xs2) x hs (by rw [harg7.read_unread, harg8.read_unread, harg9.read_unread]; exact H)
    (by rw [harg3.read_unread, harg4.read_unread]; exact hk) (by rw [harg5.read_unread]; exact hv) 4 (le_of_eq trips_eq.symm)

/-- A point past a query tile's first. -/
theorem kept_C (hc0 : ¬cond0_0 i) (hc1 : cond0_1 i) {s : Fin 8 → Fin 512 → ℕ → EReal} {v : Fin 8 → Fin 64 → ℕ → EReal} {n : ℕ}
    (x : Fin 8 → Fin 512 → ℕ → ℝ) (hs : ∀ h q r, s h q r = x h q r) (H : KeptAll s v n xs0 xs1 xs2)
    (hk : ∀ h q (k : Fin 4) (r : Fin 256), scB x0 x1 h (keyOf k r) q = s h q (n + 256 * k.val + r.val))
    (hv : ∀ h d (k : Fin 4) (r : Fin 256), x2 (ix4 0 k (valOf h d) r) = v h d (n + 256 * k.val + r.val)) :
    KeptAll s v (n + 1024) (sout0_C_0 (F := Ideal) c i arg3 harg3 arg4 harg4 arg5 harg5 arg6 harg6 arg7 harg7 arg8 harg8 arg9 harg9 hc0 hc1 x0 x1 x2 xs0 xs1 xs2) (sout0_C_1 (F := Ideal) c i arg3 harg3 arg4 harg4 arg5 harg5 arg6 harg6 arg7 harg7 arg8 harg8 arg9 harg9 hc0 hc1 x0 x1 x2 xs0 xs1 xs2) (sout0_C_2 (F := Ideal) c i arg3 harg3 arg4 harg4 arg5 harg5 arg6 harg6 arg7 harg7 arg8 harg8 arg9 harg9 hc0 hc1 x0 x1 x2 xs0 xs1 xs2) := by
  have e0 : sout0_C_0 (F := Ideal) c i arg3 harg3 arg4 harg4 arg5 harg5 arg6 harg6 arg7 harg7 arg8 harg8 arg9 harg9 hc0 hc1 x0 x1 x2 xs0 xs1 xs2 = arg7.view.read (Elt Ideal) (arg7.view.writes (Elt Ideal) (harg7.unread xs0) (kernelRun0_C (F := Ideal) c i arg3 harg3 arg4 harg4 arg5 harg5 arg6 harg6 arg7 harg7 arg8 harg8 arg9 harg9 hc0 hc1 x0 x1 x2 xs0 xs1 xs2).2.1) :=
    (View.read_writes_eq_canon (Val := Elt Ideal) _ _ _ (scover0_C_0 (F := Ideal) c i arg3 harg3 arg4 harg4 arg5 harg5 arg6 harg6 arg7 harg7 arg8 harg8 arg9 harg9 hc0 hc1 x0 x1 x2 xs0 xs1 xs2)).trans (View.read_writes_eq_canon (Val := Elt Ideal) _ _ _ (scover0_C_0 (F := Ideal) c i arg3 harg3 arg4 harg4 arg5 harg5 arg6 harg6 arg7 harg7 arg8 harg8 arg9 harg9 hc0 hc1 x0 x1 x2 xs0 xs1 xs2)).symm
  have p0 : (kernelRun0_C (F := Ideal) c i arg3 harg3 arg4 harg4 arg5 harg5 arg6 harg6 arg7 harg7 arg8 harg8 arg9 harg9 hc0 hc1 x0 x1 x2 xs0 xs1 xs2).2.1 = (pb_k0_t1 (F := Ideal) Variants.none c none i arg3 harg3 arg4 harg4 arg5 harg5 arg6 harg6 arg7 harg7 arg8 harg8 arg9 harg9 (harg3.unread x0) (harg4.unread x1) (harg5.unread x2) (harg7.unread xs0) (harg8.unread xs1) (harg9.unread xs2) k0_t1_loop.trips).1 := by
    unfold kernelRun0_C; rfl
  have e1 : sout0_C_1 (F := Ideal) c i arg3 harg3 arg4 harg4 arg5 harg5 arg6 harg6 arg7 harg7 arg8 harg8 arg9 harg9 hc0 hc1 x0 x1 x2 xs0 xs1 xs2 = arg8.view.read (Elt Ideal) (arg8.view.writes (Elt Ideal) (harg8.unread xs1) (kernelRun0_C (F := Ideal) c i arg3 harg3 arg4 harg4 arg5 harg5 arg6 harg6 arg7 harg7 arg8 harg8 arg9 harg9 hc0 hc1 x0 x1 x2 xs0 xs1 xs2).2.2.1) :=
    (View.read_writes_eq_canon (Val := Elt Ideal) _ _ _ (scover0_C_1 (F := Ideal) c i arg3 harg3 arg4 harg4 arg5 harg5 arg6 harg6 arg7 harg7 arg8 harg8 arg9 harg9 hc0 hc1 x0 x1 x2 xs0 xs1 xs2)).trans (View.read_writes_eq_canon (Val := Elt Ideal) _ _ _ (scover0_C_1 (F := Ideal) c i arg3 harg3 arg4 harg4 arg5 harg5 arg6 harg6 arg7 harg7 arg8 harg8 arg9 harg9 hc0 hc1 x0 x1 x2 xs0 xs1 xs2)).symm
  have p1 : (kernelRun0_C (F := Ideal) c i arg3 harg3 arg4 harg4 arg5 harg5 arg6 harg6 arg7 harg7 arg8 harg8 arg9 harg9 hc0 hc1 x0 x1 x2 xs0 xs1 xs2).2.2.1 = (pb_k0_t1 (F := Ideal) Variants.none c none i arg3 harg3 arg4 harg4 arg5 harg5 arg6 harg6 arg7 harg7 arg8 harg8 arg9 harg9 (harg3.unread x0) (harg4.unread x1) (harg5.unread x2) (harg7.unread xs0) (harg8.unread xs1) (harg9.unread xs2) k0_t1_loop.trips).2.1 := by
    unfold kernelRun0_C; rfl
  have e2 : sout0_C_2 (F := Ideal) c i arg3 harg3 arg4 harg4 arg5 harg5 arg6 harg6 arg7 harg7 arg8 harg8 arg9 harg9 hc0 hc1 x0 x1 x2 xs0 xs1 xs2 = arg9.view.read (Elt Ideal) (arg9.view.writes (Elt Ideal) (harg9.unread xs2) (kernelRun0_C (F := Ideal) c i arg3 harg3 arg4 harg4 arg5 harg5 arg6 harg6 arg7 harg7 arg8 harg8 arg9 harg9 hc0 hc1 x0 x1 x2 xs0 xs1 xs2).2.2.2.1) :=
    (View.read_writes_eq_canon (Val := Elt Ideal) _ _ _ (scover0_C_2 (F := Ideal) c i arg3 harg3 arg4 harg4 arg5 harg5 arg6 harg6 arg7 harg7 arg8 harg8 arg9 harg9 hc0 hc1 x0 x1 x2 xs0 xs1 xs2)).trans (View.read_writes_eq_canon (Val := Elt Ideal) _ _ _ (scover0_C_2 (F := Ideal) c i arg3 harg3 arg4 harg4 arg5 harg5 arg6 harg6 arg7 harg7 arg8 harg8 arg9 harg9 hc0 hc1 x0 x1 x2 xs0 xs1 xs2)).symm
  have p2 : (kernelRun0_C (F := Ideal) c i arg3 harg3 arg4 harg4 arg5 harg5 arg6 harg6 arg7 harg7 arg8 harg8 arg9 harg9 hc0 hc1 x0 x1 x2 xs0 xs1 xs2).2.2.2.1 = (pb_k0_t1 (F := Ideal) Variants.none c none i arg3 harg3 arg4 harg4 arg5 harg5 arg6 harg6 arg7 harg7 arg8 harg8 arg9 harg9 (harg3.unread x0) (harg4.unread x1) (harg5.unread x2) (harg7.unread xs0) (harg8.unread xs1) (harg9.unread xs2) k0_t1_loop.trips).2.2 := by
    unfold kernelRun0_C; rfl
  rw [e0.trans (congrArg (fun L => arg7.view.read (Elt Ideal) (arg7.view.writes (Elt Ideal) (harg7.unread xs0) L)) p0), e1.trans (congrArg (fun L => arg8.view.read (Elt Ideal) (arg8.view.writes (Elt Ideal) (harg8.unread xs1) L)) p1),
    e2.trans (congrArg (fun L => arg9.view.read (Elt Ideal) (arg9.view.writes (Elt Ideal) (harg9.unread xs2) L)) p2), trips_eq]
  exact loop_kept Variants.none c none i arg3 harg3 arg4 harg4 arg5 harg5 arg6 harg6 arg7 harg7 arg8 harg8 arg9 harg9 (harg3.unread x0) (harg4.unread x1) (harg5.unread x2)
    (harg7.unread xs0) (harg8.unread xs1) (harg9.unread xs2) x hs (by rw [harg7.read_unread, harg8.read_unread, harg9.read_unread]; exact H)
    (by rw [harg3.read_unread, harg4.read_unread]; exact hk) (by rw [harg5.read_unread]; exact hv) 4 (le_of_eq trips_eq.symm)

/-- The first point of a query tile: the buffers start at a real number and zeros. -/
theorem start_real : ∃ μ : ℝ, Ideal.ofBits .f32 4048155338#32 = μ := by
  refine ⟨_, (EReal.coe_toReal ?_ ?_).symm⟩ <;> simp [Ideal.ofBits, Ideal.ieee] <;> norm_cast <;> exact fun h => by simp at h

theorem kept_A (hc0 : cond0_0 i) (hc1 : ¬cond0_1 i) {s : Fin 8 → Fin 512 → ℕ → EReal} {v : Fin 8 → Fin 64 → ℕ → EReal} {n : ℕ} (hn : n = 0)
    (x : Fin 8 → Fin 512 → ℕ → ℝ) (hs : ∀ h q r, s h q r = x h q r)
    (hk : ∀ h q (k : Fin 4) (r : Fin 256), scB x0 x1 h (keyOf k r) q = s h q (n + 256 * k.val + r.val))
    (hv : ∀ h d (k : Fin 4) (r : Fin 256), x2 (ix4 0 k (valOf h d) r) = v h d (n + 256 * k.val + r.val)) :
    KeptAll s v (n + 1024) (sout0_A_0 (F := Ideal) c i arg3 harg3 arg4 harg4 arg5 harg5 arg6 harg6 arg7 harg7 arg8 harg8 arg9 harg9 hc0 hc1 x0 x1 x2) (sout0_A_1 (F := Ideal) c i arg3 harg3 arg4 harg4 arg5 harg5 arg6 harg6 arg7 harg7 arg8 harg8 arg9 harg9 hc0 hc1 x0 x1 x2) (sout0_A_2 (F := Ideal) c i arg3 harg3 arg4 harg4 arg5 harg5 arg6 harg6 arg7 harg7 arg8 harg8 arg9 harg9 hc0 hc1 x0 x1 x2) := by
  have e0 : sout0_A_0 (F := Ideal) c i arg3 harg3 arg4 harg4 arg5 harg5 arg6 harg6 arg7 harg7 arg8 harg8 arg9 harg9 hc0 hc1 x0 x1 x2 = arg7.view.read (Elt Ideal) (arg7.view.writes (Elt Ideal) arg7.view.junk (kernelRun0_A (F := Ideal) c i arg3 harg3 arg4 harg4 arg5 harg5 arg6 harg6 arg7 harg7 arg8 harg8 arg9 harg9 hc0 hc1 x0 x1 x2).2.1) :=
    (View.read_writes_eq_canon (Val := Elt Ideal) _ _ _ (scover0_A_0 (F := Ideal) c i arg3 harg3 arg4 harg4 arg5 harg5 arg6 harg6 arg7 harg7 arg8 harg8 arg9 harg9 hc0 hc1 x0 x1 x2)).trans (View.read_writes_eq_canon (Val := Elt Ideal) _ _ _ (scover0_A_0 (F := Ideal) c i arg3 harg3 arg4 harg4 arg5 harg5 arg6 harg6 arg7 harg7 arg8 harg8 arg9 harg9 hc0 hc1 x0 x1 x2)).symm
  have e1 : sout0_A_1 (F := Ideal) c i arg3 harg3 arg4 harg4 arg5 harg5 arg6 harg6 arg7 harg7 arg8 harg8 arg9 harg9 hc0 hc1 x0 x1 x2 = arg8.view.read (Elt Ideal) (arg8.view.writes (Elt Ideal) arg8.view.junk (kernelRun0_A (F := Ideal) c i arg3 harg3 arg4 harg4 arg5 harg5 arg6 harg6 arg7 harg7 arg8 harg8 arg9 harg9 hc0 hc1 x0 x1 x2).2.2.1) :=
    (View.read_writes_eq_canon (Val := Elt Ideal) _ _ _ (scover0_A_1 (F := Ideal) c i arg3 harg3 arg4 harg4 arg5 harg5 arg6 harg6 arg7 harg7 arg8 harg8 arg9 harg9 hc0 hc1 x0 x1 x2)).trans (View.read_writes_eq_canon (Val := Elt Ideal) _ _ _ (scover0_A_1 (F := Ideal) c i arg3 harg3 arg4 harg4 arg5 harg5 arg6 harg6 arg7 harg7 arg8 harg8 arg9 harg9 hc0 hc1 x0 x1 x2)).symm
  have e2 : sout0_A_2 (F := Ideal) c i arg3 harg3 arg4 harg4 arg5 harg5 arg6 harg6 arg7 harg7 arg8 harg8 arg9 harg9 hc0 hc1 x0 x1 x2 = arg9.view.read (Elt Ideal) (arg9.view.writes (Elt Ideal) arg9.view.junk (kernelRun0_A (F := Ideal) c i arg3 harg3 arg4 harg4 arg5 harg5 arg6 harg6 arg7 harg7 arg8 harg8 arg9 harg9 hc0 hc1 x0 x1 x2).2.2.2.1) :=
    (View.read_writes_eq_canon (Val := Elt Ideal) _ _ _ (scover0_A_2 (F := Ideal) c i arg3 harg3 arg4 harg4 arg5 harg5 arg6 harg6 arg7 harg7 arg8 harg8 arg9 harg9 hc0 hc1 x0 x1 x2)).trans (View.read_writes_eq_canon (Val := Elt Ideal) _ _ _ (scover0_A_2 (F := Ideal) c i arg3 harg3 arg4 harg4 arg5 harg5 arg6 harg6 arg7 harg7 arg8 harg8 arg9 harg9 hc0 hc1 x0 x1 x2)).symm
  rw [e0, e1, e2]
  unfold kernelRun0_A
  dsimp only
  rw [View.writes_append, View.writes_append, View.writes_append]
  refine loop_kept Variants.none c none i arg3 harg3 arg4 harg4 arg5 harg5 arg6 harg6 arg7 harg7 arg8 harg8 arg9 harg9 (harg3.unread x0) (harg4.unread x1) (harg5.unread x2)
    _ _ _ x hs ?_
    (by rw [harg3.read_unread, harg4.read_unread]; exact hk) (by rw [harg5.read_unread]; exact hv) 4 (le_of_eq trips_eq.symm)
  subst hn
  intro h q
  unfold kernelRun0_A.sl.HS0_1 kernelRun0_A.sl.HS1_1 kernelRun0_A.sl.HS2_1
  rw [full (S := S8x1x512) _ _ zeros3, full (S := S8x1x512) _ _ zeros3, full (S := S8x64x512) _ _ zeros3]
  obtain ⟨μ, hμ⟩ := start_real
  rw [pay1_at, pay2_at, hμ]
  simp only [pay3_at]
  exact kept_zero _ _ μ

end Cert.MlaVal
end
-- ==== Proof.MlaFinal.lean ====
module

public import proofs.«01_k».proof.Proof.MlaCase
public import proofs.«01_k».proof.Proof.Gen.MlaIdeal.Value

/-! What the last point of a query tile stores: the quotients of the running sums. -/

@[expose] public section

set_option maxRecDepth 16384
noncomputable section

namespace Cert.MlaVal
open Cert.MlaIdeal Cert.MlaIdeal.Gen Idealize.ShloMosaic Idealize.ShloMosaic.TcCoe Idealize.SL.Sem
open Idealize.ShloMosaic.Pipeline (Dat)
open Cert.Softmax

/-- The quotient of the sums, head by head along the last axis. -/
def quot (A : FVec Ideal S8x64x512 .f32) (L : FVec Ideal S8x1x512 .f32) (y : S1x512x512.Idx) : EReal :=
  Ideal.div (A (ix3 ⟨(y 2).val / 64, by have := (y 2).isLt; simp at this; omega⟩ ⟨(y 2).val % 64, by omega⟩ (y 1)))
    (L (ix3 ⟨(y 2).val / 64, by have := (y 2).isLt; simp at this; omega⟩ 0 (y 1)))

/-- Two heads side by side. -/
def duo (a : FVec Ideal S1x64x512 .f32) (l : FVec Ideal S1x1x512 .f32) (b : FVec Ideal S1x64x512 .f32) (r : FVec Ideal S1x1x512 .f32) (q : Fin 512) (d : Fin 128) : EReal :=
  if h : d.val < 64 then Ideal.div (a (ix3 0 ⟨d.val, h⟩ q)) (l (ix3 0 0 q)) else Ideal.div (b (ix3 0 ⟨d.val - 64, by omega⟩ q)) (r (ix3 0 0 q))

theorem duo0 (a b : FVec Ideal S1x64x512 .f32) (l r : FVec Ideal S1x1x512 .f32) (q : Fin 512) (d : Fin 128) :
    k0_pay72 (F := Ideal) a l b r (ix3 0 q d) = duo a l b r q d := by
  unfold duo
  pointwise [k0_pay72]

theorem duo1 (a b : FVec Ideal S1x64x512 .f32) (l r : FVec Ideal S1x1x512 .f32) (q : Fin 512) (d : Fin 128) :
    k0_pay74 (F := Ideal) (k0_pay73 a l b r) (ix3 0 q d) = duo a l b r q d := by
  unfold duo
  pointwise [k0_pay74, k0_pay73]

theorem duo2 (a b : FVec Ideal S1x64x512 .f32) (l r : FVec Ideal S1x1x512 .f32) (q : Fin 512) (d : Fin 128) :
    k0_pay75 (F := Ideal) a l b r (ix3 0 q d) = duo a l b r q d := by
  unfold duo
  pointwise [k0_pay75]

theorem duo3 (a b : FVec Ideal S1x64x512 .f32) (l r : FVec Ideal S1x1x512 .f32) (q : Fin 512) (d : Fin 128) :
    k0_pay5 (F := Ideal) (k0_pay76 a l) (k0_pay77 b) r (ix3 0 q d) = duo a l b r q d := by
  unfold duo
  pointwise [k0_pay5, k0_pay76, k0_pay77]

theorem emb_duo (off : Fin 3 → ℕ) (inb) (p : Fin 4) (e : off = ![0, 0, 128 * p.val]) (q : Fin 512) (d : Fin 128) :
    (Rect.unit (s := S1x512x512) off ![1, 512, 128] inb).emb (ix3 0 q d) = ix3 0 q ⟨128 * p.val + d.val, by omega⟩ := by
  subst e
  funext a
  apply Fin.ext
  rw [ValueKit.rect_emb_unit_val]
  fin_cases a <;> simp <;> rfl

theorem piece_duo (A : FVec Ideal S8x64x512 .f32) (L : FVec Ideal S8x1x512 .f32) (P : S1x512x128.Idx → EReal)
    (a b : FVec Ideal S1x64x512 .f32) (l r : FVec Ideal S1x1x512 .f32) (hP : ∀ q d, P (ix3 0 q d) = duo a l b r q d)
    (p : Fin 4) (h h' : Fin 8) (hh : h.val = 2 * p.val) (hh' : h'.val = 2 * p.val + 1)
    (ha : ∀ d q, a (ix3 0 d q) = A (ix3 h d q)) (hl : ∀ q, l (ix3 0 0 q) = L (ix3 h 0 q))
    (hb : ∀ d q, b (ix3 0 d q) = A (ix3 h' d q)) (hr : ∀ q, r (ix3 0 0 q) = L (ix3 h' 0 q))
    (off : Fin 3 → ℕ) (inb) (e : off = ![0, 0, 128 * p.val]) (x : S1x512x128.Idx) :
    P x = quot A L ((Rect.unit (s := S1x512x512) off ![1, 512, 128] inb).emb x) := by
  obtain ⟨p', q, d, rfl⟩ : ∃ (p' : Fin 1) (q : Fin 512) (d : Fin 128), x = ix3 p' q d := ⟨x 0, x 1, x 2, by funext a; fin_cases a <;> rfl⟩
  obtain rfl := Subsingleton.elim p' 0
  rw [emb_duo off inb p e q d, hP]
  show duo a l b r q d = Ideal.div (A (ix3 ⟨(128 * p.val + d.val) / 64, _⟩ ⟨(128 * p.val + d.val) % 64, _⟩ q)) (L (ix3 ⟨(128 * p.val + d.val) / 64, _⟩ 0 q))
  have hd := d.isLt
  unfold duo
  split
  · rename_i hlt
    have e1 : (⟨(128 * p.val + d.val) / 64, by omega⟩ : Fin 8) = h := Fin.ext (by show (128 * p.val + d.val) / 64 = h.val; omega)
    have e2 : (⟨(128 * p.val + d.val) % 64, by omega⟩ : Fin 64) = ⟨d.val, hlt⟩ := Fin.ext (by show (128 * p.val + d.val) % 64 = d.val; omega)
    rw [e1, e2, ha, hl]
  · rename_i hlt
    have e1 : (⟨(128 * p.val + d.val) / 64, by omega⟩ : Fin 8) = h' := Fin.ext (by show (128 * p.val + d.val) / 64 = h'.val; omega)
    have e2 : (⟨(128 * p.val + d.val) % 64, by omega⟩ : Fin 64) = ⟨d.val - 64, by omega⟩ := Fin.ext (by show (128 * p.val + d.val) % 64 = d.val - 64; omega)
    rw [e1, e2, hb, hr]

variable (c : Dev nD) (i : grid0.Coords)
  (arg3 : Memref sig .tc .vmem S1x512x1024 .bf16) (harg3 : arg3.IsWhole) (arg4 : Memref sig .tc .vmem S1x1024x1024 .bf16) (harg4 : arg4.IsWhole)
  (arg5 : Memref sig .tc .vmem S1x4x512x256 .bf16) (harg5 : arg5.IsWhole) (arg6 : Memref sig .tc .vmem S1x512x512 .bf16) (harg6 : arg6.IsWhole)
  (arg7 : Memref sig .tc .vmem S8x1x512 .f32) (harg7 : arg7.IsWhole) (arg8 : Memref sig .tc .vmem S8x1x512 .f32) (harg8 : arg8.IsWhole)
  (arg9 : Memref sig .tc .vmem S8x64x512 .f32) (harg9 : arg9.IsWhole)
  (x0 : FVec Ideal S1x512x1024 .bf16) (x1 : FVec Ideal S1x1024x1024 .bf16) (x2 : FVec Ideal S1x4x512x256 .bf16)
  (xs0 xs1 : FVec Ideal S8x1x512 .f32) (xs2 : FVec Ideal S8x64x512 .f32)

theorem out_C (hc0 : ¬cond0_0 i) (hc1 : cond0_1 i) :
    out0_C_3 (F := Ideal) c i arg3 harg3 arg4 harg4 arg5 harg5 arg6 harg6 arg7 harg7 arg8 harg8 arg9 harg9 hc0 hc1 x0 x1 x2 xs0 xs1 xs2 = quot (sout0_C_2 (F := Ideal) c i arg3 harg3 arg4 harg4 arg5 harg5 arg6 harg6 arg7 harg7 arg8 harg8 arg9 harg9 hc0 hc1 x0 x1 x2 xs0 xs1 xs2) (sout0_C_1 (F := Ideal) c i arg3 harg3 arg4 harg4 arg5 harg5 arg6 harg6 arg7 harg7 arg8 harg8 arg9 harg9 hc0 hc1 x0 x1 x2 xs0 xs1 xs2) := by
  have e1 : sout0_C_1 (F := Ideal) c i arg3 harg3 arg4 harg4 arg5 harg5 arg6 harg6 arg7 harg7 arg8 harg8 arg9 harg9 hc0 hc1 x0 x1 x2 xs0 xs1 xs2 = arg8.view.read (Elt Ideal) (arg8.view.writes (Elt Ideal) (harg8.unread xs1) (pb_k0_t1 (F := Ideal) Variants.none c none i arg3 harg3 arg4 harg4 arg5 harg5 arg6 harg6 arg7 harg7 arg8 harg8 arg9 harg9 (harg3.unread x0) (harg4.unread x1) (harg5.unread x2) (harg7.unread xs0) (harg8.unread xs1) (harg9.unread xs2) k0_t1_loop.trips).2.1) := by
    refine ((View.read_writes_eq_canon (Val := Elt Ideal) _ _ _ (scover0_C_1 (F := Ideal) c i arg3 harg3 arg4 harg4 arg5 harg5 arg6 harg6 arg7 harg7 arg8 harg8 arg9 harg9 hc0 hc1 x0 x1 x2 xs0 xs1 xs2)).trans (View.read_writes_eq_canon (Val := Elt Ideal) arg8.view (harg8.unread xs1) _ (scover0_C_1 (F := Ideal) c i arg3 harg3 arg4 harg4 arg5 harg5 arg6 harg6 arg7 harg7 arg8 harg8 arg9 harg9 hc0 hc1 x0 x1 x2 xs0 xs1 xs2)).symm).trans ?_
    unfold kernelRun0_C; rfl
  have e2 : sout0_C_2 (F := Ideal) c i arg3 harg3 arg4 harg4 arg5 harg5 arg6 harg6 arg7 harg7 arg8 harg8 arg9 harg9 hc0 hc1 x0 x1 x2 xs0 xs1 xs2 = arg9.view.read (Elt Ideal) (arg9.view.writes (Elt Ideal) (harg9.unread xs2) (pb_k0_t1 (F := Ideal) Variants.none c none i arg3 harg3 arg4 harg4 arg5 harg5 arg6 harg6 arg7 harg7 arg8 harg8 arg9 harg9 (harg3.unread x0) (harg4.unread x1) (harg5.unread x2) (harg7.unread xs0) (harg8.unread xs1) (harg9.unread xs2) k0_t1_loop.trips).2.2) := by
    refine ((View.read_writes_eq_canon (Val := Elt Ideal) _ _ _ (scover0_C_2 (F := Ideal) c i arg3 harg3 arg4 harg4 arg5 harg5 arg6 harg6 arg7 harg7 arg8 harg8 arg9 harg9 hc0 hc1 x0 x1 x2 xs0 xs1 xs2)).trans (View.read_writes_eq_canon (Val := Elt Ideal) arg9.view (harg9.unread xs2) _ (scover0_C_2 (F := Ideal) c i arg3 harg3 arg4 harg4 arg5 harg5 arg6 harg6 arg7 harg7 arg8 harg8 arg9 harg9 hc0 hc1 x0 x1 x2 xs0 xs1 xs2)).symm).trans ?_
    unfold kernelRun0_C; dsimp only
  rw [e1, e2]
  funext y
  refine View.read_writes_apply_of_pieces (Val := Elt Ideal) VO0_3 _ (quot _ _) _ ?_ y (cover0_C_3 (F := Ideal) c i arg3 harg3 arg4 harg4 arg5 harg5 arg6 harg6 arg7 harg7 arg8 harg8 arg9 harg9 hc0 hc1 x0 x1 x2 xs0 xs1 xs2 y)
  unfold kernelRun0_C
  dsimp only
  refine List.forall_mem_cons.2 ⟨?_, List.forall_mem_cons.2 ⟨?_, List.forall_mem_cons.2 ⟨?_, List.forall_mem_cons.2 ⟨?_, List.forall_mem_nil _⟩⟩⟩⟩
  · exact piece_duo _ _ _ _ _ _ _ (duo3 _ _ _ _) 3 6 7 rfl rfl (fun d q => rd_acc arg9 _ _ inb_S8x64x512_S1x64x512_6_0_0 6 rfl d q) (rd_row arg8 _ _ inb_S8x1x512_S1x1x512_6_0_0 6 rfl)
      (fun d q => rd_acc arg9 _ _ inb_S8x64x512_S1x64x512_7_0_0 7 rfl d q) (rd_row arg8 _ _ inb_S8x1x512_S1x1x512_7_0_0 7 rfl) _ inb_S1x512x512_S1x512x128_0_0_384 rfl
  · exact piece_duo _ _ _ _ _ _ _ (duo2 _ _ _ _) 2 4 5 rfl rfl (fun d q => rd_acc arg9 _ _ inb_S8x64x512_S1x64x512_4_0_0 4 rfl d q) (rd_row arg8 _ _ inb_S8x1x512_S1x1x512_4_0_0 4 rfl)
      (fun d q => rd_acc arg9 _ _ inb_S8x64x512_S1x64x512_5_0_0 5 rfl d q) (rd_row arg8 _ _ inb_S8x1x512_S1x1x512_5_0_0 5 rfl) _ inb_S1x512x512_S1x512x128_0_0_256 rfl
  · exact piece_duo _ _ _ _ _ _ _ (duo1 _ _ _ _) 1 2 3 rfl rfl (fun d q => rd_acc arg9 _ _ inb_S8x64x512_S1x64x512_2_0_0 2 rfl d q) (rd_row arg8 _ _ inb_S8x1x512_S1x1x512_2_0_0 2 rfl)
      (fun d q => rd_acc arg9 _ _ inb_S8x64x512_S1x64x512_3_0_0 3 rfl d q) (rd_row arg8 _ _ inb_S8x1x512_S1x1x512_3_0_0 3 rfl) _ inb_S1x512x512_S1x512x128_0_0_128 rfl
  · exact piece_duo _ _ _ _ _ _ _ (duo0 _ _ _ _) 0 0 1 rfl rfl (fun d q => rd_acc arg9 _ _ inb_S8x64x512_S1x64x512_0_0_0 0 rfl d q) (rd_row arg8 _ _ inb_S8x1x512_S1x1x512_0_0_0 0 rfl)
      (fun d q => rd_acc arg9 _ _ inb_S8x64x512_S1x64x512_1_0_0 1 rfl d q) (rd_row arg8 _ _ inb_S8x1x512_S1x1x512_1_0_0 1 rfl) _ inb_S1x512x512_S1x512x128_0_0_0 rfl

end Cert.MlaVal
end
-- ==== Proof.MlaRef.lean ====
module

public import proofs.«01_k».proof.Proof.Gen.MlaRefIdeal.Run
public import Idealize.ShloMosaic.Lib.Pipeline.ValueKit

/-! The attention's reference at an index: the softmax of a query's scores against every key, and the
sum of the values it weights. -/

@[expose] public section

set_option maxRecDepth 16384
noncomputable section

namespace Cert.MlaRefVal
open Cert.MlaRefIdeal Cert.MlaRefIdeal.Gen Idealize.ShloMosaic Idealize.ShloMosaic.TcCoe Idealize.SL.Sem
open Idealize.ShloMosaic.Pipeline (Dat)

/-- The scores of every query against every key, head by head. -/
def scores (q k : FVec Ideal S1x16384x1024 .bf16) : FVec Ideal S1x8x16384x16384 .f32 :=
  Host.dotGeneral dot_S1x16384x8x128_S1x16384x8x128_S1x8x16384x16384_3_3_1_1_02_02 none (shapeCast _ (extf .f32 q bitsLt_bf16_f32) shapeCasts_S1x16384x1024_S1x16384x8x128) (shapeCast _ (extf .f32 k bitsLt_bf16_f32) shapeCasts_S1x16384x1024_S1x16384x8x128)
/-- Each query's largest score. -/
def peak (s : FVec Ideal S1x8x16384x16384 .f32) : FVec Ideal S1x8x16384 .f32 :=
  Host.reduce FloatOps.maximumf s (constant S_ .f32 0xFF800000#32) reducesTo_S1x8x16384x16384_S1x8x16384_d3 h_S_
/-- The maximum with minus infinity. -/
def above (p : FVec Ideal S1x8x16384 .f32) : FVec Ideal S1x8x16384 .f32 :=
  maximumf (broadcastInDim S1x8x16384 ![] bcast_S_S1x8x16384 (constant S_ .f32 0xFF800000#32)) p
/-- The number a query's scores are shifted by. -/
def tops (s : FVec Ideal S1x8x16384x16384 .f32) : FVec Ideal S1x8x16384 .f32 := above (peak s)
/-- The exponentials of the shifted scores. -/
def exps (s : FVec Ideal S1x8x16384x16384 .f32) : FVec Ideal S1x8x16384x16384 .f32 :=
  Host.exp (subf s (broadcastInDim S1x8x16384x16384 ![0, 1, 2, 3] bcast_S1x8x16384x1_S1x8x16384x16384_0_1_2_3 (broadcastInDim S1x8x16384x1 ![0, 1, 2] bcast_S1x8x16384_S1x8x16384x1_0_1_2 (tops s))))
/-- The softmax. -/
def weights (s : FVec Ideal S1x8x16384x16384 .f32) : FVec Ideal S1x8x16384x16384 .f32 :=
  Host.divf (exps s) (broadcastInDim S1x8x16384x16384 ![0, 1, 2, 3] bcast_S1x8x16384x1_S1x8x16384x16384_0_1_2_3 (broadcastInDim S1x8x16384x1 ![0, 1, 2] bcast_S1x8x16384_S1x8x16384x1_0_1_2 (Host.reduceAdd (exps s) (constant S_ .f32 0x00000000#32) reducesTo_S1x8x16384x16384_S1x8x16384_d3 h_S_)))
/-- The values, key by key and head by head. -/
def vals (v : FVec Ideal S1x64x512x256 .bf16) : FVec Ideal S1x16384x8x64 .f32 :=
  shapeCast _ (transpose S1x64x256x512 [0, 1, 3, 2] (extf .f32 v bitsLt_bf16_f32) transposes_S1x64x512x256_S1x64x256x512_0_1_3_2) shapeCasts_S1x64x256x512_S1x16384x8x64
/-- The weighted sum of the values. -/
def mix (v : FVec Ideal S1x16384x8x64 .f32) (w : FVec Ideal S1x8x16384x16384 .f32) : FVec Ideal S1x16384x512 .bf16 :=
  truncf .bf16 (shapeCast _ (transpose S1x16384x8x64 [0, 3, 1, 2] (Host.dotGeneral dot_S1x16384x8x64_S1x8x16384x16384_S1x8x64x16384_1_3_3_2_02_01 none v w) transposes_S1x8x64x16384_S1x16384x8x64_0_3_1_2) shapeCasts_S1x16384x8x64_S1x16384x512) bitsLt_bf16_f32
/-- The reference's result. -/
def ref (q k : FVec Ideal S1x16384x1024 .bf16) (v : FVec Ideal S1x64x512x256 .bf16) : FVec Ideal S1x16384x512 .bf16 :=
  mix (vals v) (weights (scores q k))

theorem scores_at (q k : FVec Ideal S1x16384x1024 .bf16) (h : Fin 8) (i j : Fin 16384) :
    scores q k (ix4 0 h i j) = ∑ d : Fin 128, q (ix3 0 i ⟨128 * h.val + d.val, by omega⟩) * k (ix3 0 j ⟨128 * h.val + d.val, by omega⟩) := by
  pointwise [scores]
  simp only [mul_comm h.val 128]

/-- The largest of real numbers, one of them at least, is real. -/
theorem reduce_max_real {s t u : Shape} {axes : List (Fin s.rank)} (x : FVec Ideal s .f32) (init : FVec Ideal u .f32) (h : s.ReducesTo axes t) (hu : 0 < u.numel)
    (j : t.Idx) (hx : ∀ i, ∃ r : ℝ, x i = r) (hi : ∀ i, init i = ⊥) (i₀ : s.Idx) (hj : h.drop i₀ = j) :
    ∃ r : ℝ, Host.reduce (FloatOps.maximumf (F := Ideal) (φ := .f32)) x init h hu j = r := by
  have e : Host.reduce (FloatOps.maximumf (F := Ideal) (φ := .f32)) x init h hu j = Finset.fold max ⊥ x (Finset.univ.filter fun i => h.drop i = j) := by
    have := Host.reduce_eq_fold (max : EReal → EReal → EReal) x init h hu j
    rw [hi] at this
    exact this
  rw [e]
  refine ⟨_, (EReal.coe_toReal ?_ ?_).symm⟩
  · refine ne_of_lt ?_
    rw [Finset.fold_max_lt]
    exact ⟨bot_lt_top, fun i _ => by obtain ⟨r, hr⟩ := hx i; rw [hr]; exact EReal.coe_lt_top _⟩
  · refine ne_of_gt ?_
    rw [Finset.lt_fold_max]
    exact Or.inr ⟨i₀, Finset.mem_filter.2 ⟨Finset.mem_univ _, hj⟩, by obtain ⟨r, hr⟩ := hx i₀; rw [hr]; exact EReal.bot_lt_coe _⟩

theorem bot_bits : Ideal.ofBits .f32 0xFF800000#32 = ⊥ := by simp [Ideal.ofBits, Ideal.ieee]

theorem drop_at (h : Fin 8) (i : Fin 16384) : (reducesTo_S1x8x16384x16384_S1x8x16384_d3).drop (ix4 0 h i 0) = ix3 0 h i := by
  funext b
  fin_cases b
  · exact Fin.ext (Shape.ReducesTo.drop_apply_val_of_eq reducesTo_S1x8x16384x16384_S1x8x16384_d3 (ix4 0 h i 0) 0 0)
  · exact Fin.ext (Shape.ReducesTo.drop_apply_val_of_eq reducesTo_S1x8x16384x16384_S1x8x16384_d3 (ix4 0 h i 0) 1 1)
  · exact Fin.ext (Shape.ReducesTo.drop_apply_val_of_eq reducesTo_S1x8x16384x16384_S1x8x16384_d3 (ix4 0 h i 0) 2 2)

theorem above_at (p : FVec Ideal S1x8x16384 .f32) (j : S1x8x16384.Idx) : above p j = p j := by
  have e : above p j = max (Ideal.ofBits .f32 0xFF800000#32) (p j) := rfl
  rw [e, bot_bits]
  exact max_eq_right bot_le

theorem tops_real (s : FVec Ideal S1x8x16384x16384 .f32) (hs : ∀ i, ∃ r : ℝ, s i = r) (h : Fin 8) (i : Fin 16384) :
    ∃ r : ℝ, tops s (ix3 0 h i) = r := by
  unfold tops
  rw [above_at]
  unfold peak
  exact reduce_max_real s (constant S_ .f32 0xFF800000#32) reducesTo_S1x8x16384x16384_S1x8x16384_d3 h_S_ (ix3 0 h i) hs (fun _ => bot_bits)
    (ix4 0 h i 0) (drop_at h i)

theorem exps_at (s : FVec Ideal S1x8x16384x16384 .f32) (h : Fin 8) (i j : Fin 16384) :
    exps s (ix4 0 h i j) = Ideal.exp (s (ix4 0 h i j) - tops s (ix3 0 h i)) := by
  pointwise [exps]

theorem weights_at (s : FVec Ideal S1x8x16384x16384 .f32) (h : Fin 8) (i j : Fin 16384) :
    weights s (ix4 0 h i j) = Ideal.div (exps s (ix4 0 h i j)) (∑ j' : Fin 16384, exps s (ix4 0 h i j')) := by
  pointwise [weights]

theorem vals_at (v : FVec Ideal S1x64x512x256 .bf16) (j : Fin 16384) (h : Fin 8) (d : Fin 64) :
    vals v (ix4 0 j h d) = v (ix4 0 ⟨j.val / 256, by omega⟩ ⟨64 * h.val + d.val, by omega⟩ ⟨j.val % 256, by omega⟩) := by
  pointwise [vals]
  simp only [mul_comm h.val 64]

theorem mix_at (v : FVec Ideal S1x16384x8x64 .f32) (w : FVec Ideal S1x8x16384x16384 .f32) (i : Fin 16384) (h : Fin 8) (d : Fin 64) :
    mix v w (ix3 0 i ⟨64 * h.val + d.val, by omega⟩) = ∑ j : Fin 16384, v (ix4 0 j h d) * w (ix4 0 h i j) := by
  pointwise [mix]

end Cert.MlaRefVal
end
-- ==== Proof.MlaValue.lean ====
module

public import proofs.«01_k».proof.Proof.MlaFinal
public import proofs.«01_k».proof.Proof.MlaRef

/-! The attention call computes its reference's result, for queries and keys that are real numbers. -/

@[expose] public section

set_option maxRecDepth 16384
noncomputable section

namespace Cert.MlaVal
open Cert.MlaIdeal Cert.MlaIdeal.Gen Idealize.ShloMosaic Idealize.ShloMosaic.TcCoe Idealize.SL.Sem
open Idealize.ShloMosaic.Pipeline (Dat)
open Cert.Softmax

/-- The query at place `q` of tile `T`. -/
def row (T : ℕ) (q : Fin 512) : Fin 16384 := ⟨(512 * T + q.val) % 16384, Nat.mod_lt _ (by norm_num)⟩
/-- The key numbered `r`. -/
def key (r : ℕ) : Fin 16384 := ⟨r % 16384, Nat.mod_lt _ (by norm_num)⟩
/-- The scores of a tile's queries. -/
def sc (Q K : FVec Ideal S1x16384x1024 .bf16) (T : ℕ) (h : Fin 8) (q : Fin 512) (r : ℕ) : EReal :=
  MlaRefVal.scores Q K (ix4 0 h (row T q) (key r))
/-- The values. -/
def vv (W : FVec Ideal S1x64x512x256 .bf16) (h : Fin 8) (d : Fin 64) (r : ℕ) : EReal := MlaRefVal.vals W (ix4 0 (key r) h d)

theorem scores_real (Q K : FVec Ideal S1x16384x1024 .bf16) (hQ : ∀ i, ∃ r : ℝ, Q i = r) (hK : ∀ i, ∃ r : ℝ, K i = r) (i) :
    ∃ r : ℝ, MlaRefVal.scores Q K i = r := by
  choose f hf using hQ
  choose g hg using hK
  obtain ⟨p, h, a, b, rfl⟩ : ∃ (p : Fin 1) (h : Fin 8) (a b : Fin 16384), i = ix4 p h a b := ⟨i 0, i 1, i 2, i 3, by funext a; fin_cases a <;> rfl⟩
  obtain rfl := Subsingleton.elim p 0
  rw [MlaRefVal.scores_at]
  simp only [hf, hg, ← EReal.coe_mul]
  exact ⟨_, coe_sum _ _⟩

theorem idx : ∀ t : Fin cfg0.N, win0_0.index t = ![0, t.val / 16, 0] ∧ win0_1.index t = ![0, t.val % 16, 0]
    ∧ win0_2.index t = ![0, t.val % 16, 0, 0] ∧ win0_3.index t = ![0, t.val / 16, 0] :=
  (by decide +kernel : ∀ t : Fin grid0.N, _)

variable (m : (ℓ : Loc nD τ sig) → Buf (Elt Ideal) ℓ) (c : Dev nD)

/-- The queries, keys and values of a device. -/
def argQ : FVec Ideal S1x16384x1024 .bf16 := m ((c : Thread nD τ).loc main_arg0)
def argK : FVec Ideal S1x16384x1024 .bf16 := m ((c : Thread nD τ).loc main_arg1)
def argV : FVec Ideal S1x64x512x256 .bf16 := m ((c : Thread nD τ).loc main_arg2)

theorem lt_N (t : Fin cfg0.N) : t.val < 512 := t.isLt

theorem blk_q (t : Fin cfg0.N) (q : Fin 512) (j : Fin 1024) : (iblk m c 0 t : FVec Ideal S1x512x1024 .bf16) (ix3 0 q j) = argQ m c (ix3 0 (row (t.val / 16) q) j) := by
  have e : row (t.val / 16) q = ⟨t.val / 16 * 512 + q.val, by have := lt_N t; omega⟩ :=
    Fin.ext (by have := lt_N t; show (512 * (t.val / 16) + q.val) % 16384 = t.val / 16 * 512 + q.val; omega)
  rw [e]
  blk_point [iblk, V, argQ, idx t]

theorem blk_k (t : Fin cfg0.N) (r : Fin 1024) (j : Fin 1024) : (iblk m c 1 t : FVec Ideal S1x1024x1024 .bf16) (ix3 0 r j) = argK m c (ix3 0 (key (1024 * (t.val % 16) + r.val)) j) := by
  have e : key (1024 * (t.val % 16) + r.val) = ⟨t.val % 16 * 1024 + r.val, by omega⟩ :=
    Fin.ext (by show (1024 * (t.val % 16) + r.val) % 16384 = t.val % 16 * 1024 + r.val; omega)
  rw [e]
  blk_point [iblk, V, argK, idx t]

theorem blk_v (t : Fin cfg0.N) (k : Fin 4) (j : Fin 512) (r : Fin 256) :
    (iblk m c 2 t : FVec Ideal S1x4x512x256 .bf16) (ix4 0 k j r) = argV m c (ix4 0 ⟨t.val % 16 * 4 + k.val, by omega⟩ j r) := by
  blk_point [iblk, V, argV, idx t]

theorem hk_at (t : Fin cfg0.N) (h : Fin 8) (q : Fin 512) (k : Fin 4) (r : Fin 256) :
    scB (iblk m c 0 t) (iblk m c 1 t) h (keyOf k r) q = sc (argQ m c) (argK m c) (t.val / 16) h q (1024 * (t.val % 16) + 256 * k.val + r.val) := by
  unfold scB sc
  rw [MlaRefVal.scores_at]
  refine Finset.sum_congr rfl fun d _ => ?_
  have e1 := blk_q m c t q (colOf h d)
  have e2 := blk_k m c t (keyOf k r) (colOf h d)
  have e3 : 1024 * (t.val % 16) + (keyOf k r).val = 1024 * (t.val % 16) + 256 * k.val + r.val := by
    show _ + (256 * k.val + r.val) = _; omega
  rw [e3] at e2
  rw [mul_comm]
  exact congrArg₂ _ e1 e2

theorem hv_at (t : Fin cfg0.N) (h : Fin 8) (d : Fin 64) (k : Fin 4) (r : Fin 256) :
    (iblk m c 2 t : FVec Ideal S1x4x512x256 .bf16) (ix4 0 k (valOf h d) r) = vv (argV m c) h d (1024 * (t.val % 16) + 256 * k.val + r.val) := by
  unfold vv
  rw [MlaRefVal.vals_at, blk_v]
  have e1 : (⟨(key (1024 * (t.val % 16) + 256 * k.val + r.val)).val / 256, by omega⟩ : Fin 64) = ⟨t.val % 16 * 4 + k.val, by omega⟩ :=
    Fin.ext (by show (1024 * (t.val % 16) + 256 * k.val + r.val) % 16384 / 256 = t.val % 16 * 4 + k.val; omega)
  have e2 : (⟨(key (1024 * (t.val % 16) + 256 * k.val + r.val)).val % 256, by omega⟩ : Fin 256) = r :=
    Fin.ext (by show (1024 * (t.val % 16) + 256 * k.val + r.val) % 16384 % 256 = r.val; omega)
  rw [e1, e2]
  rfl

/-- After each point the buffers hold the sums over the keys of the points so far. -/
theorem kept_at (hQ : ∀ i, ∃ r : ℝ, argQ m c i = r) (hK : ∀ i, ∃ r : ℝ, argK m c i = r) (n : ℕ) (hn : n < cfg0.N) :
    KeptAll (sc (argQ m c) (argK m c) (n / 16)) (vv (argV m c)) (1024 * (n % 16) + 1024)
      (outsAt0 m c n hn).2.1 (outsAt0 m c n hn).2.2.1 (outsAt0 m c n hn).2.2.2 := by
  have hx := scores_real _ _ hQ hK
  choose x hx using hx
  induction n with
  | zero =>
    have e := outsAt0_A m c ⟨0, hn⟩ rfl (by simp)
    dsimp only at e
    rw [e]
    exact kept_A _ _ _ _ _ _ _ _ _ _ _ _ _ _ _ _ _ _ _ _ _ (by rfl) (fun h q r => x (ix4 0 h (row (0 / 16) q) (key r))) (fun h q r => hx _)
      (hk_at m c ⟨0, hn⟩) (hv_at m c ⟨0, hn⟩)
  | succ n ih =>
    by_cases h0 : (n + 1) % 16 = 0
    · have e := outsAt0_A m c ⟨n + 1, hn⟩ h0 (by dsimp only; omega)
      dsimp only at e
      rw [e]
      exact kept_A _ _ _ _ _ _ _ _ _ _ _ _ _ _ _ _ _ _ _ _ _ (by rw [h0]) (fun h q r => x (ix4 0 h (row ((n + 1) / 16) q) (key r))) (fun h q r => hx _)
        (hk_at m c ⟨n + 1, hn⟩) (hv_at m c ⟨n + 1, hn⟩)
    · have H := ih (Nat.lt_of_succ_lt hn)
      have e1 : n / 16 = (n + 1) / 16 := by omega
      have e2 : 1024 * (n % 16) + 1024 = 1024 * ((n + 1) % 16) := by omega
      rw [e1, e2] at H
      by_cases h1 : (n + 1) % 16 = 15
      · have e := outsAt0_C m c ⟨n + 1, hn⟩ h0 h1
        dsimp only at e
        rw [e]
        exact kept_C _ _ _ _ _ _ _ _ _ _ _ _ _ _ _ _ _ _ _ _ _ _ _ _ (fun h q r => x (ix4 0 h (row ((n + 1) / 16) q) (key r))) (fun h q r => hx _) H
          (hk_at m c ⟨n + 1, hn⟩) (hv_at m c ⟨n + 1, hn⟩)
      · have e := outsAt0_B m c ⟨n + 1, hn⟩ h0 h1
        dsimp only at e
        rw [e]
        exact kept_B _ _ _ _ _ _ _ _ _ _ _ _ _ _ _ _ _ _ _ _ _ _ _ _ (fun h q r => x (ix4 0 h (row ((n + 1) / 16) q) (key r))) (fun h q r => hx _) H
          (hk_at m c ⟨n + 1, hn⟩) (hv_at m c ⟨n + 1, hn⟩)

/-- What the last point of a query tile stores, at an index, is the reference's result there. -/
theorem point (hQ : ∀ i, ∃ r : ℝ, argQ m c i = r) (hK : ∀ i, ∃ r : ℝ, argK m c i = r) (t : Fin cfg0.N) (ht : t.val % 16 = 15)
    (q : Fin 512) (h : Fin 8) (d : Fin 64) :
    (outsAt0 m c t.val t.isLt).1 (ix3 0 q (valOf h d)) = MlaRefVal.ref (argQ m c) (argK m c) (argV m c) (ix3 0 (row (t.val / 16) q) (valOf h d)) := by
  have H := kept_at m c hQ hK t.val t.isLt h q
  have hn : 1024 * (t.val % 16) + 1024 = 16384 := by rw [ht]
  rw [hn] at H
  have hs := scores_real _ _ hQ hK
  obtain ⟨ν, hν⟩ := MlaRefVal.tops_real _ hs h (row (t.val / 16) q)
  choose x hx using hs
  have e := outsAt0_C m c t (by omega) ht
  rw [e] at H ⊢
  dsimp only at H ⊢
  rw [out_C]
  unfold quot
  have e1 : (⟨((ix3 0 q (valOf h d) : S1x512x512.Idx) 2).val / 64, by show (64 * h.val + d.val) / 64 < 8; omega⟩ : Fin 8) = h :=
    Fin.ext (by show (64 * h.val + d.val) / 64 = h.val; omega)
  have e2 : (⟨((ix3 0 q (valOf h d) : S1x512x512.Idx) 2).val % 64, by omega⟩ : Fin 64) = d :=
    Fin.ext (by show (64 * h.val + d.val) % 64 = d.val; omega)
  rw [e1, e2]
  refine (H.quotient (fun r => x (ix4 0 h (row (t.val / 16) q) (key r))) (fun r => hx _) (by norm_num) ν d).trans ?_
  have hr := MlaRefVal.mix_at (MlaRefVal.vals (argV m c)) (MlaRefVal.weights (MlaRefVal.scores (argQ m c) (argK m c))) (row (t.val / 16) q) h d
  refine Eq.trans ?_ hr.symm
  have hkey : ∀ j : Fin 16384, key j.val = j := fun j => Fin.ext (Nat.mod_eq_of_lt j.isLt)
  refine Finset.sum_congr rfl fun j _ => ?_
  rw [MlaRefVal.weights_at]
  simp only [MlaRefVal.exps_at, hν]
  show MlaRefVal.vals (argV m c) (ix4 0 (key j.val) h d) * _ = _
  simp only [hkey]

/-- The array that the region leaves is the reference's result of the same arguments. -/
theorem final (hQ : ∀ i, ∃ r : ℝ, argQ m c i = r) (hK : ∀ i, ∃ r : ℝ, argK m c i = r) :
    (dats m 0 c).arrAt 3 (cfgs 0).N = MlaRefVal.ref (argQ m c) (argK m c) (argV m c) := by
  refine (dats m 0 c).arrAt_eq_of_covers 3 _ (by decide +kernel) fun t hf y => ?_
  blk_simp
  rw [after0_3]
  have ht : t.val % 16 = 15 := (flush0_3 t).mp hf
  have y1 : (y 1).val < 512 := (y 1).isLt
  have y2 : (y 2).val < 512 := (y 2).isLt
  have hp := point m c hQ hK t ht (y 1) ⟨(y 2).val / 64, by omega⟩ ⟨(y 2).val % 64, by omega⟩
  have hv : valOf ⟨(y 2).val / 64, by omega⟩ ⟨(y 2).val % 64, by omega⟩ = y 2 :=
    Fin.ext (by show 64 * ((y 2).val / 64) + (y 2).val % 64 = (y 2).val; omega)
  have hr : row (t.val / 16) (y 1) = ⟨t.val / 16 * 512 + (y 1).val, by have := lt_N t; omega⟩ :=
    Fin.ext (by have := lt_N t; show (512 * (t.val / 16) + (y 1).val) % 16384 = t.val / 16 * 512 + (y 1).val; omega)
  rw [hv, hr] at hp
  have hy : y = ix3 0 (y 1) (y 2) := by blk_ext [idx t]
  have he : ((cfg0.win 3).blk t).view.emb y = ix3 0 ⟨t.val / 16 * 512 + (y 1).val, by have := lt_N t; omega⟩ (y 2) := by blk_ext [idx t]
  exact (congrArg _ hy).trans (hp.trans (congrArg _ he.symm))

end Cert.MlaVal
end
-- ==== Proof.Finite.lean ====
module

public import Idealize.ShloMosaic.Lib.ReduceAll
public import Idealize.ShloMosaic.PureOps.Ideal

/-! A test `|x| < ∞` that holds says that `x` is a real number. -/

@[expose] public section

noncomputable section

namespace Cert.Finite
open Idealize.ShloMosaic

theorem top_bits : Ideal.ofBits .f32 0x7F800000#32 = ⊤ := by simp [Ideal.ofBits, Ideal.ieee]

theorem and_one (a b : BitVec 1) (h : a &&& b = 1#1) : a = 1#1 ∧ b = 1#1 := by
  revert a b
  decide

theorem real_of_cmp (x : EReal) (h : Ideal.cmp .olt (max x (-x)) ⊤ = 1#1) : ∃ r : ℝ, x = r := by
  induction x with
  | bot => simp [Ideal.cmp] at h
  | top => simp [Ideal.cmp] at h
  | coe r => exact ⟨r, rfl⟩

/-- An array all of whose entries pass the test holds real numbers. -/
theorem real_of_all {s t u : Shape} {axes : List (Fin s.rank)} [Subsingleton t.Idx] (x : FVec Ideal s .f32) (b : FVec Ideal s .f32) (init : IVec u 1)
    (hb : ∀ i, b i = ⊤) (h : s.ReducesTo axes t) (hu : 0 < u.numel) (j : t.Idx)
    (e : Host.reduce IntOp.andi (cmpf .olt (Host.absf x) b) init h hu j = 1#1) (i : s.Idx) : ∃ r : ℝ, x i = r := by
  have h1 : Ideal.cmp .olt (max (x i) (-x i)) (b i) = 1#1 := Host.reduce_andi_all _ init h hu j e i
  rw [hb i] at h1
  exact real_of_cmp _ h1

end Cert.Finite

end
-- ==== Proof.MlaPair.lean ====
/- The value claim of the attention call. -/
module

public import proofs.«01_k».proof.Defs
public import proofs.«01_k».proof.Proof.Gen.Pre_queries_and_keys_finite
public import proofs.«01_k».proof.Proof.MlaValue
public import proofs.«01_k».proof.Proof.Finite

@[expose] public section

noncomputable section

namespace Cert.MlaVal

open Idealize.ShloMosaic Idealize.SL.Sem

instance : Subsingleton Cert.Pre_queries_and_keys_finite.S_.Idx := ⟨fun a b => by funext i; exact i.elim0⟩

/-- The precondition read: the queries and the keys are real numbers. -/
theorem reals (q k v) (h : Cert.Pre_queries_and_keys_finite.fn (F := Ideal) q k v = fun _ => 1#1) :
    (∀ i, ∃ r : ℝ, q i = r) ∧ ∀ i, ∃ r : ℝ, k i = r := by
  have e := congrFun h (fun i => i.elim0)
  dsimp only [Cert.Pre_queries_and_keys_finite.fn] at e
  obtain ⟨e1, e2⟩ := Finite.and_one _ _ e
  exact ⟨fun i => Finite.real_of_all _ _ _ (fun _ => Finite.top_bits) _ _ _ e1 i, fun i => Finite.real_of_all _ _ _ (fun _ => Finite.top_bits) _ _ _ e2 i⟩

theorem pair : Cert.algebraic_MlaIdeal_MlaRefIdeal_pre_queries_and_keys_finite := fun m g m' g' hp hagree =>
  ⟨_, (θ_run _ _ _).mono (fun _ h c => ⟨(h c).1.trans (final m c (reals _ _ _ (hp c)).1 (reals _ _ _ (hp c)).2), (h c).2⟩)
      (Cert.MlaIdeal.Value.run_blocks (F := Ideal) m g),
    (θ_run _ _ _).mono (fun _ h c => ⟨(h c).1.trans (by
      rw [(hagree c).1, (hagree c).2.1, (hagree c).2.2]; rfl), (h c).2⟩)
      (Cert.MlaRefIdeal.Value.run (F := Ideal) m' g')⟩

end Cert.MlaVal

end
-- ==== Proof.Rows.lean ====
/- One row of the layer over the extended reals: the normalized row, one unit of the gated feed-forward part, and the
   cutting of a long sum into the chunks a kernel runs through. Nothing here speaks of a program. -/
module

public import Idealize.ShloMosaic.Lib.Pipeline.ValueKit

@[expose] public section

noncomputable section

namespace Cert.Rows

open Idealize.ShloMosaic

/-- The mean of the squares of a row of 1024 numbers, and the small number beside it. -/
def meanSq (x : Fin 1024 → EReal) : EReal :=
  Ideal.div (∑ i, x i * x i) (Ideal.ofBits .f32 0x44800000#32) + Ideal.ofBits .f32 0x358637BD#32

/-- The row `x` normalized by its root mean square and scaled by `g`. -/
def normRow (x g : Fin 1024 → EReal) (k : Fin 1024) : EReal :=
  x k * Ideal.rsqrt (meanSq x) * g k

/-- The product of two rows. -/
def dot (h w : Fin 1024 → EReal) : EReal := ∑ k, h k * w k

/-- One unit of the gated part: the gate `a`, `a` times its logistic, times the up projection. -/
def gated (a u : EReal) : EReal :=
  a * Ideal.div (Ideal.ofBits .f32 0x3F800000#32) (Ideal.ofBits .f32 0x3F800000#32 + Ideal.exp (-a)) * u

/-- One unit of the gated part, of the row `h` and the two columns of weights. -/
def unitOf (h wg wu : Fin 1024 → EReal) : EReal := gated (dot h wg) (dot h wu)

/-- A sum over 2816 terms is the sum over five chunks of 512 terms and one of 256. -/
theorem sum_chunks (f : Fin 2816 → EReal) :
    ∑ k, f k = (((((∑ k : Fin 512, f ⟨k.val, by omega⟩) + ∑ k : Fin 512, f ⟨512 + k.val, by omega⟩)
      + ∑ k : Fin 512, f ⟨1024 + k.val, by omega⟩) + ∑ k : Fin 512, f ⟨1536 + k.val, by omega⟩)
      + ∑ k : Fin 512, f ⟨2048 + k.val, by omega⟩) + ∑ k : Fin 256, f ⟨2560 + k.val, by omega⟩ := by
  have cut : ∀ (a b : ℕ) (g : Fin (a + b) → EReal),
      ∑ k, g k = (∑ k : Fin a, g ⟨k.val, by omega⟩) + ∑ k : Fin b, g ⟨a + k.val, by omega⟩ := fun a b g => by
    rw [Fin.sum_univ_add]; rfl
  rw [cut 2560 256 f, cut 2048 512 (fun k : Fin (2048 + 512) => f ⟨k.val, by omega⟩),
    cut 1536 512 (fun k : Fin (1536 + 512) => f ⟨k.val, by omega⟩),
    cut 1024 512 (fun k : Fin (1024 + 512) => f ⟨k.val, by omega⟩),
    cut 512 512 (fun k : Fin (512 + 512) => f ⟨k.val, by omega⟩)]

end Cert.Rows

end
-- ==== Proof.FfnChunk.lean ====
/- The body of the feed-forward call, read at one index of the block that it writes. -/
module

public import proofs.«01_k».proof.Proof.Gen.FfnIdeal.Value
public import proofs.«01_k».proof.Proof.Rows
public import Idealize.ShloMosaic.Lib.Pipeline.ValueKit

@[expose] public section

set_option maxRecDepth 16384

noncomputable section

namespace Cert.FfnVal

open Cert.FfnIdeal Cert.FfnIdeal.Gen Cert.Rows Idealize.ShloMosaic Idealize.ShloMosaic.TcCoe Idealize.SL.Sem
open Idealize.ShloMosaic.Pipeline (Dat)

/-- The normalized block of rows. -/
theorem pay3_at (x : FVec Ideal S1x512x1024 .f32) (g : FVec Ideal S1x1024 .f32) (r : Fin 512) (k : Fin 1024) :
    k0_pay3 (F := Ideal) x g (ix2 r k) = normRow (fun i => x (ix3 0 r i)) (fun i => g (ix2 0 i)) k := by
  pointwise [k0_pay3, k0_pay2, normRow, meanSq]

theorem pay5_at (x : FVec Ideal S1x512x1024 .f32) (g : FVec Ideal S1x1024 .f32) (wg wu : FVec Ideal S1024x512 .bf16) (wo : FVec Ideal S512x1024 .bf16) (r : Fin 512) (k : Fin 1024) :
    k0_pay5 (F := Ideal) x g wg wu wo (ix2 r k) =
     ∑ f : Fin 512, unitOf (fun i => k0_pay3 (F := Ideal) x g (ix2 r i)) (fun i => wg (ix2 i f)) (fun i => wu (ix2 i f)) * wo (ix2 f k) := by
  pointwise [k0_pay5, unitOf, gated, dot]
  simp only [zero_sub]

/-- What the body leaves at one index of the block of results, over the blocks that it was given: the row's entry plus
    half of the sum over all the units, the six chunks joined. -/
theorem out_at (x0 : FVec Ideal S1x512x1024 .f32) (x1 : FVec Ideal S1x1024 .f32) (x2 : FVec Ideal S1024x5632 .bf16)
    (x3 : FVec Ideal S2816x1024 .bf16) (x4 : FVec Ideal S1x1024 .f32) (r : Fin 512) (k : Fin 1024) :
    out0_5 (F := Ideal) x0 x1 x2 x3 x4 (ix3 0 r k) = x0 (ix3 0 r k) + Ideal.ofBits .f32 0x3F000000#32 * ∑ f : Fin 2816,
      unitOf (normRow (fun i => x0 (ix3 0 r i)) (fun i => x1 (ix2 0 i))) (fun i => x2 (ix2 i ⟨f.val, by omega⟩))
        (fun i => x2 (ix2 i ⟨2816 + f.val, by omega⟩)) * x3 (ix2 f k) := by
  rw [sum_chunks]
  frame_out
  pointwise [k0_pay1, k0_pay2, k0_pay4, k0_pay6, k0_pay7, k0_pay8, k0_pay9, k0_pay10, k0_pay11]
  simp only [pay5_at, pay3_at, zero_sub]
  pointwise [unitOf, gated, dot]
  blk_point []

theorem idx : ∀ t : Fin cfg0.N, win0_0.index t = ![0, t.val, 0] ∧ win0_1.index t = ![0, 0] ∧ win0_2.index t = ![0, 0]
    ∧ win0_3.index t = ![0, 0] ∧ win0_4.index t = ![0, 0] ∧ win0_5.index t = ![0, t.val, 0] :=
  (by decide +kernel : ∀ t : Fin grid0.N, _)

end Cert.FfnVal

end
-- ==== Proof.FfnRef.lean ====
/- The reference of the feed-forward call, read at one index of its result. -/
module

public import proofs.«01_k».proof.Proof.Gen.FfnRefIdeal.Run
public import proofs.«01_k».proof.Proof.Rows
public import Idealize.ShloMosaic.Lib.Pipeline.ValueKit

@[expose] public section

set_option maxRecDepth 16384

noncomputable section

namespace Cert.FfnRefVal

open Cert.FfnRefIdeal Cert.FfnRefIdeal.Gen Cert.Rows Idealize.ShloMosaic Idealize.ShloMosaic.TcCoe Idealize.SL.Sem

/-- The normalized rows. -/
def NORM (x : FVec Ideal S1x16384x1024 .f32) (g : FVec Ideal S1x1024 .f32) : FVec Ideal S1x16384x1024 .f32 :=
  mulf (mulf x (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf x x) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0, 1, 2] bcast_S1x1x1024_S1x16384x1024_0_1_2 (broadcastInDim S1x1x1024 ![2] bcast_S1024_S1x1x1024_2 (shapeCast _ g shapeCasts_S1x1024_S1024)))

/-- The gate and up projections side by side. -/
def GU (x : FVec Ideal S1x16384x1024 .f32) (g : FVec Ideal S1x1024 .f32) (wi : FVec Ideal S1x1024x5632 .f32) : FVec Ideal S1x16384x5632 .f32 :=
  Host.dotGeneral dot_S1x16384x1024_S1024x5632_S1x16384x5632_2_0_01_1_n_n none (NORM x g) (shapeCast _ wi shapeCasts_S1x1024x5632_S1024x5632)

/-- The gated units. -/
def MID (gu : FVec Ideal S1x16384x5632 .f32) : FVec Ideal S1x16384x2816 .f32 :=
  mulf (mulf (extractStridedSlice S1x16384x2816 ![0, 0, 0] gu slices_S1x16384x5632_S1x16384x2816_0_0_0) (Host.divf (broadcastInDim S1x16384x2816 ![] bcast_S_S1x16384x2816 (constant S_ .f32 0x3F800000#32)) (addf (broadcastInDim S1x16384x2816 ![] bcast_S_S1x16384x2816 (constant S_ .f32 0x3F800000#32)) (Host.exp (Host.negf (extractStridedSlice S1x16384x2816 ![0, 0, 0] gu slices_S1x16384x5632_S1x16384x2816_0_0_0)))))) (extractStridedSlice S1x16384x2816 ![0, 0, 2816] gu slices_S1x16384x5632_S1x16384x2816_0_0_2816)

/-- The reference's result. -/
def REF (x : FVec Ideal S1x16384x1024 .f32) (g : FVec Ideal S1x1024 .f32) (wi : FVec Ideal S1x1024x5632 .f32) (wo : FVec Ideal S1x2816x1024 .f32) : FVec Ideal S1x16384x1024 .f32 :=
  addf x (mulf (broadcastInDim S1x16384x1024 ![] bcast_S_S1x16384x1024 (constant S_ .f32 0x3F000000#32)) (Host.dotGeneral dot_S1x16384x2816_S2816x1024_S1x16384x1024_2_0_01_1_n_n none (MID (GU x g wi)) (shapeCast _ wo shapeCasts_S1x2816x1024_S2816x1024)))

theorem NORM_at (x : FVec Ideal S1x16384x1024 .f32) (g : FVec Ideal S1x1024 .f32) (r : Fin 16384) (k : Fin 1024) :
    NORM x g (ix3 0 r k) = normRow (fun i => x (ix3 0 r i)) (fun i => g (ix2 0 i)) k := by
  pointwise [NORM, normRow, meanSq]

theorem GU_at (x : FVec Ideal S1x16384x1024 .f32) (g : FVec Ideal S1x1024 .f32) (wi : FVec Ideal S1x1024x5632 .f32) (r : Fin 16384) (f : Fin 5632) :
    GU x g wi (ix3 0 r f) = dot (normRow (fun i => x (ix3 0 r i)) (fun i => g (ix2 0 i))) (fun i => wi (ix3 0 i f)) := by
  pointwise [GU, dot]
  simp only [NORM_at]

theorem MID_at (gu : FVec Ideal S1x16384x5632 .f32) (r : Fin 16384) (f : Fin 2816) :
    MID gu (ix3 0 r f) = gated (gu (ix3 0 r ⟨f.val, by omega⟩)) (gu (ix3 0 r ⟨2816 + f.val, by omega⟩)) := by
  pointwise [MID, gated]

/-- One entry of the reference's result, a sum over all the units. -/
theorem REF_at (x : FVec Ideal S1x16384x1024 .f32) (g : FVec Ideal S1x1024 .f32) (wi : FVec Ideal S1x1024x5632 .f32) (wo : FVec Ideal S1x2816x1024 .f32) (r : Fin 16384) (k : Fin 1024) :
    REF x g wi wo (ix3 0 r k) = x (ix3 0 r k) + Ideal.ofBits .f32 0x3F000000#32 * ∑ f : Fin 2816,
      unitOf (normRow (fun i => x (ix3 0 r i)) (fun i => g (ix2 0 i))) (fun i => wi (ix3 0 i ⟨f.val, by omega⟩))
        (fun i => wi (ix3 0 i ⟨2816 + f.val, by omega⟩)) * wo (ix3 0 f k) := by
  pointwise [REF]
  simp only [MID_at, GU_at, unitOf]

end Cert.FfnRefVal

end
-- ==== Proof.FfnValue.lean ====
/- The feed-forward call computes its reference's result. -/
module

public import proofs.«01_k».proof.Proof.FfnChunk
public import proofs.«01_k».proof.Proof.FfnRef
public import Idealize.ShloMosaic.Lib.Pipeline.ValueKit

@[expose] public section

set_option maxRecDepth 16384

noncomputable section

namespace Cert.FfnVal

open Cert.FfnIdeal Cert.FfnIdeal.Gen Cert.Rows Idealize.ShloMosaic Idealize.ShloMosaic.TcCoe Idealize.SL.Sem
open Idealize.ShloMosaic.Pipeline (Dat)

variable (m : (ℓ : Loc nD τ sig) → Buf (Elt Ideal) ℓ)

theorem point (c : Dev nD) (t : Fin cfg0.N) (y : S1x512x1024.Idx) :
    out0_5 (F := Ideal) (iblk m c 0 t) (iblk m c 1 t) (iblk m c 2 t) (iblk m c 3 t) (iblk m c 4 t) y
      = FfnRefVal.REF (m ((c : Thread nD τ).loc main_arg0)) (m ((c : Thread nD τ).loc main_arg1))
          (m ((c : Thread nD τ).loc main_arg2)) (m ((c : Thread nD τ).loc main_arg3)) (((cfg0.win 5).blk t).view.emb y) := by
  have hR := FfnRefVal.REF_at (m ((c : Thread nD τ).loc main_arg0)) (m ((c : Thread nD τ).loc main_arg1))
          (m ((c : Thread nD τ).loc main_arg2)) (m ((c : Thread nD τ).loc main_arg3)) ⟨t.val * 512 + (y 1).val, by idx_bounds; omega⟩ (y 2)
  have hK := out_at (iblk m c 0 t) (iblk m c 1 t) (iblk m c 2 t) (iblk m c 3 t) (iblk m c 4 t) (y 1) (y 2)
  have hy : y = ix3 0 (y 1) (y 2) := by blk_ext [idx t]
  have he : ((cfg0.win 5).blk t).view.emb y = ix3 0 ⟨t.val * 512 + (y 1).val, by idx_bounds; omega⟩ (y 2) := by blk_ext [idx t]
  refine (congrArg _ hy).trans (hK.trans (Eq.trans ?_ (hR.symm.trans (congrArg _ he.symm))))
  blk_point [iblk, V, idx t]

/-- The array that the region leaves is the reference's result of the same arguments. -/
theorem final (c : Dev nD) : (dats m 0 c).arrAt 5 (cfgs 0).N
    = FfnRefVal.REF (m ((c : Thread nD τ).loc main_arg0)) (m ((c : Thread nD τ).loc main_arg1))
          (m ((c : Thread nD τ).loc main_arg2)) (m ((c : Thread nD τ).loc main_arg3)) := by
  refine (dats m 0 c).arrAt_eq_of_covers 5 _ (by decide +kernel) fun t _ y => ?_
  blk_simp
  rw [after0_5]
  exact point m c t y

end Cert.FfnVal

end
-- ==== Proof.FfnPair.lean ====
/- The value claim of the feed-forward call. -/
module

public import proofs.«01_k».proof.Defs
public import proofs.«01_k».proof.Proof.FfnValue

@[expose] public section

noncomputable section

namespace Cert.FfnVal

open Idealize.ShloMosaic Idealize.SL.Sem

theorem pair : Cert.algebraic_FfnIdeal_FfnRefIdeal := fun m g m' g' _ hagree =>
  ⟨_, (θ_run _ _ _).mono (fun _ h c => ⟨(h c).1.trans (final m c), (h c).2⟩) (Cert.FfnIdeal.Value.run_blocks (F := Ideal) m g),
    (θ_run _ _ _).mono (fun _ h c => ⟨(h c).1.trans (by
      rw [← (hagree c).1, ← (hagree c).2.1, ← (hagree c).2.2.1, ← (hagree c).2.2.2.1]; rfl), (h c).2⟩)
      (Cert.FfnRefIdeal.Value.run (F := Ideal) m' g')⟩

end Cert.FfnVal

end
-- ==== Proof.FinChunk.lean ====
/- The body of the feed-forward call that ends with the last normalization, read at one index of the block that it writes. -/
module

public import proofs.«01_k».proof.Proof.Gen.FinIdeal.Value
public import proofs.«01_k».proof.Proof.Rows
public import Idealize.ShloMosaic.Lib.Pipeline.ValueKit

@[expose] public section

set_option maxRecDepth 16384

noncomputable section

namespace Cert.FinVal

open Cert.FinIdeal Cert.FinIdeal.Gen Cert.Rows Idealize.ShloMosaic Idealize.ShloMosaic.TcCoe Idealize.SL.Sem
open Idealize.ShloMosaic.Pipeline (Dat)

/-- The normalized block of rows. -/
theorem pay3_at (x : FVec Ideal S1x512x1024 .f32) (g : FVec Ideal S1x1024 .f32) (r : Fin 512) (k : Fin 1024) :
    k0_pay3 (F := Ideal) x g (ix2 r k) = normRow (fun i => x (ix3 0 r i)) (fun i => g (ix2 0 i)) k := by
  pointwise [k0_pay3, k0_pay2, normRow, meanSq]

/-- The first chunk of units. -/
theorem pay5_at (x : FVec Ideal S1x512x1024 .f32) (g : FVec Ideal S1x1024 .f32) (wg wu : FVec Ideal S1024x512 .bf16) (wo : FVec Ideal S512x1024 .bf16) (r : Fin 512) (k : Fin 1024) :
    k0_pay5 (F := Ideal) x g wg wu wo (ix2 r k) =
     ∑ f : Fin 512, unitOf (fun i => k0_pay3 (F := Ideal) x g (ix2 r i)) (fun i => wg (ix2 i f)) (fun i => wu (ix2 i f)) * wo (ix2 f k) := by
  pointwise [k0_pay5, unitOf, gated, dot]
  simp only [zero_sub]

/-- The row of the residual stream that the body normalizes at the end, over the blocks that it was given. -/
def SUM (x0 : FVec Ideal S1x512x1024 .f32) (x1 : FVec Ideal S1x1024 .f32) (x2 : FVec Ideal S1024x5632 .bf16)
    (x3 : FVec Ideal S2816x1024 .bf16) (r : Fin 512) (k : Fin 1024) : EReal :=
  x0 (ix3 0 r k) + Ideal.ofBits .f32 0x3F000000#32 * ∑ f : Fin 2816,
      unitOf (normRow (fun i => x0 (ix3 0 r i)) (fun i => x1 (ix2 0 i))) (fun i => x2 (ix2 i ⟨f.val, by omega⟩))
        (fun i => x2 (ix2 i ⟨2816 + f.val, by omega⟩)) * x3 (ix2 f k)

/-- The block before the last normalization. -/
def RES (x0 : FVec Ideal S1x512x1024 .f32) (x1 : FVec Ideal S1x1024 .f32) (x2 : FVec Ideal S1024x5632 .bf16)
    (x3 : FVec Ideal S2816x1024 .bf16) (x4 : FVec Ideal S1x1024 .f32) : FVec Ideal S512x1024 .f32 :=
  k0_pay11 (F := Ideal) (k0_pay14 x0 x1 x2 x3 x4) (k0_pay15 x0 x1 x2 x3 x4) (k0_pay16 x0 x1 x2 x3 x4) (k0_pay17 x0 x1 x2 x3 x4) (k0_pay18 x0 x1 x2 x3 x4) (View.ld x3 r0_16) (View.ld x2 r0_17) (View.ld x2 r0_18) (View.ld x3 r0_19)

theorem RES_at (x0 : FVec Ideal S1x512x1024 .f32) (x1 : FVec Ideal S1x1024 .f32) (x2 : FVec Ideal S1024x5632 .bf16)
    (x3 : FVec Ideal S2816x1024 .bf16) (x4 : FVec Ideal S1x1024 .f32) (r : Fin 512) (k : Fin 1024) :
    RES x0 x1 x2 x3 x4 (ix2 r k) = SUM x0 x1 x2 x3 r k := by
  rw [SUM, sum_chunks]
  pointwise [RES, k0_pay14, k0_pay15, k0_pay16, k0_pay17, k0_pay18, k0_pay2, k0_pay4, k0_pay6, k0_pay7, k0_pay8, k0_pay9, k0_pay10, k0_pay11]
  simp only [pay5_at, pay3_at, zero_sub]
  pointwise [unitOf, gated, dot]
  blk_point []

/-- What the body leaves at one index of the block of results: the row normalized. -/
theorem out_at (x0 : FVec Ideal S1x512x1024 .f32) (x1 : FVec Ideal S1x1024 .f32) (x2 : FVec Ideal S1024x5632 .bf16)
    (x3 : FVec Ideal S2816x1024 .bf16) (x4 : FVec Ideal S1x1024 .f32) (r : Fin 512) (k : Fin 1024) :
    out0_5 (F := Ideal) x0 x1 x2 x3 x4 (ix3 0 r k)
      = normRow (fun i => SUM x0 x1 x2 x3 r i) (fun i => x4 (ix2 0 i)) k := by
  have h : ∀ i, RES x0 x1 x2 x3 x4 (ix2 r i) = SUM x0 x1 x2 x3 r i := RES_at x0 x1 x2 x3 x4 r
  have e : out0_5 (F := Ideal) x0 x1 x2 x3 x4 = View.canon [⟨r0_0, k0_pay1 (RES x0 x1 x2 x3 x4) (k0_pay12 (View.ld x4 r0_1)) (k0_pay13 (F := Ideal) (k0_pay14 x0 x1 x2 x3 x4) (k0_pay15 x0 x1 x2 x3 x4) (k0_pay16 x0 x1 x2 x3 x4) (k0_pay17 x0 x1 x2 x3 x4) (k0_pay18 x0 x1 x2 x3 x4) (View.ld x3 r0_16) (View.ld x2 r0_17) (View.ld x2 r0_18) (View.ld x3 r0_19))⟩] := rfl
  rw [e]
  have e2 : (k0_pay13 (F := Ideal) (k0_pay14 x0 x1 x2 x3 x4) (k0_pay15 x0 x1 x2 x3 x4) (k0_pay16 x0 x1 x2 x3 x4) (k0_pay17 x0 x1 x2 x3 x4) (k0_pay18 x0 x1 x2 x3 x4) (View.ld x3 r0_16) (View.ld x2 r0_17) (View.ld x2 r0_18) (View.ld x3 r0_19)) (ix2 r 0) = Ideal.rsqrt (meanSq fun i => RES x0 x1 x2 x3 x4 (ix2 r i)) := by
    unfold k0_pay13
    rw [show k0_pay11 (F := Ideal) (k0_pay14 x0 x1 x2 x3 x4) (k0_pay15 x0 x1 x2 x3 x4) (k0_pay16 x0 x1 x2 x3 x4) (k0_pay17 x0 x1 x2 x3 x4) (k0_pay18 x0 x1 x2 x3 x4) (View.ld x3 r0_16) (View.ld x2 r0_17) (View.ld x2 r0_18) (View.ld x3 r0_19) = RES x0 x1 x2 x3 x4 from rfl]
    generalize RES x0 x1 x2 x3 x4 = Y
    pointwise [meanSq]
  frame_out
  pointwise [k0_pay1, k0_pay12]
  rw [e2]
  simp only [h, normRow]

theorem idx : ∀ t : Fin cfg0.N, win0_0.index t = ![0, t.val, 0] ∧ win0_1.index t = ![0, 0] ∧ win0_2.index t = ![0, 0]
    ∧ win0_3.index t = ![0, 0] ∧ win0_4.index t = ![0, 0] ∧ win0_5.index t = ![0, t.val, 0] :=
  (by decide +kernel : ∀ t : Fin grid0.N, _)

end Cert.FinVal

end
-- ==== Proof.FinRef.lean ====
/- The reference of the feed-forward call that ends with the last normalization, read at one index of its result. -/
module

public import proofs.«01_k».proof.Proof.Gen.FinRefIdeal.Run
public import proofs.«01_k».proof.Proof.FfnRef
public import Idealize.ShloMosaic.Lib.Pipeline.ValueKit

@[expose] public section

set_option maxRecDepth 16384

noncomputable section

namespace Cert.FinRefVal

open Cert.FinRefIdeal Cert.FinRefIdeal.Gen Cert.Rows Idealize.ShloMosaic Idealize.ShloMosaic.TcCoe Idealize.SL.Sem

/-- The rows of `x` normalized, the scale a vector. -/
def LAST (x : FVec Ideal S1x16384x1024 .f32) (g : FVec Ideal S1024 .f32) : FVec Ideal S1x16384x1024 .f32 :=
  mulf (mulf x (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf x x) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0, 1, 2] bcast_S1x1x1024_S1x16384x1024_0_1_2 (broadcastInDim S1x1x1024 ![2] bcast_S1024_S1x1x1024_2 g))

/-- The reference's result: the last normalization of the feed-forward part's. -/
def REF (x : FVec Ideal S1x16384x1024 .f32) (g : FVec Ideal S1x1024 .f32) (wi : FVec Ideal S1x1024x5632 .f32) (wo : FVec Ideal S1x2816x1024 .f32) (gl : FVec Ideal S1024 .f32) : FVec Ideal S1x16384x1024 .f32 :=
  LAST (FfnRefVal.REF x g wi wo) gl

theorem LAST_at (x : FVec Ideal S1x16384x1024 .f32) (g : FVec Ideal S1024 .f32) (r : Fin 16384) (k : Fin 1024) :
    LAST x g (ix3 0 r k) = normRow (fun i => x (ix3 0 r i)) (fun i => g (ix1 i)) k := by
  pointwise [LAST, normRow, meanSq]

end Cert.FinRefVal

end
-- ==== Proof.FinValue.lean ====
/- The feed-forward call that ends with the last normalization computes its reference's result. -/
module

public import proofs.«01_k».proof.Proof.FinChunk
public import proofs.«01_k».proof.Proof.FinRef
public import Idealize.ShloMosaic.Lib.Pipeline.ValueKit

@[expose] public section

set_option maxRecDepth 16384

noncomputable section

namespace Cert.FinVal

open Cert.FinIdeal Cert.FinIdeal.Gen Cert.Rows Idealize.ShloMosaic Idealize.ShloMosaic.TcCoe Idealize.SL.Sem
open Idealize.ShloMosaic.Pipeline (Dat)

variable (m : (ℓ : Loc nD τ sig) → Buf (Elt Ideal) ℓ)

theorem point (c : Dev nD) (t : Fin cfg0.N) (y : S1x512x1024.Idx) :
    out0_5 (F := Ideal) (iblk m c 0 t) (iblk m c 1 t) (iblk m c 2 t) (iblk m c 3 t) (iblk m c 4 t) y
      = FinRefVal.REF (m ((c : Thread nD τ).loc main_arg0)) (m ((c : Thread nD τ).loc main_arg1))
          (m ((c : Thread nD τ).loc main_arg2)) (m ((c : Thread nD τ).loc main_arg3)) (m ((c : Thread nD τ).loc main_arg4)) (((cfg0.win 5).blk t).view.emb y) := by
  have hR := FinRefVal.LAST_at (FfnRefVal.REF (m ((c : Thread nD τ).loc main_arg0)) (m ((c : Thread nD τ).loc main_arg1))
          (m ((c : Thread nD τ).loc main_arg2)) (m ((c : Thread nD τ).loc main_arg3))) (m ((c : Thread nD τ).loc main_arg4)) ⟨t.val * 512 + (y 1).val, by idx_bounds; omega⟩ (y 2)
  have hK := out_at (iblk m c 0 t) (iblk m c 1 t) (iblk m c 2 t) (iblk m c 3 t) (iblk m c 4 t) (y 1) (y 2)
  have hy : y = ix3 0 (y 1) (y 2) := by blk_ext [idx t]
  have he : ((cfg0.win 5).blk t).view.emb y = ix3 0 ⟨t.val * 512 + (y 1).val, by idx_bounds; omega⟩ (y 2) := by blk_ext [idx t]
  have hsum : (fun i => SUM (iblk m c 0 t) (iblk m c 1 t) (iblk m c 2 t) (iblk m c 3 t) (y 1) i)
      = fun i => FfnRefVal.REF (m ((c : Thread nD τ).loc main_arg0)) (m ((c : Thread nD τ).loc main_arg1))
          (m ((c : Thread nD τ).loc main_arg2)) (m ((c : Thread nD τ).loc main_arg3)) (ix3 0 ⟨t.val * 512 + (y 1).val, by idx_bounds; omega⟩ i) := by
    funext i
    have hS := FfnRefVal.REF_at (m ((c : Thread nD τ).loc main_arg0)) (m ((c : Thread nD τ).loc main_arg1))
          (m ((c : Thread nD τ).loc main_arg2)) (m ((c : Thread nD τ).loc main_arg3)) ⟨t.val * 512 + (y 1).val, by idx_bounds; omega⟩ i
    refine Eq.trans ?_ hS.symm
    unfold SUM
    blk_point [iblk, V, idx t]
  have hg : (fun i : Fin 1024 => (iblk m c 4 t : FVec Ideal S1x1024 .f32) (ix2 0 i)) = fun i => (m ((c : Thread nD τ).loc main_arg4) : FVec Ideal S1024 .f32) (ix1 i) := by
    funext i
    blk_point [iblk, V, idx t]
  refine (congrArg _ hy).trans (hK.trans (Eq.trans ?_ (hR.symm.trans (congrArg _ he.symm))))
  rw [hsum, hg]

/-- The array that the region leaves is the reference's result of the same arguments. -/
theorem final (c : Dev nD) : (dats m 0 c).arrAt 5 (cfgs 0).N
    = FinRefVal.REF (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  exact point m c t y

end Cert.FinVal

end
-- ==== Proof.FinPair.lean ====
/- The value claim of the feed-forward call that ends with the last normalization. -/
module

public import proofs.«01_k».proof.Defs
public import proofs.«01_k».proof.Proof.FinValue

@[expose] public section

noncomputable section

namespace Cert.FinVal

open Idealize.ShloMosaic Idealize.SL.Sem

theorem pair : Cert.algebraic_FinIdeal_FinRefIdeal := fun m g m' g' _ hagree =>
  ⟨_, (θ_run _ _ _).mono (fun _ h c => ⟨(h c).1.trans (final m c), (h c).2⟩) (Cert.FinIdeal.Value.run_blocks (F := Ideal) m g),
    (θ_run _ _ _).mono (fun _ h c => ⟨(h c).1.trans (by
      rw [← (hagree c).1, ← (hagree c).2.1, ← (hagree c).2.2.1, ← (hagree c).2.2.2.1, ← (hagree c).2.2.2.2]; rfl), (h c).2⟩)
      (Cert.FinRefIdeal.Value.run (F := Ideal) m' g')⟩

end Cert.FinVal

end
-- ==== Proof.MergeRef.lean ====
module

public import proofs.«01_k».proof.Proof.Gen.MergeRefIdeal.Run
public import proofs.«01_k».proof.Proof.FfnRef
public import proofs.«01_k».proof.Proof.MlaRef

/-! The reference of the merge at an index: the memory attention's softmax, the three gates and the projection of the
gated sum of the branches. -/

@[expose] public section

set_option maxRecDepth 16384
noncomputable section

namespace Cert.MergeRefVal
open Cert.MergeRefIdeal Cert.MergeRefIdeal.Gen Cert.Rows Idealize.ShloMosaic Idealize.ShloMosaic.TcCoe Idealize.SL.Sem

/-- A gate of its logit. -/
def sig (a : EReal) : EReal := Ideal.div (Ideal.ofBits .f32 0x3F800000#32) (Ideal.ofBits .f32 0x3F800000#32 + Ideal.exp (-a))

/-- The gates of the three branches. -/
def gates (x : FVec Ideal S1x16384x1024 .f32) (g : FVec Ideal S1x1024 .f32) (w : FVec Ideal S1024x3072 .f32) : FVec Ideal S1x16384x3x1024 .f32 :=
  Host.divf (broadcastInDim S1x16384x3x1024 ![] bcast_S_S1x16384x3x1024 (constant S_ .f32 0x3F800000#32)) (addf (broadcastInDim S1x16384x3x1024 ![] bcast_S_S1x16384x3x1024 (constant S_ .f32 0x3F800000#32)) (Host.exp (Host.negf (shapeCast _ (Host.dotGeneral dot_S1x16384x1024_S1024x3072_S1x16384x3072_2_0_01_1_n_n none (FfnRefVal.NORM x g) w) shapeCasts_S1x16384x3072_S1x16384x3x1024))))
/-- The scores of every query against every memory token, head by head. -/
def scores (q : FVec Ideal S1x16384x512 .bf16) (k : FVec Ideal S1x256x512 .bf16) : FVec Ideal S1x4x16384x256 .f32 :=
  mulf (Host.dotGeneral dot_S1x16384x4x128_S1x256x4x128_S1x4x16384x256_3_3_1_1_02_02 none (shapeCast _ (extf .f32 q bitsLt_bf16_f32) shapeCasts_S1x16384x512_S1x16384x4x128) (shapeCast _ (extf .f32 k bitsLt_bf16_f32) shapeCasts_S1x256x512_S1x256x4x128)) (broadcastInDim S1x4x16384x256 ![] bcast_S_S1x4x16384x256 (constant S_ .f32 0x3DB504F3#32))
/-- Each query's largest score. -/
def peak (s : FVec Ideal S1x4x16384x256 .f32) : FVec Ideal S1x4x16384 .f32 :=
  Host.reduce FloatOps.maximumf s (constant S_ .f32 0xFF800000#32) reducesTo_S1x4x16384x256_S1x4x16384_d3 h_S_
/-- The maximum with minus infinity. -/
def above (p : FVec Ideal S1x4x16384 .f32) : FVec Ideal S1x4x16384 .f32 :=
  maximumf (broadcastInDim S1x4x16384 ![] bcast_S_S1x4x16384 (constant S_ .f32 0xFF800000#32)) p
/-- The number a query's scores are shifted by. -/
def tops (s : FVec Ideal S1x4x16384x256 .f32) : FVec Ideal S1x4x16384 .f32 := above (peak s)
/-- The exponentials of the shifted scores. -/
def exps (s : FVec Ideal S1x4x16384x256 .f32) : FVec Ideal S1x4x16384x256 .f32 :=
  Host.exp (subf s (broadcastInDim S1x4x16384x256 ![0, 1, 2, 3] bcast_S1x4x16384x1_S1x4x16384x256_0_1_2_3 (broadcastInDim S1x4x16384x1 ![0, 1, 2] bcast_S1x4x16384_S1x4x16384x1_0_1_2 (tops s))))
/-- The softmax. -/
def weights (s : FVec Ideal S1x4x16384x256 .f32) : FVec Ideal S1x4x16384x256 .f32 :=
  Host.divf (exps s) (broadcastInDim S1x4x16384x256 ![0, 1, 2, 3] bcast_S1x4x16384x1_S1x4x16384x256_0_1_2_3 (broadcastInDim S1x4x16384x1 ![0, 1, 2] bcast_S1x4x16384_S1x4x16384x1_0_1_2 (Host.reduceAdd (exps s) (constant S_ .f32 0x00000000#32) reducesTo_S1x4x16384x256_S1x4x16384_d3 h_S_)))
/-- The weighted sum of the values. -/
def mix (v : FVec Ideal S1x256x512 .bf16) (w : FVec Ideal S1x4x16384x256 .f32) : FVec Ideal S1x16384x512 .f32 :=
  shapeCast _ (transpose S1x16384x4x128 [0, 3, 1, 2] (Host.dotGeneral dot_S1x256x4x128_S1x4x16384x256_S1x4x128x16384_1_3_3_2_02_01 none (shapeCast _ (extf .f32 v bitsLt_bf16_f32) shapeCasts_S1x256x512_S1x256x4x128) w) transposes_S1x4x128x16384_S1x16384x4x128_0_3_1_2) shapeCasts_S1x16384x4x128_S1x16384x512
/-- A branch, projected. -/
def branch (o : FVec Ideal S1x16384x512 .f32) (w : FVec Ideal S1x512x1024 .f32) : FVec Ideal S1x16384x1024 .f32 :=
  Host.dotGeneral dot_S1x16384x512_S512x1024_S1x16384x1024_2_0_01_1_n_n none o (shapeCast _ w shapeCasts_S1x512x1024_S512x1024)
/-- The gated sum of the branches. -/
def merged (g : FVec Ideal S1x16384x3x1024 .f32) (a b c : FVec Ideal S1x16384x1024 .f32) : FVec Ideal S1x16384x1024 .f32 :=
  addf (addf (mulf (shapeCast _ (extractStridedSlice S1x16384x1x1024 ![0, 0, 0, 0] g slices_S1x16384x3x1024_S1x16384x1x1024_0_0_0_0) shapeCasts_S1x16384x1x1024_S1x16384x1024) a) (mulf (shapeCast _ (extractStridedSlice S1x16384x1x1024 ![0, 0, 1, 0] g slices_S1x16384x3x1024_S1x16384x1x1024_0_0_1_0) shapeCasts_S1x16384x1x1024_S1x16384x1024) b)) (mulf (shapeCast _ (extractStridedSlice S1x16384x1x1024 ![0, 0, 2, 0] g slices_S1x16384x3x1024_S1x16384x1x1024_0_0_2_0) shapeCasts_S1x16384x1x1024_S1x16384x1024) c)
/-- The residual sum. -/
def out (x p : FVec Ideal S1x16384x1024 .f32) (w : FVec Ideal S1x1024x1024 .f32) : FVec Ideal S1x16384x1024 .f32 :=
  addf x (Host.dotGeneral dot_S1x16384x1024_S1024x1024_S1x16384x1024_2_0_01_1_n_n none p (shapeCast _ w shapeCasts_S1x1024x1024_S1024x1024))
/-- The reference's result. -/
def REF (x : FVec Ideal S1x16384x1024 .f32) (oa ob qc : FVec Ideal S1x16384x512 .bf16) (mk mv : FVec Ideal S1x256x512 .bf16) (g : FVec Ideal S1x1024 .f32)
    (wg : FVec Ideal S1024x3072 .f32) (wa wb wc : FVec Ideal S1x512x1024 .f32) (wo : FVec Ideal S1x1024x1024 .f32) : FVec Ideal S1x16384x1024 .f32 :=
  out x (merged (gates x g wg) (branch (extf .f32 oa bitsLt_bf16_f32) wa) (branch (extf .f32 ob bitsLt_bf16_f32) wb) (branch (mix mv (weights (scores qc mk))) wc)) wo

theorem gates_at (x : FVec Ideal S1x16384x1024 .f32) (g : FVec Ideal S1x1024 .f32) (w : FVec Ideal S1024x3072 .f32) (r : Fin 16384) (j : Fin 3) (k : Fin 1024) :
    gates x g w (ix4 0 r j k) = sig (dot (normRow (fun i => x (ix3 0 r i)) (fun i => g (ix2 0 i))) (fun i => w (ix2 i ⟨1024 * j.val + k.val, by omega⟩))) := by
  pointwise [gates, sig, dot]
  simp only [FfnRefVal.NORM_at, mul_comm j.val 1024]

theorem scores_at (q : FVec Ideal S1x16384x512 .bf16) (k : FVec Ideal S1x256x512 .bf16) (h : Fin 4) (i : Fin 16384) (j : Fin 256) :
    scores q k (ix4 0 h i j) = (∑ d : Fin 128, q (ix3 0 i ⟨128 * h.val + d.val, by omega⟩) * k (ix3 0 j ⟨128 * h.val + d.val, by omega⟩)) * Ideal.ofBits .f32 0x3DB504F3#32 := by
  pointwise [scores]
  simp only [mul_comm h.val 128]

theorem drop_at (h : Fin 4) (i : Fin 16384) : (reducesTo_S1x4x16384x256_S1x4x16384_d3).drop (ix4 0 h i 0) = ix3 0 h i := by
  funext b
  fin_cases b
  · exact Fin.ext (Shape.ReducesTo.drop_apply_val_of_eq reducesTo_S1x4x16384x256_S1x4x16384_d3 (ix4 0 h i 0) 0 0)
  · exact Fin.ext (Shape.ReducesTo.drop_apply_val_of_eq reducesTo_S1x4x16384x256_S1x4x16384_d3 (ix4 0 h i 0) 1 1)
  · exact Fin.ext (Shape.ReducesTo.drop_apply_val_of_eq reducesTo_S1x4x16384x256_S1x4x16384_d3 (ix4 0 h i 0) 2 2)

theorem above_at (p : FVec Ideal S1x4x16384 .f32) (j : S1x4x16384.Idx) : above p j = p j := by
  have e : above p j = max (Ideal.ofBits .f32 0xFF800000#32) (p j) := rfl
  rw [e, MlaRefVal.bot_bits]
  exact max_eq_right bot_le

theorem tops_real (s : FVec Ideal S1x4x16384x256 .f32) (hs : ∀ i, ∃ r : ℝ, s i = r) (h : Fin 4) (i : Fin 16384) :
    ∃ r : ℝ, tops s (ix3 0 h i) = r := by
  unfold tops
  rw [above_at]
  unfold peak
  exact MlaRefVal.reduce_max_real s (constant S_ .f32 0xFF800000#32) reducesTo_S1x4x16384x256_S1x4x16384_d3 h_S_ (ix3 0 h i) hs (fun _ => MlaRefVal.bot_bits)
    (ix4 0 h i 0) (drop_at h i)

theorem exps_at (s : FVec Ideal S1x4x16384x256 .f32) (h : Fin 4) (i : Fin 16384) (j : Fin 256) :
    exps s (ix4 0 h i j) = Ideal.exp (s (ix4 0 h i j) - tops s (ix3 0 h i)) := by
  pointwise [exps]

theorem weights_at (s : FVec Ideal S1x4x16384x256 .f32) (h : Fin 4) (i : Fin 16384) (j : Fin 256) :
    weights s (ix4 0 h i j) = Ideal.div (exps s (ix4 0 h i j)) (∑ j' : Fin 256, exps s (ix4 0 h i j')) := by
  pointwise [weights]

theorem mix_at (v : FVec Ideal S1x256x512 .bf16) (w : FVec Ideal S1x4x16384x256 .f32) (i : Fin 16384) (h : Fin 4) (d : Fin 128) :
    mix v w (ix3 0 i ⟨128 * h.val + d.val, by omega⟩) = ∑ j : Fin 256, v (ix3 0 j ⟨128 * h.val + d.val, by omega⟩) * w (ix4 0 h i j) := by
  pointwise [mix]
  simp only [mul_comm h.val 128]

theorem branch_at (o : FVec Ideal S1x16384x512 .f32) (w : FVec Ideal S1x512x1024 .f32) (i : Fin 16384) (k : Fin 1024) :
    branch o w (ix3 0 i k) = ∑ j : Fin 512, o (ix3 0 i j) * w (ix3 0 j k) := by
  pointwise [branch]

theorem merged_at (g : FVec Ideal S1x16384x3x1024 .f32) (a b c : FVec Ideal S1x16384x1024 .f32) (i : Fin 16384) (k : Fin 1024) :
    merged g a b c (ix3 0 i k) = g (ix4 0 i 0 k) * a (ix3 0 i k) + g (ix4 0 i 1 k) * b (ix3 0 i k) + g (ix4 0 i 2 k) * c (ix3 0 i k) := by
  pointwise [merged]

theorem out_at (x p : FVec Ideal S1x16384x1024 .f32) (w : FVec Ideal S1x1024x1024 .f32) (i : Fin 16384) (k : Fin 1024) :
    out x p w (ix3 0 i k) = x (ix3 0 i k) + ∑ j : Fin 1024, p (ix3 0 i j) * w (ix3 0 j k) := by
  pointwise [out]

end Cert.MergeRefVal
end
-- ==== Proof.MergeChunk.lean ====
module

public import proofs.«01_k».proof.Proof.Gen.MergeIdeal.Value
public import proofs.«01_k».proof.Proof.MergeRef
public import proofs.«01_k».proof.Proof.Rows
public import Idealize.ShloMosaic.Lib.Pipeline.ValueKit

/-! The body of the merge call, read at one index of the block that it writes. -/

@[expose] public section

set_option maxRecDepth 16384
noncomputable section

namespace Cert.MergeVal
open Cert.MergeIdeal Cert.MergeIdeal.Gen Cert.Rows Idealize.ShloMosaic Idealize.ShloMosaic.TcCoe Idealize.SL.Sem
open Idealize.ShloMosaic.Pipeline (Dat)

/-- A query's score against a memory token. -/
def score (q k : Fin 128 → EReal) : EReal := (∑ d, q d * k d) * Ideal.ofBits .f32 0x3DB504F3#32
/-- The largest score. -/
def most (s : Fin 256 → EReal) : EReal := Finset.fold max (Ideal.ofBits .f32 0xFF800000#32) s Finset.univ
/-- The sum of the values weighted by the exponentials, divided by the sum of these. -/
def mixed (s v : Fin 256 → EReal) : EReal :=
  Ideal.div (∑ j, Ideal.exp (s j - most s) * v j) (∑ j, Ideal.exp (s j - most s))

theorem pay3_at (x : FVec Ideal S1x512x1024 .f32) (g : FVec Ideal S1x1024 .f32) (r : Fin 512) (k : Fin 1024) :
    k0_pay3 (F := Ideal) x g (ix2 r k) = normRow (fun i => x (ix3 0 r i)) (fun i => g (ix2 0 i)) k := by
  pointwise [k0_pay3, k0_pay2, normRow, meanSq]

theorem pay4_at (q : FVec Ideal S1x512x128 .bf16) (k : FVec Ideal S1x256x128 .bf16) (r : Fin 512) (j : Fin 256) :
    k0_pay4 (F := Ideal) q k (ix2 r j) = Ideal.exp (score (fun d => q (ix3 0 r d)) (fun d => k (ix3 0 j d)) - most fun j => score (fun d => q (ix3 0 r d)) (fun d => k (ix3 0 j d))) := by
  pointwise [k0_pay4, score, most]

/-- One head: from its queries, keys and values. -/
def head (q : Vec Ideal S1x512x128 .bf16) (k v : Vec Ideal S1x256x128 .bf16) (r : Fin 512) (d : Fin 128) : EReal :=
  mixed (fun j => score (fun d => q (ix3 0 r d)) (fun d => k (ix3 0 j d))) (fun j => v (ix3 0 j d))

theorem head0 (q : FVec Ideal S1x512x128 .bf16) (k v : FVec Ideal S1x256x128 .bf16) (r : Fin 512) (d : Fin 128) :
    k0_pay7 (F := Ideal) (k0_pay5 q k v) (k0_pay6 q k) (ix2 r d) = head q k v r d := by
  pointwise [k0_pay5, k0_pay6, k0_pay7, head, mixed]
  simp only [pay4_at]

theorem head1 (q : FVec Ideal S1x512x128 .bf16) (k v : FVec Ideal S1x256x128 .bf16) (r : Fin 512) (d : Fin 128) :
    k0_pay8 (F := Ideal) q k v (ix2 r d) = head q k v r d := by
  pointwise [k0_pay8, head, mixed, score, most]

/-- The heads side by side. -/
def HEADS (x3 : FVec Ideal S1x512x512 .bf16) (x4 x5 : FVec Ideal S1x256x512 .bf16) : FVec Ideal S512x512 .bf16 :=
  k0_pay11 (F := Ideal) (k0_pay7 (k0_pay5 (View.ld x3 r0_2) (View.ld x4 r0_3) (View.ld x5 r0_3)) (k0_pay6 (View.ld x3 r0_2) (View.ld x4 r0_3))) (k0_pay8 (View.ld x3 r0_4) (View.ld x4 r0_5) (View.ld x5 r0_5)) (k0_pay9 (View.ld x3 r0_6) (View.ld x4 r0_7)) (k0_pay10 (View.ld x3 r0_6) (View.ld x4 r0_7)) (View.ld x5 r0_7) (View.ld x3 r0_8) (View.ld x4 r0_9) (View.ld x5 r0_9)

/-- A head's columns of the query block. -/
theorem cols_q (x : FVec Ideal S1x512x512 .bf16) (o : ℕ) (ho : o ≤ 384) (inb) (r : Fin 512) (d : Fin 128) :
    View.ld (Val := Elt Ideal) (e' := .bf16) x (Rect.unit (s := S1x512x512) ![0, 0, o] S1x512x128.size inb) (ix3 0 r d) = x (ix3 0 r ⟨o + d.val, by omega⟩) :=
  congrArg x (funext fun a => Fin.ext ((Rect.idx_unit_val _ _ inb _ a).trans
    (match a with | 0 => rfl | 1 => Nat.zero_add _ | 2 => rfl)))
/-- A head's columns of a memory block. -/
theorem cols_k (x : FVec Ideal S1x256x512 .bf16) (o : ℕ) (ho : o ≤ 384) (inb) (r : Fin 256) (d : Fin 128) :
    View.ld (Val := Elt Ideal) (e' := .bf16) x (Rect.unit (s := S1x256x512) ![0, 0, o] S1x256x128.size inb) (ix3 0 r d) = x (ix3 0 r ⟨o + d.val, by omega⟩) :=
  congrArg x (funext fun a => Fin.ext ((Rect.idx_unit_val _ _ inb _ a).trans
    (match a with | 0 => rfl | 1 => Nat.zero_add _ | 2 => rfl)))

/-- One head, from the blocks: its columns start at `o`. -/
def headOf (x3 : FVec Ideal S1x512x512 .bf16) (x4 x5 : FVec Ideal S1x256x512 .bf16) (r : Fin 512) (o : ℕ) (ho : o ≤ 384) (d : Fin 128) : EReal :=
  mixed (fun j => score (fun d => x3 (ix3 0 r ⟨o + d.val, by omega⟩)) (fun d => x4 (ix3 0 j ⟨o + d.val, by omega⟩)))
    (fun j => x5 (ix3 0 j ⟨o + d.val, by omega⟩))

theorem row_0 (a b : FVec Ideal S512x128 .bf16) (q2 q3 : FVec Ideal S1x512x128 .bf16) (k2 v2 k3 v3 : FVec Ideal S1x256x128 .bf16) (r : Fin 512) (d : Fin 128) :
    k0_pay11 (F := Ideal) a b (k0_pay9 q2 k2) (k0_pay10 q2 k2) v2 q3 k3 v3 (ix2 r ⟨d.val, by omega⟩) = a (ix2 r d) := by
  pointwise [k0_pay11]

theorem row_1 (a b : FVec Ideal S512x128 .bf16) (q2 q3 : FVec Ideal S1x512x128 .bf16) (k2 v2 k3 v3 : FVec Ideal S1x256x128 .bf16) (r : Fin 512) (d : Fin 128) :
    k0_pay11 (F := Ideal) a b (k0_pay9 q2 k2) (k0_pay10 q2 k2) v2 q3 k3 v3 (ix2 r ⟨128 + d.val, by omega⟩) = b (ix2 r d) := by
  pointwise [k0_pay11]

theorem row_2 (a b : FVec Ideal S512x128 .bf16) (q2 q3 : FVec Ideal S1x512x128 .bf16) (k2 v2 k3 v3 : FVec Ideal S1x256x128 .bf16) (r : Fin 512) (d : Fin 128) :
    k0_pay11 (F := Ideal) a b (k0_pay9 q2 k2) (k0_pay10 q2 k2) v2 q3 k3 v3 (ix2 r ⟨256 + d.val, by omega⟩) = head q2 k2 v2 r d := by
  unfold head mixed score most
  pointwise [k0_pay11, k0_pay9, k0_pay10]
  rw [dif_neg (by omega), dif_neg (by omega), dif_pos (by omega)]
  simp only [show 256 + d.val - 128 - 128 = d.val by omega]

theorem row_3 (a b : FVec Ideal S512x128 .bf16) (q2 q3 : FVec Ideal S1x512x128 .bf16) (k2 v2 k3 v3 : FVec Ideal S1x256x128 .bf16) (r : Fin 512) (d : Fin 128) :
    k0_pay11 (F := Ideal) a b (k0_pay9 q2 k2) (k0_pay10 q2 k2) v2 q3 k3 v3 (ix2 r ⟨384 + d.val, by omega⟩) = head q3 k3 v3 r d := by
  unfold head mixed score most
  pointwise [k0_pay11]
  rw [dif_neg (by omega), dif_neg (by omega), dif_neg (by omega)]
  simp only [show 384 + d.val - 128 - 128 - 128 = d.val by omega]

theorem HEADS_0 (x3 : FVec Ideal S1x512x512 .bf16) (x4 x5 : FVec Ideal S1x256x512 .bf16) (r : Fin 512) (d : Fin 128) :
    HEADS x3 x4 x5 (ix2 r ⟨0 + d.val, by omega⟩) = headOf x3 x4 x5 r 0 (by norm_num) d := by
  have e : head (View.ld (Val := Elt Ideal) (e' := .bf16) x3 r0_2) (View.ld (Val := Elt Ideal) (e' := .bf16) x4 r0_3) (View.ld (Val := Elt Ideal) (e' := .bf16) x5 r0_3) r d = headOf x3 x4 x5 r 0 (by norm_num) d := by
    unfold head headOf
    exact congrArg₂ mixed (funext fun j => congrArg₂ score (funext fun d => cols_q x3 0 (by norm_num) _ r d) (funext fun d => cols_k x4 0 (by norm_num) _ j d))
      (funext fun j => cols_k x5 0 (by norm_num) _ j d)
  refine Eq.trans (congrArg (fun a => HEADS x3 x4 x5 (ix2 r a)) (Fin.ext (Nat.zero_add _))) ((row_0 _ _ _ _ _ _ _ _ r d).trans ((head0 _ _ _ r d).trans e))

theorem HEADS_1 (x3 : FVec Ideal S1x512x512 .bf16) (x4 x5 : FVec Ideal S1x256x512 .bf16) (r : Fin 512) (d : Fin 128) :
    HEADS x3 x4 x5 (ix2 r ⟨128 + d.val, by omega⟩) = headOf x3 x4 x5 r 128 (by norm_num) d := by
  have e : head (View.ld (Val := Elt Ideal) (e' := .bf16) x3 r0_4) (View.ld (Val := Elt Ideal) (e' := .bf16) x4 r0_5) (View.ld (Val := Elt Ideal) (e' := .bf16) x5 r0_5) r d = headOf x3 x4 x5 r 128 (by norm_num) d := by
    unfold head headOf
    exact congrArg₂ mixed (funext fun j => congrArg₂ score (funext fun d => cols_q x3 128 (by norm_num) _ r d) (funext fun d => cols_k x4 128 (by norm_num) _ j d))
      (funext fun j => cols_k x5 128 (by norm_num) _ j d)
  exact (row_1 _ _ _ _ _ _ _ _ r d).trans ((head1 _ _ _ r d).trans e)

theorem HEADS_2 (x3 : FVec Ideal S1x512x512 .bf16) (x4 x5 : FVec Ideal S1x256x512 .bf16) (r : Fin 512) (d : Fin 128) :
    HEADS x3 x4 x5 (ix2 r ⟨256 + d.val, by omega⟩) = headOf x3 x4 x5 r 256 (by norm_num) d := by
  have e : head (View.ld (Val := Elt Ideal) (e' := .bf16) x3 r0_6) (View.ld (Val := Elt Ideal) (e' := .bf16) x4 r0_7) (View.ld (Val := Elt Ideal) (e' := .bf16) x5 r0_7) r d = headOf x3 x4 x5 r 256 (by norm_num) d := by
    unfold head headOf
    exact congrArg₂ mixed (funext fun j => congrArg₂ score (funext fun d => cols_q x3 256 (by norm_num) _ r d) (funext fun d => cols_k x4 256 (by norm_num) _ j d))
      (funext fun j => cols_k x5 256 (by norm_num) _ j d)
  exact (row_2 _ _ _ _ _ _ _ _ r d).trans e

theorem HEADS_3 (x3 : FVec Ideal S1x512x512 .bf16) (x4 x5 : FVec Ideal S1x256x512 .bf16) (r : Fin 512) (d : Fin 128) :
    HEADS x3 x4 x5 (ix2 r ⟨384 + d.val, by omega⟩) = headOf x3 x4 x5 r 384 (by norm_num) d := by
  have e : head (View.ld (Val := Elt Ideal) (e' := .bf16) x3 r0_8) (View.ld (Val := Elt Ideal) (e' := .bf16) x4 r0_9) (View.ld (Val := Elt Ideal) (e' := .bf16) x5 r0_9) r d = headOf x3 x4 x5 r 384 (by norm_num) d := by
    unfold head headOf
    exact congrArg₂ mixed (funext fun j => congrArg₂ score (funext fun d => cols_q x3 384 (by norm_num) _ r d) (funext fun d => cols_k x4 384 (by norm_num) _ j d))
      (funext fun j => cols_k x5 384 (by norm_num) _ j d)
  exact (row_3 _ _ _ _ _ _ _ _ r d).trans e

/-- Every head. -/
theorem HEADS_at (x3 : FVec Ideal S1x512x512 .bf16) (x4 x5 : FVec Ideal S1x256x512 .bf16) (r : Fin 512) (h : Fin 4) (d : Fin 128) :
    HEADS x3 x4 x5 (ix2 r ⟨128 * h.val + d.val, by omega⟩) = headOf x3 x4 x5 r (128 * h.val) (by omega) d := by
  match h with
  | 0 => exact HEADS_0 x3 x4 x5 r d
  | 1 => exact HEADS_1 x3 x4 x5 r d
  | 2 => exact HEADS_2 x3 x4 x5 r d
  | 3 => exact HEADS_3 x3 x4 x5 r d

/-- The gated sum of the branches, over the blocks. -/
def MERGED (x0 : FVec Ideal S1x512x1024 .f32) (x1 x2 x3 : FVec Ideal S1x512x512 .bf16) (x4 x5 : FVec Ideal S1x256x512 .bf16) (x6 : FVec Ideal S1x1024 .f32)
    (x7 : FVec Ideal S1024x3072 .bf16) (x8 x9 x10 : FVec Ideal S512x1024 .bf16) (r : Fin 512) (k : Fin 1024) : EReal :=
  (∑ j : Fin 512, x1 (ix3 0 r j) * x8 (ix2 j k)) * MergeRefVal.sig (dot (normRow (fun i => x0 (ix3 0 r i)) (fun i => x6 (ix2 0 i))) (fun i => x7 (ix2 i ⟨k.val, by omega⟩)))
  + (∑ j : Fin 512, x2 (ix3 0 r j) * x9 (ix2 j k)) * MergeRefVal.sig (dot (normRow (fun i => x0 (ix3 0 r i)) (fun i => x6 (ix2 0 i))) (fun i => x7 (ix2 i ⟨1024 + k.val, by omega⟩)))
  + (∑ j : Fin 512, HEADS x3 x4 x5 (ix2 r j) * x10 (ix2 j k)) * MergeRefVal.sig (dot (normRow (fun i => x0 (ix3 0 r i)) (fun i => x6 (ix2 0 i))) (fun i => x7 (ix2 i ⟨2048 + k.val, by omega⟩)))

theorem out_at (x0 : FVec Ideal S1x512x1024 .f32) (x1 x2 x3 : FVec Ideal S1x512x512 .bf16) (x4 x5 : FVec Ideal S1x256x512 .bf16) (x6 : FVec Ideal S1x1024 .f32)
    (x7 : FVec Ideal S1024x3072 .bf16) (x8 x9 x10 : FVec Ideal S512x1024 .bf16) (x11 : FVec Ideal S1024x1024 .bf16) (r : Fin 512) (k : Fin 1024) :
    out0_12 (F := Ideal) x0 x1 x2 x3 x4 x5 x6 x7 x8 x9 x10 x11 (ix3 0 r k)
      = x0 (ix3 0 r k) + ∑ j : Fin 1024, MERGED x0 x1 x2 x3 x4 x5 x6 x7 x8 x9 x10 r j * x11 (ix2 j k) := by
  have e : out0_12 (F := Ideal) x0 x1 x2 x3 x4 x5 x6 x7 x8 x9 x10 x11 = View.canon [⟨r0_0, k0_pay1 (k0_pay2 (View.ld x0 r0_0)) (k0_pay13 (HEADS x3 x4 x5) (View.ld x10 r0_11)) (k0_pay14 (k0_pay3 (View.ld x0 r0_0) (View.ld x6 r0_1)) (k0_pay12 (View.ld x1 r0_10) (View.ld x8 r0_11)) (View.ld x2 r0_10) (View.ld x9 r0_11) (View.ld x7 r0_12) (View.ld x7 r0_13)) (k0_pay15 (k0_pay3 (View.ld x0 r0_0) (View.ld x6 r0_1)) (View.ld x7 r0_14)) (View.ld x11 r0_15)⟩] := rfl
  rw [e]
  unfold MERGED
  generalize HEADS x3 x4 x5 = H
  frame_out
  pointwise [k0_pay1, k0_pay2, k0_pay12, k0_pay13, k0_pay14, k0_pay15]
  simp only [pay3_at, zero_sub]
  simp only [MergeRefVal.sig, dot, Ideal.ofBits_one_f32]

theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, 0, 0] ∧ win0_5.index t = ![0, 0, 0] ∧ win0_6.index t = ![0, 0]
    ∧ win0_7.index t = ![0, 0] ∧ win0_8.index t = ![0, 0] ∧ win0_9.index t = ![0, 0] ∧ win0_10.index t = ![0, 0] ∧ win0_11.index t = ![0, 0]
    ∧ win0_12.index t = ![0, t.val, 0] :=
  (by decide +kernel : ∀ t : Fin grid0.N, _)

end Cert.MergeVal
end
-- ==== Proof.MergeValue.lean ====
/- The call that merges the branches computes its reference's result, for real memory queries and keys. -/
module

public import proofs.«01_k».proof.Proof.MergeChunk
public import proofs.«01_k».proof.Proof.Softmax
public import Idealize.ShloMosaic.Lib.Pipeline.ValueKit

@[expose] public section

set_option maxRecDepth 16384

noncomputable section

namespace Cert.MergeVal

open Cert.MergeIdeal Cert.MergeIdeal.Gen Cert.Rows Idealize.ShloMosaic Idealize.ShloMosaic.TcCoe Idealize.SL.Sem
open Idealize.ShloMosaic.Pipeline (Dat)
open Cert.Softmax

/-- The quotient of the two sums is the sum of the values weighted by the softmax. -/
theorem mixed_eq (s v : Fin 256 → EReal) (x : Fin 256 → ℝ) (hs : ∀ j, s j = x j) (ν : ℝ) :
    mixed s v = ∑ j, v j * Ideal.div (Ideal.exp (s j - ν)) (∑ j', Ideal.exp (s j' - ν)) := by
  obtain ⟨μ, hμ⟩ : ∃ μ : ℝ, most s = μ := by
    unfold most
    rw [MlaRefVal.bot_bits, funext hs]
    exact real_fold (by norm_num) x
  let key : ℕ → Fin 256 := fun r => ⟨r % 256, Nat.mod_lt _ (by norm_num)⟩
  have hkey : ∀ j : Fin 256, key j.val = j := fun j => Fin.ext (Nat.mod_eq_of_lt j.isLt)
  have K : Kept (D := Unit) (fun r => s (key r)) (fun _ r => v (key r)) 256 (most s) (∑ j, Ideal.exp (s j - most s))
      (fun _ => ∑ j, Ideal.exp (s j - most s) * v j) := by
    refine ⟨μ, hμ, ?_, fun _ => ?_⟩
    · rw [Finset.sum_range (fun r => Ideal.exp (s (key r) - μ)), hμ]
      simp only [hkey]
    · rw [Finset.sum_range (fun r => v (key r) * Ideal.exp (s (key r) - μ)), hμ]
      simp only [hkey, mul_comm]
  have e := K.quotient (fun r => x (key r)) (fun r => hs _) (by norm_num) ν ()
  simp only [hkey] at e
  exact e

/-- The scores of real queries and keys are real. -/
theorem scores_real (Q : FVec Ideal S1x16384x512 .bf16) (K : FVec Ideal S1x256x512 .bf16) (hQ : ∀ i, ∃ r : ℝ, Q i = r) (hK : ∀ i, ∃ r : ℝ, K i = r) (i) :
    ∃ r : ℝ, MergeRefVal.scores Q K i = r := by
  choose f hf using hQ
  choose g hg using hK
  obtain ⟨p, h, a, b, rfl⟩ : ∃ (p : Fin 1) (h : Fin 4) (a : Fin 16384) (b : Fin 256), i = ix4 p h a b := ⟨i 0, i 1, i 2, i 3, by funext a; fin_cases a <;> rfl⟩
  obtain rfl := Subsingleton.elim p 0
  obtain ⟨κ, hκ⟩ : ∃ κ : ℝ, Ideal.ofBits .f32 0x3DB504F3#32 = κ := by
    simp [Ideal.ofBits, Ideal.ieee, -EReal.coe_mul]
  rw [MergeRefVal.scores_at, hκ]
  simp only [hf, hg, ← EReal.coe_mul]
  rw [coe_sum, ← EReal.coe_mul]
  exact ⟨_, rfl⟩

/-- The heads of a row are the reference's heads of the row. -/
theorem heads_eq (x3 : FVec Ideal S1x512x512 .bf16) (x4 x5 : FVec Ideal S1x256x512 .bf16)
    (Q : FVec Ideal S1x16384x512 .bf16) (K W : FVec Ideal S1x256x512 .bf16) (hQ : ∀ i, ∃ r : ℝ, Q i = r) (hK : ∀ i, ∃ r : ℝ, K i = r)
    (r : Fin 512) (R : Fin 16384) (h3 : ∀ j, x3 (ix3 0 r j) = Q (ix3 0 R j)) (h4 : ∀ a j, x4 (ix3 0 a j) = K (ix3 0 a j))
    (h5 : ∀ a j, x5 (ix3 0 a j) = W (ix3 0 a j)) (j : Fin 512) :
    HEADS x3 x4 x5 (ix2 r j) = MergeRefVal.mix W (MergeRefVal.weights (MergeRefVal.scores Q K)) (ix3 0 R j) := by
  obtain ⟨h, d, rfl⟩ : ∃ (h : Fin 4) (d : Fin 128), j = ⟨128 * h.val + d.val, by omega⟩ :=
    ⟨⟨j.val / 128, by omega⟩, ⟨j.val % 128, by omega⟩, Fin.ext (by show j.val = 128 * (j.val / 128) + j.val % 128; omega)⟩
  have hs := scores_real Q K hQ hK
  obtain ⟨ν, hν⟩ := MergeRefVal.tops_real _ hs h R
  choose x hx using hs
  rw [HEADS_at, MergeRefVal.mix_at]
  have e : ∀ a : Fin 256, score (fun d : Fin 128 => x3 (ix3 0 r ⟨128 * h.val + d.val, by omega⟩)) (fun d : Fin 128 => x4 (ix3 0 a ⟨128 * h.val + d.val, by omega⟩))
      = MergeRefVal.scores Q K (ix4 0 h R a) := fun a => by
    rw [MergeRefVal.scores_at]
    unfold score
    simp only [h3, h4]
  refine Eq.trans (b := mixed (fun a => MergeRefVal.scores Q K (ix4 0 h R a)) (fun a => W (ix3 0 a ⟨128 * h.val + d.val, by omega⟩))) ?_ ?_
  · unfold headOf
    simp only [e, h5]
  · rw [mixed_eq _ _ (fun a => x (ix4 0 h R a)) (fun a => hx _) ν]
    refine Finset.sum_congr rfl fun a _ => ?_
    rw [MergeRefVal.weights_at]
    simp only [MergeRefVal.exps_at, hν]

/-- The gated sum of a row's branches is the reference's. -/
theorem merged_eq (x0 : FVec Ideal S1x512x1024 .f32) (x1 x2 x3 : FVec Ideal S1x512x512 .bf16) (x4 x5 : FVec Ideal S1x256x512 .bf16) (x6 : FVec Ideal S1x1024 .f32)
    (x7 : FVec Ideal S1024x3072 .bf16) (x8 x9 x10 : FVec Ideal S512x1024 .bf16)
    (x : FVec Ideal S1x16384x1024 .f32) (oa ob qc : FVec Ideal S1x16384x512 .bf16) (mk mv : FVec Ideal S1x256x512 .bf16) (g : FVec Ideal S1x1024 .f32)
    (wg : FVec Ideal S1024x3072 .f32) (wa wb wc : FVec Ideal S1x512x1024 .f32)
    (hQ : ∀ i, ∃ r : ℝ, qc i = r) (hK : ∀ i, ∃ r : ℝ, mk i = r) (r : Fin 512) (R : Fin 16384)
    (h0 : ∀ j, x0 (ix3 0 r j) = x (ix3 0 R j)) (h1 : ∀ j, x1 (ix3 0 r j) = oa (ix3 0 R j)) (h2 : ∀ j, x2 (ix3 0 r j) = ob (ix3 0 R j))
    (h3 : ∀ j, x3 (ix3 0 r j) = qc (ix3 0 R j)) (h4 : ∀ a j, x4 (ix3 0 a j) = mk (ix3 0 a j)) (h5 : ∀ a j, x5 (ix3 0 a j) = mv (ix3 0 a j))
    (h6 : ∀ j, x6 (ix2 0 j) = g (ix2 0 j)) (h7 : ∀ a j, x7 (ix2 a j) = wg (ix2 a j)) (h8 : ∀ a j, x8 (ix2 a j) = wa (ix3 0 a j))
    (h9 : ∀ a j, x9 (ix2 a j) = wb (ix3 0 a j)) (h10 : ∀ a j, x10 (ix2 a j) = wc (ix3 0 a j)) (k : Fin 1024) :
    MERGED x0 x1 x2 x3 x4 x5 x6 x7 x8 x9 x10 r k
      = MergeRefVal.merged (MergeRefVal.gates x g wg) (MergeRefVal.branch (extf .f32 oa Cert.MergeRefIdeal.Facts₀.bitsLt_bf16_f32) wa) (MergeRefVal.branch (extf .f32 ob Cert.MergeRefIdeal.Facts₀.bitsLt_bf16_f32) wb)
          (MergeRefVal.branch (MergeRefVal.mix mv (MergeRefVal.weights (MergeRefVal.scores qc mk))) wc) (ix3 0 R k) := by
  rw [MergeRefVal.merged_at]
  simp only [MergeRefVal.gates_at, MergeRefVal.branch_at, ← heads_eq x3 x4 x5 qc mk mv hQ hK r R h3 h4 h5]
  unfold MERGED
  simp only [h0, h1, h2, h6, h7, h8, h9, h10]
  refine congrArg₂ _ (congrArg₂ _ ((mul_comm _ _).trans ?_) ((mul_comm _ _).trans ?_)) ((mul_comm _ _).trans ?_)
  · refine congrArg₂ _ (congrArg _ (congrArg _ (funext fun i => ?_))) rfl
    exact congrArg (fun a => wg (ix2 i a)) (Fin.ext (Nat.zero_add _).symm)
  · rfl
  · rfl

variable (m : (ℓ : Loc nD τ sig) → Buf (Elt Ideal) ℓ)

/-- What a point stores is the reference's result there. -/
theorem point (c : Dev nD) (hQ : ∀ i, ∃ r : ℝ, m ((c : Thread nD τ).loc main_arg3) i = (r : EReal)) (hK : ∀ i, ∃ r : ℝ, m ((c : Thread nD τ).loc main_arg4) i = (r : EReal))
    (t : Fin cfg0.N) (y : S1x512x1024.Idx) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = MergeRefVal.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (((cfg0.win 12).blk t).view.emb y) := by
  have hK' := out_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (y 1) (y 2)
  have hy : y = ix3 0 (y 1) (y 2) := by blk_ext [idx t]
  have he : ((cfg0.win 12).blk t).view.emb y = ix3 0 ⟨t.val * 512 + (y 1).val, by idx_bounds; omega⟩ (y 2) := by blk_ext [idx t]
  refine (congrArg _ hy).trans (hK'.trans (Eq.trans ?_ ((MergeRefVal.out_at _ _ _ ⟨t.val * 512 + (y 1).val, by idx_bounds; omega⟩ (y 2)).symm.trans (congrArg _ he.symm))))
  refine congrArg₂ _ ?_ (Finset.sum_congr rfl fun j _ => congrArg₂ _ (merged_eq _ _ _ _ _ _ _ _ _ _ _ _ _ _ _ _ _ _ _ _ _ _ hQ hK (y 1) ⟨t.val * 512 + (y 1).val, by idx_bounds; omega⟩ ?_ ?_ ?_ ?_ ?_ ?_ ?_ ?_ ?_ ?_ ?_ j) ?_)
  · blk_point [iblk, V, idx t]
  all_goals first | intro a j; blk_point [iblk, V, idx t] | intro j; blk_point [iblk, V, idx t] | blk_point [iblk, V, idx t]

/-- The array that the region leaves is the reference's result of the same arguments. -/
theorem final (c : Dev nD) (hQ : ∀ i, ∃ r : ℝ, m ((c : Thread nD τ).loc main_arg3) i = (r : EReal)) (hK : ∀ i, ∃ r : ℝ, m ((c : Thread nD τ).loc main_arg4) i = (r : EReal)) :
    (dats m 0 c).arrAt 12 (cfgs 0).N = MergeRefVal.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 12 _ (by decide +kernel) fun t _ y => ?_
  blk_simp
  rw [after0_12]
  exact point m c hQ hK t y

end Cert.MergeVal
end
-- ==== Proof.MergePair.lean ====
/- The value claim of the call that merges the branches. -/
module

public import proofs.«01_k».proof.Defs
public import proofs.«01_k».proof.Proof.Gen.Pre_memory_queries_and_keys_finite
public import proofs.«01_k».proof.Proof.MergeValue
public import proofs.«01_k».proof.Proof.Finite

@[expose] public section

noncomputable section

namespace Cert.MergeVal

open Idealize.ShloMosaic Idealize.SL.Sem

instance : Subsingleton Cert.Pre_memory_queries_and_keys_finite.S_.Idx := ⟨fun a b => by funext i; exact i.elim0⟩

/-- The precondition read: the queries and the keys of the memory attention are real numbers. -/
theorem reals (x oa ob q k v g wg wa wb wc wo) (h : Cert.Pre_memory_queries_and_keys_finite.fn (F := Ideal) x oa ob q k v g wg wa wb wc wo = fun _ => 1#1) :
    (∀ i, ∃ r : ℝ, q i = r) ∧ ∀ i, ∃ r : ℝ, k i = r := by
  have e := congrFun h (fun i => i.elim0)
  dsimp only [Cert.Pre_memory_queries_and_keys_finite.fn] at e
  obtain ⟨e1, e2⟩ := Finite.and_one _ _ e
  exact ⟨fun i => Finite.real_of_all _ _ _ (fun _ => Finite.top_bits) _ _ _ e1 i, fun i => Finite.real_of_all _ _ _ (fun _ => Finite.top_bits) _ _ _ e2 i⟩

theorem pair : Cert.algebraic_MergeIdeal_MergeRefIdeal_pre_memory_queries_and_keys_finite := fun m g m' g' hp hagree =>
  ⟨_, (θ_run _ _ _).mono (fun _ h c => ⟨(h c).1.trans (final m c (reals _ _ _ _ _ _ _ _ _ _ _ _ (hp c)).1 (reals _ _ _ _ _ _ _ _ _ _ _ _ (hp c)).2), (h c).2⟩)
      (Cert.MergeIdeal.Value.run_blocks (F := Ideal) m g),
    (θ_run _ _ _).mono (fun _ h c => ⟨(h c).1.trans (by
      obtain ⟨h0, h1, h2, h3, h4, h5, h6, h7, h8, h9, h10, h11⟩ := hagree c
      rw [← h0, ← h1, ← h2, ← h3, ← h4, ← h5, ← h6, ← h7, ← h8, ← h9, ← h10, ← h11]
      rfl), (h c).2⟩)
      (Cert.MergeRefIdeal.Value.run (F := Ideal) m' g')⟩

end Cert.MergeVal

end
-- ==== Proof.FinBChunk.lean ====
/- The body of the feed-forward call that ends with the last normalization, at the shapes of the second
batch, read at one index of the block that it writes. -/
module

public import proofs.«01_k».proof.Proof.Gen.FinBIdeal.Value
public import proofs.«01_k».proof.Proof.Rows
public import Idealize.ShloMosaic.Lib.Pipeline.ValueKit

@[expose] public section

set_option maxRecDepth 16384

noncomputable section

namespace Cert.FinBVal

open Cert.FinBIdeal Cert.FinBIdeal.Gen Cert.Rows Idealize.ShloMosaic Idealize.ShloMosaic.TcCoe Idealize.SL.Sem
open Idealize.ShloMosaic.Pipeline (Dat)

/-- The normalized block of rows. -/
theorem pay3_at (x : FVec Ideal S1x512x1024 .f32) (g : FVec Ideal S1x1024 .f32) (r : Fin 512) (k : Fin 1024) :
    k0_pay3 (F := Ideal) x g (ix2 r k) = normRow (fun i => x (ix3 0 r i)) (fun i => g (ix2 0 i)) k := by
  pointwise [k0_pay3, k0_pay2, normRow, meanSq]

/-- The first chunk of units. -/
theorem pay5_at (x : FVec Ideal S1x512x1024 .f32) (g : FVec Ideal S1x1024 .f32) (wg wu : FVec Ideal S1024x512 .bf16) (wo : FVec Ideal S512x1024 .bf16) (r : Fin 512) (k : Fin 1024) :
    k0_pay5 (F := Ideal) x g wg wu wo (ix2 r k) =
     ∑ f : Fin 512, unitOf (fun i => k0_pay3 (F := Ideal) x g (ix2 r i)) (fun i => wg (ix2 i f)) (fun i => wu (ix2 i f)) * wo (ix2 f k) := by
  pointwise [k0_pay5, unitOf, gated, dot]
  simp only [zero_sub]

/-- The row of the residual stream that the body normalizes at the end, over the blocks that it was given. -/
def SUM (x0 : FVec Ideal S1x512x1024 .f32) (x1 : FVec Ideal S1x1024 .f32) (x2 : FVec Ideal S1024x5632 .bf16)
    (x3 : FVec Ideal S2816x1024 .bf16) (r : Fin 512) (k : Fin 1024) : EReal :=
  x0 (ix3 0 r k) + Ideal.ofBits .f32 0x3F000000#32 * ∑ f : Fin 2816,
      unitOf (normRow (fun i => x0 (ix3 0 r i)) (fun i => x1 (ix2 0 i))) (fun i => x2 (ix2 i ⟨f.val, by omega⟩))
        (fun i => x2 (ix2 i ⟨2816 + f.val, by omega⟩)) * x3 (ix2 f k)

/-- The block before the last normalization. -/
def RES (x0 : FVec Ideal S1x512x1024 .f32) (x1 : FVec Ideal S1x1024 .f32) (x2 : FVec Ideal S1024x5632 .bf16)
    (x3 : FVec Ideal S2816x1024 .bf16) (x4 : FVec Ideal S1x1024 .f32) : FVec Ideal S512x1024 .f32 :=
  k0_pay11 (F := Ideal) (k0_pay14 x0 x1 x2 x3 x4) (k0_pay15 x0 x1 x2 x3 x4) (k0_pay16 x0 x1 x2 x3 x4) (k0_pay17 x0 x1 x2 x3 x4) (k0_pay18 x0 x1 x2 x3 x4) (View.ld x3 r0_16) (View.ld x2 r0_17) (View.ld x2 r0_18) (View.ld x3 r0_19)

theorem RES_at (x0 : FVec Ideal S1x512x1024 .f32) (x1 : FVec Ideal S1x1024 .f32) (x2 : FVec Ideal S1024x5632 .bf16)
    (x3 : FVec Ideal S2816x1024 .bf16) (x4 : FVec Ideal S1x1024 .f32) (r : Fin 512) (k : Fin 1024) :
    RES x0 x1 x2 x3 x4 (ix2 r k) = SUM x0 x1 x2 x3 r k := by
  rw [SUM, sum_chunks]
  pointwise [RES, k0_pay14, k0_pay15, k0_pay16, k0_pay17, k0_pay18, k0_pay2, k0_pay4, k0_pay6, k0_pay7, k0_pay8, k0_pay9, k0_pay10, k0_pay11]
  simp only [pay5_at, pay3_at, zero_sub]
  pointwise [unitOf, gated, dot]
  blk_point []

/-- What the body leaves at one index of the block of results: the row normalized. -/
theorem out_at (x0 : FVec Ideal S1x512x1024 .f32) (x1 : FVec Ideal S1x1024 .f32) (x2 : FVec Ideal S1024x5632 .bf16)
    (x3 : FVec Ideal S2816x1024 .bf16) (x4 : FVec Ideal S1x1024 .f32) (r : Fin 512) (k : Fin 1024) :
    out0_5 (F := Ideal) x0 x1 x2 x3 x4 (ix3 0 r k)
      = normRow (fun i => SUM x0 x1 x2 x3 r i) (fun i => x4 (ix2 0 i)) k := by
  have h : ∀ i, RES x0 x1 x2 x3 x4 (ix2 r i) = SUM x0 x1 x2 x3 r i := RES_at x0 x1 x2 x3 x4 r
  have e : out0_5 (F := Ideal) x0 x1 x2 x3 x4 = View.canon [⟨r0_0, k0_pay1 (RES x0 x1 x2 x3 x4) (k0_pay12 (View.ld x4 r0_1)) (k0_pay13 (F := Ideal) (k0_pay14 x0 x1 x2 x3 x4) (k0_pay15 x0 x1 x2 x3 x4) (k0_pay16 x0 x1 x2 x3 x4) (k0_pay17 x0 x1 x2 x3 x4) (k0_pay18 x0 x1 x2 x3 x4) (View.ld x3 r0_16) (View.ld x2 r0_17) (View.ld x2 r0_18) (View.ld x3 r0_19))⟩] := rfl
  rw [e]
  have e2 : (k0_pay13 (F := Ideal) (k0_pay14 x0 x1 x2 x3 x4) (k0_pay15 x0 x1 x2 x3 x4) (k0_pay16 x0 x1 x2 x3 x4) (k0_pay17 x0 x1 x2 x3 x4) (k0_pay18 x0 x1 x2 x3 x4) (View.ld x3 r0_16) (View.ld x2 r0_17) (View.ld x2 r0_18) (View.ld x3 r0_19)) (ix2 r 0) = Ideal.rsqrt (meanSq fun i => RES x0 x1 x2 x3 x4 (ix2 r i)) := by
    unfold k0_pay13
    rw [show k0_pay11 (F := Ideal) (k0_pay14 x0 x1 x2 x3 x4) (k0_pay15 x0 x1 x2 x3 x4) (k0_pay16 x0 x1 x2 x3 x4) (k0_pay17 x0 x1 x2 x3 x4) (k0_pay18 x0 x1 x2 x3 x4) (View.ld x3 r0_16) (View.ld x2 r0_17) (View.ld x2 r0_18) (View.ld x3 r0_19) = RES x0 x1 x2 x3 x4 from rfl]
    generalize RES x0 x1 x2 x3 x4 = Y
    pointwise [meanSq]
  frame_out
  pointwise [k0_pay1, k0_pay12]
  rw [e2]
  simp only [h, normRow]

theorem idx : ∀ t : Fin cfg0.N, win0_0.index t = ![t.val / 8, t.val % 8, 0] ∧ win0_1.index t = ![0, 0] ∧ win0_2.index t = ![0, 0]
    ∧ win0_3.index t = ![0, 0] ∧ win0_4.index t = ![0, 0] ∧ win0_5.index t = ![t.val / 8, t.val % 8, 0] :=
  (by decide +kernel : ∀ t : Fin grid0.N, _)

end Cert.FinBVal

end
-- ==== Proof.FinBRef.lean ====
/- The reference of the feed-forward call that ends with the last normalization, at the shapes of the
second batch, read at one index of its result. -/
module

public import proofs.«01_k».proof.Proof.Gen.FinBRefIdeal.Run
public import proofs.«01_k».proof.Proof.Rows
public import Idealize.ShloMosaic.Lib.Pipeline.ValueKit

@[expose] public section

set_option maxRecDepth 16384

noncomputable section

namespace Cert.FinBRefVal

open Cert.FinBRefIdeal Cert.FinBRefIdeal.Gen Cert.Rows Idealize.ShloMosaic Idealize.ShloMosaic.TcCoe Idealize.SL.Sem

/-- The normalized rows. -/
def NORM (x : FVec Ideal S8x4096x1024 .f32) (g : FVec Ideal S1x1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ g shapeCasts_S1x1024_S1024)))

/-- The gate and up projections side by side. -/
def GU (x : FVec Ideal S8x4096x1024 .f32) (g : FVec Ideal S1x1024 .f32) (wi : FVec Ideal S1x1024x5632 .f32) : FVec Ideal S8x4096x5632 .f32 :=
  Host.dotGeneral dot_S8x4096x1024_S1024x5632_S8x4096x5632_2_0_01_1_n_n none (NORM x g) (shapeCast _ wi shapeCasts_S1x1024x5632_S1024x5632)

/-- The gated units. -/
def MID (gu : FVec Ideal S8x4096x5632 .f32) : FVec Ideal S8x4096x2816 .f32 :=
  mulf (mulf (extractStridedSlice S8x4096x2816 ![0, 0, 0] gu slices_S8x4096x5632_S8x4096x2816_0_0_0) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (extractStridedSlice S8x4096x2816 ![0, 0, 0] gu slices_S8x4096x5632_S8x4096x2816_0_0_0)))))) (extractStridedSlice S8x4096x2816 ![0, 0, 2816] gu slices_S8x4096x5632_S8x4096x2816_0_0_2816)

/-- The residual stream after the feed-forward part. -/
def SUMS (x : FVec Ideal S8x4096x1024 .f32) (g : FVec Ideal S1x1024 .f32) (wi : FVec Ideal S1x1024x5632 .f32) (wo : FVec Ideal S1x2816x1024 .f32) : FVec Ideal S8x4096x1024 .f32 :=
  addf x (mulf (broadcastInDim S8x4096x1024 ![] bcast_S_S8x4096x1024 (constant S_ .f32 0x3F000000#32)) (Host.dotGeneral dot_S8x4096x2816_S2816x1024_S8x4096x1024_2_0_01_1_n_n none (MID (GU x g wi)) (shapeCast _ wo shapeCasts_S1x2816x1024_S2816x1024)))

theorem NORM_at (x : FVec Ideal S8x4096x1024 .f32) (g : FVec Ideal S1x1024 .f32) (b : Fin 8) (r : Fin 4096) (k : Fin 1024) :
    NORM x g (ix3 b r k) = normRow (fun i => x (ix3 b r i)) (fun i => g (ix2 0 i)) k := by
  pointwise [NORM, normRow, meanSq]

theorem GU_at (x : FVec Ideal S8x4096x1024 .f32) (g : FVec Ideal S1x1024 .f32) (wi : FVec Ideal S1x1024x5632 .f32) (b : Fin 8) (r : Fin 4096) (f : Fin 5632) :
    GU x g wi (ix3 b r f) = dot (normRow (fun i => x (ix3 b r i)) (fun i => g (ix2 0 i))) (fun i => wi (ix3 0 i f)) := by
  pointwise [GU, dot]
  simp only [NORM_at]

theorem MID_at (gu : FVec Ideal S8x4096x5632 .f32) (b : Fin 8) (r : Fin 4096) (f : Fin 2816) :
    MID gu (ix3 b r f) = gated (gu (ix3 b r ⟨f.val, by omega⟩)) (gu (ix3 b r ⟨2816 + f.val, by omega⟩)) := by
  pointwise [MID, gated]

/-- One entry of it, a sum over all the units. -/
theorem SUMS_at (x : FVec Ideal S8x4096x1024 .f32) (g : FVec Ideal S1x1024 .f32) (wi : FVec Ideal S1x1024x5632 .f32) (wo : FVec Ideal S1x2816x1024 .f32) (b : Fin 8) (r : Fin 4096) (k : Fin 1024) :
    SUMS x g wi wo (ix3 b r k) = x (ix3 b r k) + Ideal.ofBits .f32 0x3F000000#32 * ∑ f : Fin 2816,
      unitOf (normRow (fun i => x (ix3 b r i)) (fun i => g (ix2 0 i))) (fun i => wi (ix3 0 i ⟨f.val, by omega⟩))
        (fun i => wi (ix3 0 i ⟨2816 + f.val, by omega⟩)) * wo (ix3 0 f k) := by
  pointwise [SUMS]
  simp only [MID_at, GU_at, unitOf]

/-- The rows of `x` normalized, the scale a vector. -/
def LAST (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))

/-- The reference's result: the last normalization of the feed-forward part's. -/
def REF (x : FVec Ideal S8x4096x1024 .f32) (g : FVec Ideal S1x1024 .f32) (wi : FVec Ideal S1x1024x5632 .f32) (wo : FVec Ideal S1x2816x1024 .f32) (gl : FVec Ideal S1024 .f32) : FVec Ideal S8x4096x1024 .f32 :=
  LAST (SUMS x g wi wo) gl

theorem LAST_at (x : FVec Ideal S8x4096x1024 .f32) (g : FVec Ideal S1024 .f32) (b : Fin 8) (r : Fin 4096) (k : Fin 1024) :
    LAST x g (ix3 b r k) = normRow (fun i => x (ix3 b r i)) (fun i => g (ix1 i)) k := by
  pointwise [LAST, normRow, meanSq]

end Cert.FinBRefVal

end
-- ==== Proof.FinBValue.lean ====
/- The feed-forward call that ends with the last normalization, at the shapes of
the second batch, computes its reference's result. -/
module

public import proofs.«01_k».proof.Proof.FinBChunk
public import proofs.«01_k».proof.Proof.FinBRef
public import Idealize.ShloMosaic.Lib.Pipeline.ValueKit

@[expose] public section

set_option maxRecDepth 16384

noncomputable section

namespace Cert.FinBVal

open Cert.FinBIdeal Cert.FinBIdeal.Gen Cert.Rows Idealize.ShloMosaic Idealize.ShloMosaic.TcCoe Idealize.SL.Sem
open Idealize.ShloMosaic.Pipeline (Dat)

variable (m : (ℓ : Loc nD τ sig) → Buf (Elt Ideal) ℓ)

theorem t_lt (t : Fin cfg0.N) : t.val < 64 := t.isLt

theorem point (c : Dev nD) (t : Fin cfg0.N) (y : S1x512x1024.Idx) :
    out0_5 (F := Ideal) (iblk m c 0 t) (iblk m c 1 t) (iblk m c 2 t) (iblk m c 3 t) (iblk m c 4 t) y
      = FinBRefVal.REF (m ((c : Thread nD τ).loc main_arg0)) (m ((c : Thread nD τ).loc main_arg1))
          (m ((c : Thread nD τ).loc main_arg2)) (m ((c : Thread nD τ).loc main_arg3)) (m ((c : Thread nD τ).loc main_arg4)) (((cfg0.win 5).blk t).view.emb y) := by
  have hR := FinBRefVal.LAST_at (FinBRefVal.SUMS (m ((c : Thread nD τ).loc main_arg0)) (m ((c : Thread nD τ).loc main_arg1))
          (m ((c : Thread nD τ).loc main_arg2)) (m ((c : Thread nD τ).loc main_arg3))) (m ((c : Thread nD τ).loc main_arg4)) ⟨t.val / 8, by have := t_lt t; omega⟩ ⟨t.val % 8 * 512 + (y 1).val, by idx_bounds; omega⟩ (y 2)
  have hK := out_at (iblk m c 0 t) (iblk m c 1 t) (iblk m c 2 t) (iblk m c 3 t) (iblk m c 4 t) (y 1) (y 2)
  have hy : y = ix3 0 (y 1) (y 2) := by blk_ext [idx t]
  have he : ((cfg0.win 5).blk t).view.emb y = ix3 ⟨t.val / 8, by have := t_lt t; omega⟩ ⟨t.val % 8 * 512 + (y 1).val, by idx_bounds; omega⟩ (y 2) := by blk_ext [idx t]
  have hsum : (fun i => SUM (iblk m c 0 t) (iblk m c 1 t) (iblk m c 2 t) (iblk m c 3 t) (y 1) i)
      = fun i => FinBRefVal.SUMS (m ((c : Thread nD τ).loc main_arg0)) (m ((c : Thread nD τ).loc main_arg1))
          (m ((c : Thread nD τ).loc main_arg2)) (m ((c : Thread nD τ).loc main_arg3)) (ix3 ⟨t.val / 8, by have := t_lt t; omega⟩ ⟨t.val % 8 * 512 + (y 1).val, by idx_bounds; omega⟩ i) := by
    funext i
    have hS := FinBRefVal.SUMS_at (m ((c : Thread nD τ).loc main_arg0)) (m ((c : Thread nD τ).loc main_arg1))
          (m ((c : Thread nD τ).loc main_arg2)) (m ((c : Thread nD τ).loc main_arg3)) ⟨t.val / 8, by have := t_lt t; omega⟩ ⟨t.val % 8 * 512 + (y 1).val, by idx_bounds; omega⟩ i
    refine Eq.trans ?_ hS.symm
    unfold SUM
    blk_point [iblk, V, idx t]
  have hg : (fun i : Fin 1024 => (iblk m c 4 t : FVec Ideal S1x1024 .f32) (ix2 0 i)) = fun i => (m ((c : Thread nD τ).loc main_arg4) : FVec Ideal S1024 .f32) (ix1 i) := by
    funext i
    blk_point [iblk, V, idx t]
  refine (congrArg _ hy).trans (hK.trans (Eq.trans ?_ (hR.symm.trans (congrArg _ he.symm))))
  rw [hsum, hg]

/-- The array that the region leaves is the reference's result of the same arguments. -/
theorem final (c : Dev nD) : (dats m 0 c).arrAt 5 (cfgs 0).N
    = FinBRefVal.REF (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  exact point m c t y

end Cert.FinBVal

end
-- ==== Proof.FinBPair.lean ====
/- The value claim of the feed-forward call that ends with the last normalization, at the shapes of the second
batch. -/
module

public import proofs.«01_k».proof.Defs
public import proofs.«01_k».proof.Proof.FinBValue

@[expose] public section

noncomputable section

namespace Cert.FinBVal

open Idealize.ShloMosaic Idealize.SL.Sem

theorem pair : Cert.algebraic_FinBIdeal_FinBRefIdeal := fun m g m' g' _ hagree =>
  ⟨_, (θ_run _ _ _).mono (fun _ h c => ⟨(h c).1.trans (final m c), (h c).2⟩) (Cert.FinBIdeal.Value.run_blocks (F := Ideal) m g),
    (θ_run _ _ _).mono (fun _ h c => ⟨(h c).1.trans (by
      rw [← (hagree c).1, ← (hagree c).2.1, ← (hagree c).2.2.1, ← (hagree c).2.2.2.1, ← (hagree c).2.2.2.2]; rfl), (h c).2⟩)
      (Cert.FinBRefIdeal.Value.run (F := Ideal) m' g')⟩

end Cert.FinBVal

end
-- ==== Proof.MemkvRef.lean ====
/- The reference of the memory projections, read at one index of each result. -/
module

public import proofs.«01_k».proof.Proof.Gen.MemkvRefIdeal.Run
public import proofs.«01_k».proof.Proof.Rows
public import Idealize.ShloMosaic.Lib.Pipeline.ValueKit

@[expose] public section

set_option maxRecDepth 16384

noncomputable section

namespace Cert.MemkvRefVal

open Cert.MemkvRefIdeal Cert.MemkvRefIdeal.Gen Cert.Rows Idealize.ShloMosaic Idealize.ShloMosaic.TcCoe Idealize.SL.Sem

/-- The keys of the memory. -/
def KEYS (x : FVec Ideal S1x256x1024 .f32) (g : FVec Ideal S1x1024 .f32) (w : FVec Ideal S1x1024x1024 .f32) : FVec Ideal S1x256x512 .bf16 :=
  truncf .bf16 (extractStridedSlice S1x256x512 ![0, 0, 0] (Host.dotGeneral dot_S1x256x1024_S1024x1024_S1x256x1024_2_0_01_1_n_n none (mulf (mulf x (broadcastInDim S1x256x1024 ![0, 1, 2] bcast_S1x256x1_S1x256x1024_0_1_2 (Host.rsqrt (addf (Host.divf (broadcastInDim S1x256x1 ![0, 1] bcast_S1x256_S1x256x1_0_1 (Host.reduceAdd (mulf x x) (constant S_ .f32 0x00000000#32) reducesTo_S1x256x1024_S1x256_d2 h_S_)) (broadcastInDim S1x256x1 ![] bcast_S_S1x256x1 (constant S_ .f32 0x44800000#32))) (broadcastInDim S1x256x1 ![] bcast_S_S1x256x1 (constant S_ .f32 0x358637BD#32)))))) (broadcastInDim S1x256x1024 ![0, 1, 2] bcast_S1x1x1024_S1x256x1024_0_1_2 (broadcastInDim S1x1x1024 ![2] bcast_S1024_S1x1x1024_2 (shapeCast _ g shapeCasts_S1x1024_S1024)))) (shapeCast _ w shapeCasts_S1x1024x1024_S1024x1024)) slices_S1x256x1024_S1x256x512_0_0_0) bitsLt_bf16_f32

/-- The values of the memory. -/
def VALUES (x : FVec Ideal S1x256x1024 .f32) (g : FVec Ideal S1x1024 .f32) (w : FVec Ideal S1x1024x1024 .f32) : FVec Ideal S1x256x512 .bf16 :=
  truncf .bf16 (extractStridedSlice S1x256x512 ![0, 0, 512] (Host.dotGeneral dot_S1x256x1024_S1024x1024_S1x256x1024_2_0_01_1_n_n none (mulf (mulf x (broadcastInDim S1x256x1024 ![0, 1, 2] bcast_S1x256x1_S1x256x1024_0_1_2 (Host.rsqrt (addf (Host.divf (broadcastInDim S1x256x1 ![0, 1] bcast_S1x256_S1x256x1_0_1 (Host.reduceAdd (mulf x x) (constant S_ .f32 0x00000000#32) reducesTo_S1x256x1024_S1x256_d2 h_S_)) (broadcastInDim S1x256x1 ![] bcast_S_S1x256x1 (constant S_ .f32 0x44800000#32))) (broadcastInDim S1x256x1 ![] bcast_S_S1x256x1 (constant S_ .f32 0x358637BD#32)))))) (broadcastInDim S1x256x1024 ![0, 1, 2] bcast_S1x1x1024_S1x256x1024_0_1_2 (broadcastInDim S1x1x1024 ![2] bcast_S1024_S1x1x1024_2 (shapeCast _ g shapeCasts_S1x1024_S1024)))) (shapeCast _ w shapeCasts_S1x1024x1024_S1024x1024)) slices_S1x256x1024_S1x256x512_0_0_512) bitsLt_bf16_f32

theorem KEYS_at (x : FVec Ideal S1x256x1024 .f32) (g : FVec Ideal S1x1024 .f32) (w : FVec Ideal S1x1024x1024 .f32) (r : Fin 256) (k : Fin 512) :
    KEYS x g w (ix3 0 r k) = dot (normRow (fun i => x (ix3 0 r i)) (fun i => g (ix2 0 i))) fun i => w (ix3 0 i ⟨k.val, by omega⟩) := by
  pointwise [KEYS, normRow, meanSq, dot]

theorem VALUES_at (x : FVec Ideal S1x256x1024 .f32) (g : FVec Ideal S1x1024 .f32) (w : FVec Ideal S1x1024x1024 .f32) (r : Fin 256) (k : Fin 512) :
    VALUES x g w (ix3 0 r k) = dot (normRow (fun i => x (ix3 0 r i)) (fun i => g (ix2 0 i))) fun i => w (ix3 0 i ⟨512 + k.val, by omega⟩) := by
  pointwise [VALUES, normRow, meanSq, dot]

end Cert.MemkvRefVal

end
-- ==== Proof.MemkvValue.lean ====
/- The call that projects the memory computes its reference's results. -/
module

public import proofs.«01_k».proof.Proof.Gen.MemkvIdeal.Value
public import proofs.«01_k».proof.Proof.MemkvRef
public import Idealize.ShloMosaic.Lib.Pipeline.ValueKit

@[expose] public section

set_option maxRecDepth 16384

noncomputable section

namespace Cert.MemkvVal

open Cert.MemkvIdeal Cert.MemkvIdeal.Gen Cert.Rows Idealize.ShloMosaic Idealize.ShloMosaic.TcCoe Idealize.SL.Sem
open Idealize.ShloMosaic.Pipeline (Dat)

theorem out3_at (x0 : FVec Ideal S1x256x1024 .f32) (x1 : FVec Ideal S1x1024 .f32) (x2 : FVec Ideal S1024x1024 .bf16) (r : Fin 256) (k : Fin 512) :
    out0_3 (F := Ideal) x0 x1 x2 (ix3 0 r k)
      = dot (normRow (fun i => x0 (ix3 0 r i)) (fun i => x1 (ix2 0 i))) fun i => x2 (ix2 i ⟨k.val, by omega⟩) := by
  unfold out0_3
  frame_out
  pointwise [k0_pay2, k0_pay1, dot, normRow, meanSq]

theorem out4_at (x0 : FVec Ideal S1x256x1024 .f32) (x1 : FVec Ideal S1x1024 .f32) (x2 : FVec Ideal S1024x1024 .bf16) (r : Fin 256) (k : Fin 512) :
    out0_4 (F := Ideal) x0 x1 x2 (ix3 0 r k)
      = dot (normRow (fun i => x0 (ix3 0 r i)) (fun i => x1 (ix2 0 i))) fun i => x2 (ix2 i ⟨512 + k.val, by omega⟩) := by
  unfold out0_4
  frame_out
  pointwise [k0_pay3, k0_pay1, dot, normRow, meanSq]

theorem idx : ∀ t : Fin cfg0.N, win0_0.index t = ![0, 0, 0] ∧ win0_1.index t = ![0, 0] ∧ win0_2.index t = ![0, 0]
    ∧ win0_3.index t = ![0, 0, 0] ∧ win0_4.index t = ![0, 0, 0] :=
  (by decide +kernel : ∀ t : Fin grid0.N, _)

variable (m : (ℓ : Loc nD τ sig) → Buf (Elt Ideal) ℓ)

theorem point3 (c : Dev nD) (t : Fin cfg0.N) (y : S1x256x512.Idx) :
    out0_3 (F := Ideal) (iblk m c 0 t) (iblk m c 1 t) (iblk m c 2 t) y = MemkvRefVal.KEYS (m ((c : Thread nD τ).loc main_arg0)) (m ((c : Thread nD τ).loc main_arg1)) (m ((c : Thread nD τ).loc main_arg2)) (((cfg0.win 3).blk t).view.emb y) := by
  have hR := MemkvRefVal.KEYS_at (m ((c : Thread nD τ).loc main_arg0)) (m ((c : Thread nD τ).loc main_arg1)) (m ((c : Thread nD τ).loc main_arg2)) (y 1) (y 2)
  have hK := out3_at (iblk m c 0 t) (iblk m c 1 t) (iblk m c 2 t) (y 1) (y 2)
  have hy : y = ix3 0 (y 1) (y 2) := by blk_ext [idx t]
  have he : ((cfg0.win 3).blk t).view.emb y = ix3 0 (y 1) (y 2) := by blk_ext [idx t]
  refine (congrArg _ hy).trans (hK.trans (Eq.trans ?_ (hR.symm.trans (congrArg _ he.symm))))
  blk_point [iblk, V, idx t]

/-- The array that the region leaves is the reference's. -/
theorem final3 (c : Dev nD) : (dats m 0 c).arrAt 3 (cfgs 0).N = MemkvRefVal.KEYS (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point3 m c t y

theorem point4 (c : Dev nD) (t : Fin cfg0.N) (y : S1x256x512.Idx) :
    out0_4 (F := Ideal) (iblk m c 0 t) (iblk m c 1 t) (iblk m c 2 t) y = MemkvRefVal.VALUES (m ((c : Thread nD τ).loc main_arg0)) (m ((c : Thread nD τ).loc main_arg1)) (m ((c : Thread nD τ).loc main_arg2)) (((cfg0.win 4).blk t).view.emb y) := by
  have hR := MemkvRefVal.VALUES_at (m ((c : Thread nD τ).loc main_arg0)) (m ((c : Thread nD τ).loc main_arg1)) (m ((c : Thread nD τ).loc main_arg2)) (y 1) (y 2)
  have hK := out4_at (iblk m c 0 t) (iblk m c 1 t) (iblk m c 2 t) (y 1) (y 2)
  have hy : y = ix3 0 (y 1) (y 2) := by blk_ext [idx t]
  have he : ((cfg0.win 4).blk t).view.emb y = ix3 0 (y 1) (y 2) := by blk_ext [idx t]
  refine (congrArg _ hy).trans (hK.trans (Eq.trans ?_ (hR.symm.trans (congrArg _ he.symm))))
  blk_point [iblk, V, idx t]

/-- The array that the region leaves is the reference's. -/
theorem final4 (c : Dev nD) : (dats m 0 c).arrAt 4 (cfgs 0).N = MemkvRefVal.VALUES (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point4 m c t y

end Cert.MemkvVal

end
-- ==== Proof.MemkvPair.lean ====
/- The value claim of the call that projects the memory. -/
module

public import proofs.«01_k».proof.Defs
public import proofs.«01_k».proof.Proof.MemkvValue

@[expose] public section

noncomputable section

namespace Cert.MemkvVal

open Idealize.ShloMosaic Idealize.SL.Sem

theorem pair : Cert.algebraic_MemkvIdeal_MemkvRefIdeal := fun m g m' g' _ hagree =>
  ⟨_, _, (θ_run _ _ _).mono (fun _ h c => ⟨(h c).1.trans (final3 m c), (h c).2.1.trans (final4 m c), (h c).2.2⟩)
      (Cert.MemkvIdeal.Value.run_blocks (F := Ideal) m g),
    (θ_run _ _ _).mono (fun _ h c => by
      obtain ⟨h0, h1, h2⟩ := hagree c
      exact ⟨(h c).1.trans (by rw [← h0, ← h1, ← h2]; rfl), (h c).2.1.trans (by rw [← h0, ← h1, ← h2]; rfl), (h c).2.2⟩)
      (Cert.MemkvRefIdeal.Value.run (F := Ideal) m' g')⟩

end Cert.MemkvVal

end
-- ==== Proof.InprojSpec.lean ====
/- The input projections written plainly, one entry at a time: the joined projection, the two rotations, and the seven results. -/
module

public import proofs.«01_k».proof.Proof.Rows
public import Idealize.ShloMosaic.Lib.Pipeline.ValueKit

@[expose] public section

noncomputable section

namespace Cert.Inp

open Cert.Rows Idealize.ShloMosaic

/-- A row scaled to unit mean square (`κ` is its width as a float), times the gains. -/
def rms {n : Nat} (κ : BitVec 32) (x g : Fin n → EReal) (k : Fin n) : EReal :=
  x k * Ideal.rsqrt (Ideal.div (∑ i, x i * x i) (Ideal.ofBits .f32 κ) + Ideal.ofBits .f32 0x358637BD#32) * g k

/-- The rotation's angle of position `s` at frequency `j`, in a rotation of 32 pairs. -/
def ang32 (s : Fin 16384) (j : Fin 32) : EReal :=
  FloatOps.sitofp (F := Ideal) .f32 (BitVec.ofNat 32 s.val) * Ideal.pow (Ideal.ofBits .f32 1176256512#32)
    (Ideal.div (-(Ideal.ofBits .f32 1073741824#32 * FloatOps.sitofp (F := Ideal) .f32 (BitVec.ofNat 32 j.val))) (Ideal.ofBits .f32 0x42800000#32))

/-- The rotation of a vector of 64 at position `s`: entry `d` of the first half is paired with entry `d + 32`. -/
def rope32 (s : Fin 16384) (v : Fin 64 → EReal) (d : Fin 64) : EReal :=
  if h : d.val < 32 then v d * Ideal.cos (ang32 s ⟨d.val, h⟩) - v ⟨d.val + 32, by omega⟩ * Ideal.sin (ang32 s ⟨d.val, h⟩)
  else v d * Ideal.cos (ang32 s ⟨d.val - 32, by omega⟩) + v ⟨d.val - 32, by omega⟩ * Ideal.sin (ang32 s ⟨d.val - 32, by omega⟩)

/-- The rotation's angle of position `s` at frequency `j`, in a rotation of 16 pairs. -/
def ang16 (s : Fin 16384) (j : Fin 16) : EReal :=
  FloatOps.sitofp (F := Ideal) .f32 (BitVec.ofNat 32 s.val) * Ideal.pow (Ideal.ofBits .f32 1176256512#32)
    (Ideal.div (-(Ideal.ofBits .f32 1073741824#32 * FloatOps.sitofp (F := Ideal) .f32 (BitVec.ofNat 32 j.val))) (Ideal.ofBits .f32 0x42000000#32))

/-- The rotation of a vector of 32 at position `s`: entry `d` of the first half is paired with entry `d + 16`. -/
def rope16 (s : Fin 16384) (v : Fin 32 → EReal) (d : Fin 32) : EReal :=
  if h : d.val < 16 then v d * Ideal.cos (ang16 s ⟨d.val, h⟩) - v ⟨d.val + 16, by omega⟩ * Ideal.sin (ang16 s ⟨d.val, h⟩)
  else v d * Ideal.cos (ang16 s ⟨d.val - 16, by omega⟩) + v ⟨d.val - 16, by omega⟩ * Ideal.sin (ang16 s ⟨d.val - 16, by omega⟩)

theorem rope32_lo (s : Fin 16384) (v : Fin 64 → EReal) (d : Fin 64) (h : d.val < 32) :
    rope32 s v d = v d * Ideal.cos (ang32 s ⟨d.val, h⟩) - v ⟨d.val + 32, by omega⟩ * Ideal.sin (ang32 s ⟨d.val, h⟩) := dif_pos h

theorem rope32_hi (s : Fin 16384) (v : Fin 64 → EReal) (d : Fin 64) (h : ¬ d.val < 32) :
    rope32 s v d = v d * Ideal.cos (ang32 s ⟨d.val - 32, by omega⟩) + v ⟨d.val - 32, by omega⟩ * Ideal.sin (ang32 s ⟨d.val - 32, by omega⟩) := dif_neg h

theorem rope16_lo (s : Fin 16384) (v : Fin 32 → EReal) (d : Fin 32) (h : d.val < 16) :
    rope16 s v d = v d * Ideal.cos (ang16 s ⟨d.val, h⟩) - v ⟨d.val + 16, by omega⟩ * Ideal.sin (ang16 s ⟨d.val, h⟩) := dif_pos h

theorem rope16_hi (s : Fin 16384) (v : Fin 32 → EReal) (d : Fin 32) (h : ¬ d.val < 16) :
    rope16 s v d = v d * Ideal.cos (ang16 s ⟨d.val - 16, by omega⟩) + v ⟨d.val - 16, by omega⟩ * Ideal.sin (ang16 s ⟨d.val - 16, by omega⟩) := dif_neg h

section Results

variable (x : Fin 16384 → Fin 1024 → EReal) (g : Fin 1024 → EReal) (w : Fin 1024 → Fin 5024 → EReal)
  (gq : Fin 384 → EReal) (wq : Fin 384 → Fin 768 → EReal) (gk : Fin 256 → EReal) (wk : Fin 256 → Fin 1024 → EReal)

/-- The joined projection of the scaled row. -/
def z (s : Fin 16384) (c : Fin 5024) : EReal := ∑ k, normRow (x s) g k * w k c

/-- The second projection of the queries. -/
def q (s : Fin 16384) (c : Fin 768) : EReal :=
  ∑ k, rms 0x43C00000#32 (fun i : Fin 384 => z x g w s ⟨768 + i.val, by omega⟩) gq k * wq k c

/-- The second projection of the keys and values. -/
def kv (s : Fin 16384) (c : Fin 1024) : EReal :=
  ∑ k, rms 0x43800000#32 (fun i : Fin 256 => z x g w s ⟨1152 + i.val, by omega⟩) gk k * wk k c

/-- The local queries: eight heads, rotated and scaled. -/
def qa (s : Fin 16384) (c : Fin 512) : EReal :=
  rope32 s (fun d => z x g w s ⟨c.val / 64 * 64 + d.val, by omega⟩) ⟨c.val % 64, by omega⟩ * Ideal.ofBits .f32 0x3E000000#32

/-- The local keys: two heads, rotated. -/
def ka (s : Fin 16384) (c : Fin 128) : EReal :=
  rope32 s (fun d => z x g w s ⟨512 + (c.val / 64 * 64 + d.val), by omega⟩) ⟨c.val % 64, by omega⟩

/-- The local values. -/
def va (s : Fin 16384) (c : Fin 128) : EReal := z x g w s ⟨640 + c.val, by omega⟩

/-- The latent queries: eight heads of 64 plain and 32 rotated entries, padded by zeros to 128, scaled. -/
def qcat (s : Fin 16384) (c : Fin 1024) : EReal :=
  (if h : c.val % 128 < 64 then q x g w gq wq s ⟨c.val / 128 * 96 + c.val % 128, by omega⟩
   else if h' : c.val % 128 < 96 then
     rope16 s (fun d => q x g w gq wq s ⟨c.val / 128 * 96 + (64 + d.val), by omega⟩) ⟨c.val % 128 - 64, by omega⟩
   else 0) * Ideal.ofBits .f32 0x3DD105EC#32

/-- The latent keys: per head 64 plain entries and the 32 rotated entries that all heads share, padded by zeros to 128. -/
def kcat (s : Fin 16384) (c : Fin 1024) : EReal :=
  if h : c.val % 128 < 64 then kv x g w gk wk s c
  else if h' : c.val % 128 < 96 then
    rope16 s (fun d => z x g w s ⟨1408 + d.val, by omega⟩) ⟨c.val % 128 - 64, by omega⟩
  else 0

/-- The latent values of 256 positions at a time, transposed. -/
def vt (b : Fin 64) (r : Fin 512) (i : Fin 256) : EReal :=
  kv x g w gk wk ⟨b.val * 256 + i.val, by omega⟩ ⟨r.val / 64 * 128 + (64 + r.val % 64), by omega⟩

/-- The queries of the memory. -/
def qc (s : Fin 16384) (c : Fin 512) : EReal := z x g w s ⟨1440 + c.val, by omega⟩

end Results

end Cert.Inp

end
-- ==== Proof.InprojTables.lean ====
/- The rotation tables that the host code prepares for the input projections, read at an index. -/
module

public import proofs.«01_k».proof.Proof.Gen.InprojIdeal.Value
public import proofs.«01_k».proof.Proof.InprojSpec
public import Idealize.ShloMosaic.Lib.Pipeline.ValueKit
public import Idealize.ShloMosaic.Lib.StableHlo.ReadAt

@[expose] public section

set_option maxRecDepth 65536

noncomputable section

namespace Cert.InprojVal

open Cert.InprojIdeal Cert.InprojIdeal.Gen Cert.Rows Cert.Inp Idealize.ShloMosaic Idealize.ShloMosaic.TcCoe Idealize.SL.Sem

variable (m : (ℓ : Loc nD τ sig) → Buf (Elt Ideal) ℓ)

/-- The cosine or sine table's row at the lane's own column: column `idx l` of the operand, the word read signed and clamped. -/
theorem gather32 (x : FVec Ideal S16384x32 .f32) (idx : IVec S128x1 32) (s : Fin 16384) (l : Fin 128) (k : Fin 32)
    (hk : min (idx (ix2 l 0)).toInt.toNat 31 = k.val) :
    Host.gather gather_S16384x32_S128x1_S16384x128_0_1_n_n_1_1_163841 x idx (ix2 s l) = x (ix2 s k) := by
  unfold Host.gather
  congr 1
  funext a
  refine Fin.ext ?_
  match a with
  | ⟨0, _⟩ =>
    show gather_S16384x32_S128x1_S16384x128_0_1_n_n_1_1_163841.start (ix2 s l) idx 0 + gather_S16384x32_S128x1_S16384x128_0_1_n_n_1_1_163841.batchCoord (ix2 s l) 0 + gather_S16384x32_S128x1_S16384x128_0_1_n_n_1_1_163841.offCoord (ix2 s l) 0 = s.val
    rw [GatherDims.batchCoord_eq_zero _ _ _ List.not_mem_nil]
    unfold GatherDims.start GatherDims.offCoord
    rw [dif_neg (by decide), dif_pos (by decide)]
    simp only [Nat.zero_add]
    rfl
  | ⟨1, _⟩ =>
    show gather_S16384x32_S128x1_S16384x128_0_1_n_n_1_1_163841.start (ix2 s l) idx 1 + gather_S16384x32_S128x1_S16384x128_0_1_n_n_1_1_163841.batchCoord (ix2 s l) 1 + gather_S16384x32_S128x1_S16384x128_0_1_n_n_1_1_163841.offCoord (ix2 s l) 1 = k.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16384x32_S128x1_S16384x128_0_1_n_n_1_1_163841.startIndexMap from List.mem_singleton.mpr rfl)]
    have hsi : gather_S16384x32_S128x1_S16384x128_0_1_n_n_1_1_163841.siIdx (ix2 s l) ⟨List.idxOf (1 : Fin 2) gather_S16384x32_S128x1_S16384x128_0_1_n_n_1_1_163841.startIndexMap,
        List.idxOf_lt_length_iff.2 (List.mem_singleton.mpr rfl)⟩ = ix2 l 0 := by
      funext b; refine Fin.ext ?_
      match b with
      | ⟨0, _⟩ => rfl
      | ⟨1, _⟩ => rfl
    rw [hsi]
    exact hk

/-- The same for a table of sixteen columns. -/
theorem gather16 (x : FVec Ideal S16384x16 .f32) (idx : IVec S128x1 32) (s : Fin 16384) (l : Fin 128) (k : Fin 16)
    (hk : min (idx (ix2 l 0)).toInt.toNat 15 = k.val) :
    Host.gather gather_S16384x16_S128x1_S16384x128_0_1_n_n_1_1_163841 x idx (ix2 s l) = x (ix2 s k) := by
  unfold Host.gather
  congr 1
  funext a
  refine Fin.ext ?_
  match a with
  | ⟨0, _⟩ =>
    show gather_S16384x16_S128x1_S16384x128_0_1_n_n_1_1_163841.start (ix2 s l) idx 0 + gather_S16384x16_S128x1_S16384x128_0_1_n_n_1_1_163841.batchCoord (ix2 s l) 0 + gather_S16384x16_S128x1_S16384x128_0_1_n_n_1_1_163841.offCoord (ix2 s l) 0 = s.val
    rw [GatherDims.batchCoord_eq_zero _ _ _ List.not_mem_nil]
    unfold GatherDims.start GatherDims.offCoord
    rw [dif_neg (by decide), dif_pos (by decide)]
    simp only [Nat.zero_add]
    rfl
  | ⟨1, _⟩ =>
    show gather_S16384x16_S128x1_S16384x128_0_1_n_n_1_1_163841.start (ix2 s l) idx 1 + gather_S16384x16_S128x1_S16384x128_0_1_n_n_1_1_163841.batchCoord (ix2 s l) 1 + gather_S16384x16_S128x1_S16384x128_0_1_n_n_1_1_163841.offCoord (ix2 s l) 1 = k.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16384x16_S128x1_S16384x128_0_1_n_n_1_1_163841.startIndexMap from List.mem_singleton.mpr rfl)]
    have hsi : gather_S16384x16_S128x1_S16384x128_0_1_n_n_1_1_163841.siIdx (ix2 s l) ⟨List.idxOf (1 : Fin 2) gather_S16384x16_S128x1_S16384x128_0_1_n_n_1_1_163841.startIndexMap,
        List.idxOf_lt_length_iff.2 (List.mem_singleton.mpr rfl)⟩ = ix2 l 0 := by
      funext b; refine Fin.ext ?_
      match b with
      | ⟨0, _⟩ => rfl
      | ⟨1, _⟩ => rfl
    rw [hsi]
    exact hk

/-- A table plane: where the lane is marked the row's entry, elsewhere the constant. -/
def pick (X : IVec S128 1) (G : FVec Ideal S16384x128 .f32) (k : FVec Ideal S_ .f32) : FVec Ideal S16384x128 .f32 :=
  select (broadcastInDim S16384x128 ![0, 1] bcast_S1x128_S16384x128_0_1 (broadcastInDim S1x128 ![1] bcast_S128_S1x128_1 X)) G
    (broadcastInDim S16384x128 ![] bcast_S_S16384x128 (id k))

theorem pick_apply (X : IVec S128 1) (G : FVec Ideal S16384x128 .f32) (k : FVec Ideal S_ .f32) (s : Fin 16384) (l : Fin 128) :
    pick X G k (ix2 s l) = if X (ix1 l) = 1#1 then G (ix2 s l) else k ix0 := by
  unfold pick
  pointwise
  rfl

set_option maxHeartbeats 4000000 in
theorem first_a (c : Dev nD) (l : Fin 128) : (V m c main_v62 : IVec S128 1) (ix1 l) = if l.val % 64 < 32 then 1#1 else 0#1 := by
  unfold V
  after_reads_simp
  simp -implicitDefEqProofs only [StableHlo.TRef.toBuf, StableHlo.TRef.ofBuf, cast_cast, cast_eq]
  clean_types
  revert l
  decide +kernel

set_option maxHeartbeats 4000000 in
theorem second_a (c : Dev nD) (l : Fin 128) : (V m c main_v67 : IVec S128 1) (ix1 l) = if 32 ≤ l.val % 64 then 1#1 else 0#1 := by
  unfold V
  after_reads_simp
  simp -implicitDefEqProofs only [StableHlo.TRef.toBuf, StableHlo.TRef.ofBuf, cast_cast, cast_eq]
  clean_types
  revert l
  decide +kernel

set_option maxHeartbeats 4000000 in
theorem either_a (c : Dev nD) (l : Fin 128) : (V m c main_v86 : IVec S128 1) (ix1 l) = 1#1 := by
  unfold V
  after_reads_simp
  simp -implicitDefEqProofs only [StableHlo.TRef.toBuf, StableHlo.TRef.ofBuf, cast_cast, cast_eq]
  clean_types
  revert l
  decide +kernel

set_option maxHeartbeats 4000000 in
theorem col_a (c : Dev nD) (l : Fin 128) : min ((V m c main_v77 : IVec S128x1 32) (ix2 l 0)).toInt.toNat 31 = l.val % 32 := by
  unfold V
  after_reads_simp
  simp -implicitDefEqProofs only [StableHlo.TRef.toBuf, StableHlo.TRef.ofBuf, cast_cast, cast_eq]
  clean_types
  revert l
  decide +kernel

set_option maxHeartbeats 4000000 in
theorem col'_a (c : Dev nD) (l : Fin 128) : min ((V m c main_v84 : IVec S128x1 32) (ix2 l 0)).toInt.toNat 31 = l.val % 32 := by
  unfold V
  after_reads_simp
  simp -implicitDefEqProofs only [StableHlo.TRef.toBuf, StableHlo.TRef.ofBuf, cast_cast, cast_eq]
  clean_types
  revert l
  decide +kernel

set_option maxHeartbeats 4000000 in
theorem cos_a (c : Dev nD) (s : Fin 16384) (j : Fin 32) : (V m c main_v52 : FVec Ideal S16384x32 .f32) (ix2 s j) = Ideal.cos (ang32 s j) := by
  unfold V
  after_reads_simp
  clean_types
  pointwise
  rfl

set_option maxHeartbeats 4000000 in
theorem sin_a (c : Dev nD) (s : Fin 16384) (j : Fin 32) : (V m c main_v53 : FVec Ideal S16384x32 .f32) (ix2 s j) = Ideal.sin (ang32 s j) := by
  unfold V
  after_reads_simp
  clean_types
  pointwise
  rfl

set_option maxHeartbeats 4000000 in
theorem gcos_a (c : Dev nD) : (V m c main_v78 : FVec Ideal S16384x128 .f32) = Host.gather gather_S16384x32_S128x1_S16384x128_0_1_n_n_1_1_163841 (V m c main_v52 : FVec Ideal S16384x32 .f32) (V m c main_v77 : IVec S128x1 32) := by
  unfold V
  after_reads_simp

set_option maxHeartbeats 4000000 in
theorem gsin_a (c : Dev nD) : (V m c main_v85 : FVec Ideal S16384x128 .f32) = Host.gather gather_S16384x32_S128x1_S16384x128_0_1_n_n_1_1_163841 (V m c main_v53 : FVec Ideal S16384x32 .f32) (V m c main_v84 : IVec S128x1 32) := by
  unfold V
  after_reads_simp

set_option maxHeartbeats 4000000 in
theorem p0_a (c : Dev nD) : (V m c main_v88 : FVec Ideal S16384x128 .f32) = pick (V m c main_v86 : IVec S128 1) (V m c main_v78 : FVec Ideal S16384x128 .f32) (constant (F := Ideal) S_ .f32 0x3F800000#32) := by
  unfold V
  after_reads_simp
  simp -implicitDefEqProofs only [StableHlo.TRef.toBuf, StableHlo.TRef.ofBuf, cast_cast, cast_eq]
  clean_types
  rfl

set_option maxHeartbeats 4000000 in
theorem p1_a (c : Dev nD) : (V m c main_v91 : FVec Ideal S16384x128 .f32) = pick (V m c main_v62 : IVec S128 1) (Host.negf (F := Ideal) (V m c main_v85 : FVec Ideal S16384x128 .f32)) (constant (F := Ideal) S_ .f32 0x00000000#32) := by
  unfold V
  after_reads_simp
  simp -implicitDefEqProofs only [StableHlo.TRef.toBuf, StableHlo.TRef.ofBuf, cast_cast, cast_eq]
  clean_types
  rfl

set_option maxHeartbeats 4000000 in
theorem p2_a (c : Dev nD) : (V m c main_v93 : FVec Ideal S16384x128 .f32) = pick (V m c main_v67 : IVec S128 1) (V m c main_v85 : FVec Ideal S16384x128 .f32) (constant (F := Ideal) S_ .f32 0x00000000#32) := by
  unfold V
  after_reads_simp
  simp -implicitDefEqProofs only [StableHlo.TRef.toBuf, StableHlo.TRef.ofBuf, cast_cast, cast_eq]
  clean_types
  rfl

/-- The first plane: the cosine of the lane's angle. -/
def ca (s : Fin 16384) (l : Fin 128) : EReal := Ideal.cos (ang32 s ⟨l.val % 32, Nat.mod_lt _ (by decide)⟩)

/-- The second plane: minus the sine on the first half of the rotated lanes, 0 elsewhere. -/
def sa (s : Fin 16384) (l : Fin 128) : EReal := if l.val % 64 < 32 then -(Ideal.sin (ang32 s ⟨l.val % 32, Nat.mod_lt _ (by decide)⟩)) else 0

/-- The third plane: the sine on the second half of the rotated lanes, 0 elsewhere. -/
def ta (s : Fin 16384) (l : Fin 128) : EReal := if 32 ≤ l.val % 64 then Ideal.sin (ang32 s ⟨l.val % 32, Nat.mod_lt _ (by decide)⟩) else 0

set_option maxHeartbeats 4000000 in
theorem plane0_a (c : Dev nD) (s : Fin 16384) (l : Fin 128) : (V m c main_v88 : FVec Ideal S16384x128 .f32) (ix2 s l) = ca s l := by
  rw [p0_a, pick_apply, either_a m c l, ca]
  rw [if_pos rfl, gcos_a]
  exact (gather32 _ _ s l ⟨_, Nat.mod_lt _ (by decide)⟩ (col_a m c l)).trans (cos_a m c s _)

set_option maxHeartbeats 4000000 in
theorem plane1_a (c : Dev nD) (s : Fin 16384) (l : Fin 128) : (V m c main_v91 : FVec Ideal S16384x128 .f32) (ix2 s l) = sa s l := by
  rw [p1_a, pick_apply, first_a m c l, sa]
  by_cases hl : l.val % 64 < 32
  · rw [if_pos hl, if_pos hl, if_pos rfl, gsin_a]
    exact congrArg (fun e : EReal => -e) ((gather32 _ _ s l ⟨_, Nat.mod_lt _ (by decide)⟩ (col'_a m c l)).trans (sin_a m c s _))
  · rw [if_neg hl, if_neg hl, if_neg (by decide)]; exact Ideal.ofBits_zero_f32

set_option maxHeartbeats 4000000 in
theorem plane2_a (c : Dev nD) (s : Fin 16384) (l : Fin 128) : (V m c main_v93 : FVec Ideal S16384x128 .f32) (ix2 s l) = ta s l := by
  rw [p2_a, pick_apply, second_a m c l, ta]
  by_cases hl : 32 ≤ l.val % 64
  · rw [if_pos hl, if_pos hl, if_pos rfl, gsin_a]
    exact (gather32 _ _ s l ⟨_, Nat.mod_lt _ (by decide)⟩ (col'_a m c l)).trans (sin_a m c s _)
  · rw [if_neg hl, if_neg hl, if_neg (by decide)]; exact Ideal.ofBits_zero_f32

set_option maxHeartbeats 4000000 in
theorem tabs_a (c : Dev nD) : (V m c main_v97 : FVec Ideal S3x16384x128 .f32) = concatenate S3x16384x128 0
    [⟨S1x16384x128, broadcastInDim S1x16384x128 ![1, 2] bcast_S16384x128_S1x16384x128_1_2 (V m c main_v88 : FVec Ideal S16384x128 .f32)⟩,
     ⟨S1x16384x128, broadcastInDim S1x16384x128 ![1, 2] bcast_S16384x128_S1x16384x128_1_2 (V m c main_v91 : FVec Ideal S16384x128 .f32)⟩,
     ⟨S1x16384x128, broadcastInDim S1x16384x128 ![1, 2] bcast_S16384x128_S1x16384x128_1_2 (V m c main_v93 : FVec Ideal S16384x128 .f32)⟩] concatenates_S1x16384x128_S1x16384x128_S1x16384x128_S3x16384x128_d0 := by
  unfold V
  after_reads_simp
  rfl

set_option maxHeartbeats 4000000 in
theorem first_b (c : Dev nD) (l : Fin 128) : (V m c main_v124 : IVec S128 1) (ix1 l) = if 64 ≤ l.val ∧ l.val < 80 then 1#1 else 0#1 := by
  unfold V
  after_reads_simp
  simp -implicitDefEqProofs only [StableHlo.TRef.toBuf, StableHlo.TRef.ofBuf, cast_cast, cast_eq]
  clean_types
  revert l
  decide +kernel

set_option maxHeartbeats 4000000 in
theorem second_b (c : Dev nD) (l : Fin 128) : (V m c main_v129 : IVec S128 1) (ix1 l) = if 80 ≤ l.val ∧ l.val < 96 then 1#1 else 0#1 := by
  unfold V
  after_reads_simp
  simp -implicitDefEqProofs only [StableHlo.TRef.toBuf, StableHlo.TRef.ofBuf, cast_cast, cast_eq]
  clean_types
  revert l
  decide +kernel

set_option maxHeartbeats 4000000 in
theorem either_b (c : Dev nD) (l : Fin 128) : (V m c main_v148 : IVec S128 1) (ix1 l) = if 64 ≤ l.val ∧ l.val < 96 then 1#1 else 0#1 := by
  unfold V
  after_reads_simp
  simp -implicitDefEqProofs only [StableHlo.TRef.toBuf, StableHlo.TRef.ofBuf, cast_cast, cast_eq]
  clean_types
  revert l
  decide +kernel

set_option maxHeartbeats 4000000 in
theorem col_b (c : Dev nD) (l : Fin 128) : 64 ≤ l.val ∧ l.val < 96 → min ((V m c main_v139 : IVec S128x1 32) (ix2 l 0)).toInt.toNat 15 = l.val % 16 := by
  unfold V
  after_reads_simp
  simp -implicitDefEqProofs only [StableHlo.TRef.toBuf, StableHlo.TRef.ofBuf, cast_cast, cast_eq]
  clean_types
  revert l
  decide +kernel

set_option maxHeartbeats 4000000 in
theorem col'_b (c : Dev nD) (l : Fin 128) : 64 ≤ l.val ∧ l.val < 96 → min ((V m c main_v146 : IVec S128x1 32) (ix2 l 0)).toInt.toNat 15 = l.val % 16 := by
  unfold V
  after_reads_simp
  simp -implicitDefEqProofs only [StableHlo.TRef.toBuf, StableHlo.TRef.ofBuf, cast_cast, cast_eq]
  clean_types
  revert l
  decide +kernel

set_option maxHeartbeats 4000000 in
theorem cos_b (c : Dev nD) (s : Fin 16384) (j : Fin 16) : (V m c main_v114 : FVec Ideal S16384x16 .f32) (ix2 s j) = Ideal.cos (ang16 s j) := by
  unfold V
  after_reads_simp
  clean_types
  pointwise
  rfl

set_option maxHeartbeats 4000000 in
theorem sin_b (c : Dev nD) (s : Fin 16384) (j : Fin 16) : (V m c main_v115 : FVec Ideal S16384x16 .f32) (ix2 s j) = Ideal.sin (ang16 s j) := by
  unfold V
  after_reads_simp
  clean_types
  pointwise
  rfl

set_option maxHeartbeats 4000000 in
theorem gcos_b (c : Dev nD) : (V m c main_v140 : FVec Ideal S16384x128 .f32) = Host.gather gather_S16384x16_S128x1_S16384x128_0_1_n_n_1_1_163841 (V m c main_v114 : FVec Ideal S16384x16 .f32) (V m c main_v139 : IVec S128x1 32) := by
  unfold V
  after_reads_simp

set_option maxHeartbeats 4000000 in
theorem gsin_b (c : Dev nD) : (V m c main_v147 : FVec Ideal S16384x128 .f32) = Host.gather gather_S16384x16_S128x1_S16384x128_0_1_n_n_1_1_163841 (V m c main_v115 : FVec Ideal S16384x16 .f32) (V m c main_v146 : IVec S128x1 32) := by
  unfold V
  after_reads_simp

set_option maxHeartbeats 4000000 in
theorem p0_b (c : Dev nD) : (V m c main_v150 : FVec Ideal S16384x128 .f32) = pick (V m c main_v148 : IVec S128 1) (V m c main_v140 : FVec Ideal S16384x128 .f32) (constant (F := Ideal) S_ .f32 0x3F800000#32) := by
  unfold V
  after_reads_simp
  simp -implicitDefEqProofs only [StableHlo.TRef.toBuf, StableHlo.TRef.ofBuf, cast_cast, cast_eq]
  clean_types
  rfl

set_option maxHeartbeats 4000000 in
theorem p1_b (c : Dev nD) : (V m c main_v153 : FVec Ideal S16384x128 .f32) = pick (V m c main_v124 : IVec S128 1) (Host.negf (F := Ideal) (V m c main_v147 : FVec Ideal S16384x128 .f32)) (constant (F := Ideal) S_ .f32 0x00000000#32) := by
  unfold V
  after_reads_simp
  simp -implicitDefEqProofs only [StableHlo.TRef.toBuf, StableHlo.TRef.ofBuf, cast_cast, cast_eq]
  clean_types
  rfl

set_option maxHeartbeats 4000000 in
theorem p2_b (c : Dev nD) : (V m c main_v155 : FVec Ideal S16384x128 .f32) = pick (V m c main_v129 : IVec S128 1) (V m c main_v147 : FVec Ideal S16384x128 .f32) (constant (F := Ideal) S_ .f32 0x00000000#32) := by
  unfold V
  after_reads_simp
  simp -implicitDefEqProofs only [StableHlo.TRef.toBuf, StableHlo.TRef.ofBuf, cast_cast, cast_eq]
  clean_types
  rfl

/-- The first plane: the cosine of the lane's angle, or 1 outside the rotated lanes. -/
def cb (s : Fin 16384) (l : Fin 128) : EReal := if 64 ≤ l.val ∧ l.val < 96 then Ideal.cos (ang16 s ⟨l.val % 16, Nat.mod_lt _ (by decide)⟩) else Ideal.ofBits .f32 0x3F800000#32

/-- The second plane: minus the sine on the first half of the rotated lanes, 0 elsewhere. -/
def sb (s : Fin 16384) (l : Fin 128) : EReal := if 64 ≤ l.val ∧ l.val < 80 then -(Ideal.sin (ang16 s ⟨l.val % 16, Nat.mod_lt _ (by decide)⟩)) else 0

/-- The third plane: the sine on the second half of the rotated lanes, 0 elsewhere. -/
def tb (s : Fin 16384) (l : Fin 128) : EReal := if 80 ≤ l.val ∧ l.val < 96 then Ideal.sin (ang16 s ⟨l.val % 16, Nat.mod_lt _ (by decide)⟩) else 0

set_option maxHeartbeats 4000000 in
theorem plane0_b (c : Dev nD) (s : Fin 16384) (l : Fin 128) : (V m c main_v150 : FVec Ideal S16384x128 .f32) (ix2 s l) = cb s l := by
  rw [p0_b, pick_apply, either_b m c l, cb]
  by_cases hl : 64 ≤ l.val ∧ l.val < 96
  · rw [if_pos hl, if_pos hl, if_pos rfl, gcos_b]; exact (gather16 _ _ s l ⟨_, Nat.mod_lt _ (by decide)⟩ (col_b m c l hl)).trans (cos_b m c s _)
  · rw [if_neg hl, if_neg hl, if_neg (by decide)]; rfl

set_option maxHeartbeats 4000000 in
theorem plane1_b (c : Dev nD) (s : Fin 16384) (l : Fin 128) : (V m c main_v153 : FVec Ideal S16384x128 .f32) (ix2 s l) = sb s l := by
  rw [p1_b, pick_apply, first_b m c l, sb]
  by_cases hl : 64 ≤ l.val ∧ l.val < 80
  · rw [if_pos hl, if_pos hl, if_pos rfl, gsin_b]
    exact congrArg (fun e : EReal => -e) ((gather16 _ _ s l ⟨_, Nat.mod_lt _ (by decide)⟩ (col'_b m c l (by omega))).trans (sin_b m c s _))
  · rw [if_neg hl, if_neg hl, if_neg (by decide)]; exact Ideal.ofBits_zero_f32

set_option maxHeartbeats 4000000 in
theorem plane2_b (c : Dev nD) (s : Fin 16384) (l : Fin 128) : (V m c main_v155 : FVec Ideal S16384x128 .f32) (ix2 s l) = tb s l := by
  rw [p2_b, pick_apply, second_b m c l, tb]
  by_cases hl : 80 ≤ l.val ∧ l.val < 96
  · rw [if_pos hl, if_pos hl, if_pos rfl, gsin_b]
    exact (gather16 _ _ s l ⟨_, Nat.mod_lt _ (by decide)⟩ (col'_b m c l (by omega))).trans (sin_b m c s _)
  · rw [if_neg hl, if_neg hl, if_neg (by decide)]; exact Ideal.ofBits_zero_f32

set_option maxHeartbeats 4000000 in
theorem tabs_b (c : Dev nD) : (V m c main_v159 : FVec Ideal S3x16384x128 .f32) = concatenate S3x16384x128 0
    [⟨S1x16384x128, broadcastInDim S1x16384x128 ![1, 2] bcast_S16384x128_S1x16384x128_1_2 (V m c main_v150 : FVec Ideal S16384x128 .f32)⟩,
     ⟨S1x16384x128, broadcastInDim S1x16384x128 ![1, 2] bcast_S16384x128_S1x16384x128_1_2 (V m c main_v153 : FVec Ideal S16384x128 .f32)⟩,
     ⟨S1x16384x128, broadcastInDim S1x16384x128 ![1, 2] bcast_S16384x128_S1x16384x128_1_2 (V m c main_v155 : FVec Ideal S16384x128 .f32)⟩] concatenates_S1x16384x128_S1x16384x128_S1x16384x128_S3x16384x128_d0 := by
  unfold V
  after_reads_simp
  rfl

end Cert.InprojVal

end
-- ==== Proof.InprojChunk.lean ====
/- One grid point of the input projections, read at an index of each result, in terms of its blocks. -/
module

public import proofs.«01_k».proof.Proof.Gen.InprojIdeal.Value
public import proofs.«01_k».proof.Proof.InprojSpec
public import Idealize.ShloMosaic.Lib.Pipeline.ValueKit

@[expose] public section

set_option maxRecDepth 16384

noncomputable section

namespace Cert.InprojVal

open Cert.InprojIdeal Cert.InprojIdeal.Gen Cert.Rows Cert.Inp Idealize.ShloMosaic Idealize.ShloMosaic.TcCoe Idealize.SL.Sem

/-- The joined projection of one row of the block. -/
def zb (x0 : FVec Ideal S1x512x1024 .f32) (x1 : FVec Ideal S1x1024 .f32) (x2 : FVec Ideal S1024x2048 .bf16) (r : Fin 512) (c : Fin 2048) : EReal :=
  ∑ k, normRow (fun i => x0 (ix3 0 r i)) (fun i => x1 (ix2 0 i)) k * x2 (ix2 k c)

/-- A lane of 128: itself times the first plane, the lane 32 above times the second, the lane 32 below times the third. -/
def rotA (v p0 p1 p2 : Fin 128 → EReal) (l : Fin 128) : EReal :=
  v l * p0 l + v ⟨(l.val + 128 - 96) % 128, Nat.mod_lt _ (by decide)⟩ * p1 l + v ⟨(l.val + 128 - 32) % 128, Nat.mod_lt _ (by decide)⟩ * p2 l

/-- The same with the lanes 16 above and below. -/
def rotB (v p0 p1 p2 : Fin 128 → EReal) (l : Fin 128) : EReal :=
  v l * p0 l + v ⟨(l.val + 128 - 112) % 128, Nat.mod_lt _ (by decide)⟩ * p1 l + v ⟨(l.val + 128 - 16) % 128, Nat.mod_lt _ (by decide)⟩ * p2 l

section Blocks

variable (x0 : FVec Ideal S1x512x1024 .f32) (x1 : FVec Ideal S1x1024 .f32) (x2 : FVec Ideal S1024x2048 .bf16) (x3 x4 : FVec Ideal S3x512x128 .f32) (x5 : FVec Ideal S1x384 .f32) (x6 : FVec Ideal S384x1024 .bf16) (x7 : FVec Ideal S1x256 .f32) (x8 : FVec Ideal S256x1024 .bf16) (x9 : FVec Ideal S512x256 .bf16)

/-- The second projection of the queries, of one row of the block. -/
def qb (r : Fin 512) (c : Fin 1024) : EReal :=
  ∑ k, rms 0x43C00000#32 (fun i : Fin 384 => zb x0 x1 x2 r ⟨768 + i.val, by omega⟩) (fun i => x5 (ix2 0 i)) k * x6 (ix2 k c)

/-- The scaled latent row of the keys and values. -/
def nb (r : Fin 512) (k : Fin 256) : EReal :=
  rms 0x43800000#32 (fun i : Fin 256 => zb x0 x1 x2 r ⟨1152 + i.val, by omega⟩) (fun i => x7 (ix2 0 i)) k

/-- The second projection of the keys. -/
def kb (r : Fin 512) (c : Fin 1024) : EReal := ∑ k, nb x0 x1 x2 x7 r k * x8 (ix2 k c)

theorem pay54_at (r : Fin 512) (c : Fin 2048) : k0_pay54 (F := Ideal) x0 x1 x2 x3 x4 x5 x6 x7 x8 x9 (ix2 r c) = zb x0 x1 x2 r c := by
  unfold k0_pay54
  pointwise [k0_pay6, zb, normRow, meanSq]

theorem pay6_at (r : Fin 512) (c : Fin 2048) : k0_pay6 (F := Ideal) (View.ld x0 r0_0) (View.ld x1 r0_1) (View.ld x2 r0_2) (ix2 r c) = zb x0 x1 x2 r c := by
  pointwise [k0_pay6, zb, normRow, meanSq]

theorem pay58_at (r : Fin 512) (c : Fin 1024) : k0_pay58 (F := Ideal) x0 x1 x2 x3 x4 x5 x6 x7 x8 x9 (ix2 r c) = qb x0 x1 x2 x5 x6 r c := by
  unfold k0_pay58 k0_pay57 k0_pay56 k0_pay55
  pointwise [k0_pay23, k0_pay22, k0_pay21, k0_pay20, pay54_at x0 x1 x2 x3 x4 x5 x6 x7 x8 x9, qb, rms]

theorem pay23_at (r : Fin 512) (c : Fin 1024) : k0_pay23 (F := Ideal) (k0_pay55 x0 x1 x2 x3 x4 x5 x6 x7 x8 x9) (k0_pay56 x0 x1 x2 x3 x4 x5 x6 x7 x8 x9) (k0_pay57 x0 x1 x2 x3 x4 x5 x6 x7 x8 x9) (View.ld x6 r0_13) (ix2 r c) = qb x0 x1 x2 x5 x6 r c := by
  unfold k0_pay57 k0_pay56 k0_pay55
  pointwise [k0_pay23, k0_pay22, k0_pay21, k0_pay20, pay54_at x0 x1 x2 x3 x4 x5 x6 x7 x8 x9, qb, rms]

theorem pay59_at (r : Fin 512) (k : Fin 256) : k0_pay59 (F := Ideal) x0 x1 x2 x3 x4 x5 x6 x7 x8 x9 (ix2 r k) = nb x0 x1 x2 x7 r k := by
  unfold k0_pay59
  pointwise [k0_pay43, pay54_at x0 x1 x2 x3 x4 x5 x6 x7 x8 x9, nb, rms]

theorem pay60_at (r : Fin 512) (c : Fin 1024) : k0_pay60 (F := Ideal) x0 x1 x2 x3 x4 x5 x6 x7 x8 x9 (ix2 r c) = kb x0 x1 x2 x7 x8 r c := by
  unfold k0_pay60
  pointwise [k0_pay44, k0_pay43, pay54_at x0 x1 x2 x3 x4 x5 x6 x7 x8 x9, kb, nb, rms]

theorem pay61_at (r : Fin 512) (l : Fin 128) : k0_pay61 (F := Ideal) x0 x1 x2 x3 x4 x5 x6 x7 x8 x9 (ix2 r l)
    = rotB (fun e => zb x0 x1 x2 r ⟨1920 + e.val, by omega⟩) (fun e => x4 (ix3 0 r e)) (fun e => x4 (ix3 1 r e)) (fun e => x4 (ix3 2 r e)) l := by
  unfold k0_pay61
  pointwise [k0_pay45, pay54_at x0 x1 x2 x3 x4 x5 x6 x7 x8 x9, rotB]

theorem out16_at (r : Fin 512) (c : Fin 512) : out0_16 (F := Ideal) x0 x1 x2 x3 x4 x5 x6 x7 x8 x9 (ix3 0 r c) = zb x0 x1 x2 r ⟨1408 + c.val, by omega⟩ := by
  unfold out0_16
  frame_out
  pointwise [k0_pay19, pay54_at x0 x1 x2 x3 x4 x5 x6 x7 x8 x9]

theorem out12_at (r : Fin 512) (c : Fin 128) : out0_12 (F := Ideal) x0 x1 x2 x3 x4 x5 x6 x7 x8 x9 (ix3 0 r c) = zb x0 x1 x2 r ⟨640 + c.val, by omega⟩ := by
  unfold out0_12
  frame_out
  pointwise [k0_pay18, pay54_at x0 x1 x2 x3 x4 x5 x6 x7 x8 x9]

theorem out11_at (r : Fin 512) (c : Fin 128) : out0_11 (F := Ideal) x0 x1 x2 x3 x4 x5 x6 x7 x8 x9 (ix3 0 r c)
    = rotA (fun e => zb x0 x1 x2 r ⟨512 + e.val, by omega⟩) (fun e => x3 (ix3 0 r e)) (fun e => x3 (ix3 1 r e)) (fun e => x3 (ix3 2 r e)) c := by
  unfold out0_11
  frame_out
  pointwise [k0_pay17, k0_pay16, pay54_at x0 x1 x2 x3 x4 x5 x6 x7 x8 x9, rotA]

theorem out10_at (y : S1x512x512.Idx) : out0_10 (F := Ideal) x0 x1 x2 x3 x4 x5 x6 x7 x8 x9 y
    = rotA (fun e => zb x0 x1 x2 (y 1) ⟨(y 2).val / 128 * 128 + e.val, by have h : (y 2).val < 512 := (y 2).isLt; omega⟩) (fun e => x3 (ix3 0 (y 1) e)) (fun e => x3 (ix3 1 (y 1) e)) (fun e => x3 (ix3 2 (y 1) e))
        ⟨(y 2).val % 128, by omega⟩ * Ideal.ofBits .f32 0x3E000000#32 := by
  unfold out0_10
  canon_tiles x h
  all_goals have e1 : y 1 = x 1 := Fin.ext (by omega)
  all_goals have e3 : (y 2).val % 128 = (x 2).val := by omega
  · have e2 : (y 2).val / 128 * 128 = 384 := by omega
    simp only [e1, e2, e3]
    pointwise [k0_pay15, pay54_at x0 x1 x2 x3 x4 x5 x6 x7 x8 x9, pay6_at, rotA]
  · have e2 : (y 2).val / 128 * 128 = 256 := by omega
    simp only [e1, e2, e3]
    pointwise [k0_pay14, k0_pay13, k0_pay12, k0_pay11, pay54_at x0 x1 x2 x3 x4 x5 x6 x7 x8 x9, pay6_at, rotA]
  · have e2 : (y 2).val / 128 * 128 = 128 := by omega
    simp only [e1, e2, e3]
    pointwise [k0_pay10, pay54_at x0 x1 x2 x3 x4 x5 x6 x7 x8 x9, pay6_at, rotA]
  · have e2 : (y 2).val / 128 * 128 = 0 := by omega
    simp only [e1, e2, e3]
    pointwise [k0_pay9, k0_pay8, k0_pay7, pay54_at x0 x1 x2 x3 x4 x5 x6 x7 x8 x9, pay6_at, rotA]

theorem out13_at (y : S1x512x1024.Idx) : out0_13 (F := Ideal) x0 x1 x2 x3 x4 x5 x6 x7 x8 x9 y
    = rotB (fun e => qb x0 x1 x2 x5 x6 (y 1) ⟨(y 2).val / 128 * 128 + e.val, by have h : (y 2).val < 1024 := (y 2).isLt; omega⟩) (fun e => x4 (ix3 0 (y 1) e)) (fun e => x4 (ix3 1 (y 1) e)) (fun e => x4 (ix3 2 (y 1) e))
        ⟨(y 2).val % 128, by omega⟩ * Ideal.ofBits .f32 0x3DD105EC#32 := by
  unfold out0_13
  canon_tiles x h
  all_goals have e1 : y 1 = x 1 := Fin.ext (by omega)
  all_goals have e3 : (y 2).val % 128 = (x 2).val := by omega
  · have e2 : (y 2).val / 128 * 128 = 896 := by omega
    simp only [e1, e2, e3]
    pointwise [k0_pay42, k0_pay41, pay58_at x0 x1 x2 x3 x4 x5 x6 x7 x8 x9, pay23_at x0 x1 x2 x3 x4 x5 x6 x7 x8 x9, rotB]
  · have e2 : (y 2).val / 128 * 128 = 768 := by omega
    simp only [e1, e2, e3]
    pointwise [k0_pay40, k0_pay39, k0_pay38, k0_pay37, pay58_at x0 x1 x2 x3 x4 x5 x6 x7 x8 x9, pay23_at x0 x1 x2 x3 x4 x5 x6 x7 x8 x9, rotB]
  · have e2 : (y 2).val / 128 * 128 = 640 := by omega
    simp only [e1, e2, e3]
    pointwise [k0_pay36, pay58_at x0 x1 x2 x3 x4 x5 x6 x7 x8 x9, pay23_at x0 x1 x2 x3 x4 x5 x6 x7 x8 x9, rotB]
  · have e2 : (y 2).val / 128 * 128 = 512 := by omega
    simp only [e1, e2, e3]
    pointwise [k0_pay35, k0_pay34, k0_pay33, k0_pay32, pay58_at x0 x1 x2 x3 x4 x5 x6 x7 x8 x9, pay23_at x0 x1 x2 x3 x4 x5 x6 x7 x8 x9, rotB]
  · have e2 : (y 2).val / 128 * 128 = 384 := by omega
    simp only [e1, e2, e3]
    pointwise [k0_pay31, pay58_at x0 x1 x2 x3 x4 x5 x6 x7 x8 x9, pay23_at x0 x1 x2 x3 x4 x5 x6 x7 x8 x9, rotB]
  · have e2 : (y 2).val / 128 * 128 = 256 := by omega
    simp only [e1, e2, e3]
    pointwise [k0_pay30, k0_pay29, pay58_at x0 x1 x2 x3 x4 x5 x6 x7 x8 x9, pay23_at x0 x1 x2 x3 x4 x5 x6 x7 x8 x9, rotB]
  · have e2 : (y 2).val / 128 * 128 = 128 := by omega
    simp only [e1, e2, e3]
    pointwise [k0_pay28, k0_pay27, k0_pay26, k0_pay25, pay58_at x0 x1 x2 x3 x4 x5 x6 x7 x8 x9, pay23_at x0 x1 x2 x3 x4 x5 x6 x7 x8 x9, rotB]
  · have e2 : (y 2).val / 128 * 128 = 0 := by omega
    simp only [e1, e2, e3]
    pointwise [k0_pay24, pay58_at x0 x1 x2 x3 x4 x5 x6 x7 x8 x9, pay23_at x0 x1 x2 x3 x4 x5 x6 x7 x8 x9, rotB]

theorem out14_at (y : S1x512x1024.Idx) : out0_14 (F := Ideal) x0 x1 x2 x3 x4 x5 x6 x7 x8 x9 y
    = kb x0 x1 x2 x7 x8 (y 1) ⟨(y 2).val, (y 2).isLt⟩
      + rotB (fun e => zb x0 x1 x2 (y 1) ⟨1920 + e.val, by omega⟩) (fun e => x4 (ix3 0 (y 1) e)) (fun e => x4 (ix3 1 (y 1) e)) (fun e => x4 (ix3 2 (y 1) e)) ⟨(y 2).val % 128, by omega⟩ := by
  unfold out0_14
  canon_tiles x h
  all_goals have e1 : y 1 = x 1 := Fin.ext (by omega)
  all_goals have e3 : (y 2).val % 128 = (x 2).val := by omega
  · have e2 : (y 2).val = 896 + (x 2).val := by omega
    simp only [e1, e3]
    simp only [e2]
    pointwise [k0_pay2, pay60_at x0 x1 x2 x3 x4 x5 x6 x7 x8 x9, pay61_at x0 x1 x2 x3 x4 x5 x6 x7 x8 x9]
  · have e2 : (y 2).val = 768 + (x 2).val := by omega
    simp only [e1, e3]
    simp only [e2]
    pointwise [k0_pay1, k0_pay53, pay60_at x0 x1 x2 x3 x4 x5 x6 x7 x8 x9, pay61_at x0 x1 x2 x3 x4 x5 x6 x7 x8 x9]
  · have e2 : (y 2).val = 640 + (x 2).val := by omega
    simp only [e1, e3]
    simp only [e2]
    pointwise [k0_pay52, pay60_at x0 x1 x2 x3 x4 x5 x6 x7 x8 x9, pay61_at x0 x1 x2 x3 x4 x5 x6 x7 x8 x9]
  · have e2 : (y 2).val = 512 + (x 2).val := by omega
    simp only [e1, e3]
    simp only [e2]
    pointwise [k0_pay51, pay60_at x0 x1 x2 x3 x4 x5 x6 x7 x8 x9, pay61_at x0 x1 x2 x3 x4 x5 x6 x7 x8 x9]
  · have e2 : (y 2).val = 384 + (x 2).val := by omega
    simp only [e1, e3]
    simp only [e2]
    pointwise [k0_pay50, pay60_at x0 x1 x2 x3 x4 x5 x6 x7 x8 x9, pay61_at x0 x1 x2 x3 x4 x5 x6 x7 x8 x9]
  · have e2 : (y 2).val = 256 + (x 2).val := by omega
    simp only [e1, e3]
    simp only [e2]
    pointwise [k0_pay49, pay60_at x0 x1 x2 x3 x4 x5 x6 x7 x8 x9, pay61_at x0 x1 x2 x3 x4 x5 x6 x7 x8 x9]
  · have e2 : (y 2).val = 128 + (x 2).val := by omega
    simp only [e1, e3]
    simp only [e2]
    pointwise [k0_pay48, pay60_at x0 x1 x2 x3 x4 x5 x6 x7 x8 x9, pay61_at x0 x1 x2 x3 x4 x5 x6 x7 x8 x9]
  · have e2 : (y 2).val = (x 2).val := by omega
    simp only [e1, e3]
    simp only [e2]
    pointwise [k0_pay47, k0_pay46, k0_pay45, k0_pay44, k0_pay43, pay54_at x0 x1 x2 x3 x4 x5 x6 x7 x8 x9, kb, nb, rms, rotB, pay60_at x0 x1 x2 x3 x4 x5 x6 x7 x8 x9, pay61_at x0 x1 x2 x3 x4 x5 x6 x7 x8 x9]

theorem out15_at (y : S1x2x512x256.Idx) : out0_15 (F := Ideal) x0 x1 x2 x3 x4 x5 x6 x7 x8 x9 y
    = ∑ k, x9 (ix2 (y 2) k) * nb x0 x1 x2 x7 ⟨(y 1).val * 256 + (y 3).val, by have h : (y 1).val < 2 := (y 1).isLt; have h' : (y 3).val < 256 := (y 3).isLt; omega⟩ k := by
  unfold out0_15
  canon_tiles x h
  all_goals have e2 : y 2 = x 2 := Fin.ext (by omega)
  · have e3 : (y 1).val * 256 + (y 3).val = 256 + (x 3).val := by omega
    simp only [e2, e3]
    pointwise [k0_pay5, k0_pay3, pay59_at x0 x1 x2 x3 x4 x5 x6 x7 x8 x9]
  · have e3 : (y 1).val * 256 + (y 3).val = (x 3).val := by omega
    simp only [e2, e3]
    pointwise [k0_pay4, k0_pay3, pay59_at x0 x1 x2 x3 x4 x5 x6 x7 x8 x9]

end Blocks

end Cert.InprojVal

end
-- ==== Proof.InprojRot.lean ====
/- The kernel's two lane rotations against the plain rotation of a vector by its halves. -/
module

public import proofs.«01_k».proof.Proof.InprojTables
public import proofs.«01_k».proof.Proof.InprojChunk

@[expose] public section

set_option maxRecDepth 16384

noncomputable section

namespace Cert.InprojVal

open Cert.InprojIdeal Cert.InprojIdeal.Gen Cert.Rows Cert.Inp Idealize.ShloMosaic Idealize.ShloMosaic.TcCoe Idealize.SL.Sem

theorem fn_idx {n : Nat} (f : Fin n → EReal) (a b : Nat) (ha : a < n) (hb : b < n) (h : a = b) : f ⟨a, ha⟩ = f ⟨b, hb⟩ := by
  subst h
  rfl

/-- Two heads of 64 lanes: each lane's rotation is the rotation of its own head. -/
theorem rotA_eq (s : Fin 16384) (v : Fin 128 → EReal) (l : Fin 128) :
    rotA v (ca s) (sa s) (ta s) l = rope32 s (fun d => v ⟨l.val / 64 * 64 + d.val, by omega⟩) ⟨l.val % 64, by omega⟩ := by
  have hl : v ⟨l.val / 64 * 64 + l.val % 64, by omega⟩ = v l := fn_idx v _ _ _ l.isLt (by omega)
  unfold rotA
  by_cases h : l.val % 64 < 32
  · rw [rope32_lo s _ ⟨l.val % 64, by omega⟩ h]
    have hp : v ⟨(l.val + 128 - 96) % 128, by omega⟩ = v ⟨l.val / 64 * 64 + (l.val % 64 + 32), by omega⟩ := fn_idx v _ _ _ _ (by omega)
    have ha : ang32 s ⟨l.val % 32, by omega⟩ = ang32 s ⟨l.val % 64, h⟩ := fn_idx (ang32 s) _ _ _ _ (by omega)
    simp only [ca, sa, ta, if_pos h, if_neg (show ¬ 32 ≤ l.val % 64 by omega), mul_zero, add_zero, hp, ha, hl]
    rw [mul_neg, sub_eq_add_neg]
  · rw [rope32_hi s _ ⟨l.val % 64, by omega⟩ h]
    have hp : v ⟨(l.val + 128 - 32) % 128, by omega⟩ = v ⟨l.val / 64 * 64 + (l.val % 64 - 32), by omega⟩ := fn_idx v _ _ _ _ (by omega)
    have ha : ang32 s ⟨l.val % 32, by omega⟩ = ang32 s ⟨l.val % 64 - 32, by omega⟩ := fn_idx (ang32 s) _ _ _ _ (by omega)
    simp only [ca, sa, ta, if_neg h, if_pos (show 32 ≤ l.val % 64 by omega), mul_zero, add_zero, hp, ha, hl]

/-- One head of 128 lanes: lanes 64 to 95 are rotated, the others are kept. -/
theorem rotB_eq (s : Fin 16384) (v : Fin 128 → EReal) (l : Fin 128) :
    rotB v (cb s) (sb s) (tb s) l
      = if h : 64 ≤ l.val ∧ l.val < 96 then rope16 s (fun d => v ⟨64 + d.val, by omega⟩) ⟨l.val - 64, by omega⟩ else v l := by
  unfold rotB
  by_cases h : 64 ≤ l.val ∧ l.val < 96
  · rw [dif_pos h]
    have hl : v ⟨64 + (l.val - 64), by omega⟩ = v l := fn_idx v _ _ _ l.isLt (by omega)
    by_cases h1 : l.val - 64 < 16
    · rw [rope16_lo s _ ⟨l.val - 64, by omega⟩ h1]
      have hp : v ⟨(l.val + 128 - 112) % 128, by omega⟩ = v ⟨64 + (l.val - 64 + 16), by omega⟩ := fn_idx v _ _ _ _ (by omega)
      have ha : ang16 s ⟨l.val % 16, by omega⟩ = ang16 s ⟨l.val - 64, h1⟩ := fn_idx (ang16 s) _ _ _ _ (by omega)
      simp only [cb, sb, tb, if_pos h, if_pos (show 64 ≤ l.val ∧ l.val < 80 by omega), if_neg (show ¬ (80 ≤ l.val ∧ l.val < 96) by omega), mul_zero, add_zero, hp, ha, hl]
      rw [mul_neg, sub_eq_add_neg]
    · rw [rope16_hi s _ ⟨l.val - 64, by omega⟩ h1]
      have hp : v ⟨(l.val + 128 - 16) % 128, by omega⟩ = v ⟨64 + (l.val - 64 - 16), by omega⟩ := fn_idx v _ _ _ _ (by omega)
      have ha : ang16 s ⟨l.val % 16, by omega⟩ = ang16 s ⟨l.val - 64 - 16, by omega⟩ := fn_idx (ang16 s) _ _ _ _ (by omega)
      simp only [cb, sb, tb, if_pos h, if_neg (show ¬ (64 ≤ l.val ∧ l.val < 80) by omega), if_pos (show 80 ≤ l.val ∧ l.val < 96 by omega), mul_zero, add_zero, hp, ha, hl]
  · rw [dif_neg h]
    simp only [cb, sb, tb, if_neg h, if_neg (show ¬ (64 ≤ l.val ∧ l.val < 80) by omega), if_neg (show ¬ (80 ≤ l.val ∧ l.val < 96) by omega), mul_zero, add_zero, Ideal.ofBits_one_f32, mul_one]

end Cert.InprojVal

end
-- ==== Proof.InprojHost.lean ====
/- The arrays that the host code prepares for the input projections, read at an index: the table planes and the weights. -/
module

public import proofs.«01_k».proof.Proof.InprojTables
public import Idealize.ShloMosaic.Lib.Routing.OpsOne
public import Idealize.ShloMosaic.Lib.Routing.OpsPair

@[expose] public section

set_option maxRecDepth 65536

noncomputable section

namespace Cert.InprojVal

open Cert.InprojIdeal Cert.InprojIdeal.Gen Cert.Rows Idealize.ShloMosaic Idealize.ShloMosaic.TcCoe Idealize.SL.Sem Idealize.ShloMosaic.Routing

variable (m : (ℓ : Loc nD τ sig) → Buf (Elt Ideal) ℓ)

/-- The arguments as functions of their indices. -/
abbrev aX (c : Dev nD) (s : Fin 16384) (k : Fin 1024) : EReal := (m (c.tc.loc main_arg0) : FVec Ideal S1x16384x1024 .f32) (ix3 0 s k)
abbrev aG (c : Dev nD) (k : Fin 1024) : EReal := (m (c.tc.loc main_arg1) : FVec Ideal S1x1024 .f32) (ix2 0 k)
abbrev aW (c : Dev nD) (k : Fin 1024) (l : Fin 5024) : EReal := (m (c.tc.loc main_arg2) : FVec Ideal S1x1024x5024 .f32) (ix3 0 k l)
abbrev aGQ (c : Dev nD) (k : Fin 384) : EReal := (m (c.tc.loc main_arg3) : FVec Ideal S1x384 .f32) (ix2 0 k)
abbrev aWQ (c : Dev nD) (k : Fin 384) (l : Fin 768) : EReal := (m (c.tc.loc main_arg4) : FVec Ideal S1x384x768 .f32) (ix3 0 k l)
abbrev aGK (c : Dev nD) (k : Fin 256) : EReal := (m (c.tc.loc main_arg5) : FVec Ideal S1x256 .f32) (ix2 0 k)
abbrev aWK (c : Dev nD) (k : Fin 256) (l : Fin 1024) : EReal := (m (c.tc.loc main_arg6) : FVec Ideal S1x256x1024 .f32) (ix3 0 k l)

theorem sitofp_zero : FloatOps.sitofp (F := Ideal) .f32 0#32 = (0 : EReal) := by
  show (((0#32 : BitVec 32).toInt : ℝ) : EReal) = 0
  simp

theorem at_col {n : Nat} (f : Fin n → EReal) (a b : Nat) (ha : a < n) (hb : b < n) (h : a = b) : f ⟨a, ha⟩ = f ⟨b, hb⟩ := by
  subst h
  rfl

theorem tab0_a (c : Dev nD) (s : Fin 16384) (l : Fin 128) : (V m c main_v97 : FVec Ideal S3x16384x128 .f32) (ix3 0 s l) = ca s l := by
  rw [tabs_a]
  pointwise [plane0_a m c s l]

theorem tab1_a (c : Dev nD) (s : Fin 16384) (l : Fin 128) : (V m c main_v97 : FVec Ideal S3x16384x128 .f32) (ix3 1 s l) = sa s l := by
  rw [tabs_a]
  pointwise [plane1_a m c s l]

theorem tab2_a (c : Dev nD) (s : Fin 16384) (l : Fin 128) : (V m c main_v97 : FVec Ideal S3x16384x128 .f32) (ix3 2 s l) = ta s l := by
  rw [tabs_a]
  pointwise [plane2_a m c s l]

theorem tab0_b (c : Dev nD) (s : Fin 16384) (l : Fin 128) : (V m c main_v159 : FVec Ideal S3x16384x128 .f32) (ix3 0 s l) = cb s l := by
  rw [tabs_b]
  pointwise [plane0_b m c s l]

theorem tab1_b (c : Dev nD) (s : Fin 16384) (l : Fin 128) : (V m c main_v159 : FVec Ideal S3x16384x128 .f32) (ix3 1 s l) = sb s l := by
  rw [tabs_b]
  pointwise [plane1_b m c s l]

theorem tab2_b (c : Dev nD) (s : Fin 16384) (l : Fin 128) : (V m c main_v159 : FVec Ideal S3x16384x128 .f32) (ix3 2 s l) = tb s l := by
  rw [tabs_b]
  pointwise [plane2_b m c s l]

/-- The joined projection's weights. -/
theorem w1_eq (c : Dev nD) : (V m c main_v20 : FVec Ideal S1024x2048 .bf16) = truncf (F := Ideal) .bf16 (concatenate S1024x2048 1
    [⟨S1024x512, (V m c main_v1 : FVec Ideal S1024x512 .f32)⟩, ⟨S1024x128, (V m c main_v3 : FVec Ideal S1024x128 .f32)⟩, ⟨S1024x128, (V m c main_v5 : FVec Ideal S1024x128 .f32)⟩,
     ⟨S1024x384, (V m c main_v7 : FVec Ideal S1024x384 .f32)⟩, ⟨S1024x256, (V m c main_v9 : FVec Ideal S1024x256 .f32)⟩, ⟨S1024x512, (V m c main_v13 : FVec Ideal S1024x512 .f32)⟩,
     ⟨S1024x128, (V m c main_v18 : FVec Ideal S1024x128 .f32)⟩] concatenates_S1024x512_S1024x128_S1024x128_S1024x384_S1024x256_S1024x512_S1024x128_S1024x2048_d1) bitsLt_bf16_f32 := by
  unfold V
  after_reads_simp
  rfl

/-- The rotated keys' columns, put at lane 64 of a block of zeros. -/
theorem kr_scatter (x0 : FVec Ideal S1024x128 .f32) (idx : IVec S1 32) (hidx : (idx (ix1 0)).toInt = 64) (u : FVec Ideal S1024x32 .f32) (k : Fin 1024) (e : Fin 128) :
    Host.scatter scatter_S1024x128_S1_S1024x32_01_n_1_0 (fun _ b => b) x0 idx u (ix2 k e)
      = if h : 64 ≤ e.val ∧ e.val < 96 then u (ix2 k ⟨e.val - 64, by omega⟩) else x0 (ix2 k e) := by
  have lands : ∀ (k' : Fin 1024) (j : Fin 32), (scatter_S1024x128_S1_S1024x32_01_n_1_0).resultIdx? (ix2 k' j) idx = some (ix2 k e) ↔ k' = k ∧ 64 + j.val = e.val := by
    intro k' j
    have hs0 : (scatter_S1024x128_S1_S1024x32_01_n_1_0).start (ix2 k' j) idx 0 = 0 := by
      unfold ScatterDims.start
      rw [dif_neg (by decide)]
    have hs1 : (scatter_S1024x128_S1_S1024x32_01_n_1_0).start (ix2 k' j) idx 1 = 64 := by
      unfold ScatterDims.start
      rw [dif_pos (by decide)]
      have hsi : ∀ q, (scatter_S1024x128_S1_S1024x32_01_n_1_0).siIdx (ix2 k' j) q = ix1 (0 : Fin 1) := by
        intro q
        funext b
        match b with
        | ⟨0, _⟩ => exact Subsingleton.elim (α := Fin 1) _ _
      rw [hsi, hidx]
    have hw0 : (scatter_S1024x128_S1_S1024x32_01_n_1_0).window (ix2 k' j) 0 = k'.val := by
      unfold ScatterDims.window
      rw [dif_pos (by decide)]
      rfl
    have hw1 : (scatter_S1024x128_S1_S1024x32_01_n_1_0).window (ix2 k' j) 1 = j.val := by
      unfold ScatterDims.window
      rw [dif_pos (by decide)]
      rfl
    refine (resultIdx?_ix2 _ _ _ k e).trans ?_
    rw [Fin.ext_iff, hs0, hs1, hw0, hw1]
    omega
  by_cases h : 64 ≤ e.val ∧ e.val < 96
  · rw [dif_pos h]
    refine scatter_set_hit _ x0 idx u _ _ (fun j hj => ?_) (ix2 k ⟨e.val - 64, by omega⟩) ((lands k ⟨e.val - 64, by omega⟩).2 ⟨rfl, by dsimp only; omega⟩)
    have q := (lands (j 0) (j 1)).1 ((congrArg (fun t => (scatter_S1024x128_S1_S1024x32_01_n_1_0).resultIdx? t idx = some (ix2 k e)) (eq_ix2 j)).mp hj)
    refine (congrArg u (eq_ix2 j)).trans ?_
    have e1 : j 1 = (⟨e.val - 64, by omega⟩ : Fin 32) := Fin.ext (by have := q.2; dsimp only; omega)
    exact congrArg₂ (fun a b => u (ix2 a b)) q.1 e1
  · rw [dif_neg h]
    refine scatter_set_miss _ x0 idx u _ fun j hj => h ?_
    have q := (lands (j 0) (j 1)).1 ((congrArg (fun t => (scatter_S1024x128_S1_S1024x32_01_n_1_0).resultIdx? t idx = some (ix2 k e)) (eq_ix2 j)).mp hj)
    have hj := (j 1).isLt
    have hj' : (j 1).val < 32 := hj
    omega

set_option maxHeartbeats 4000000 in
theorem col_v1 (c : Dev nD) (k : Fin 1024) (j : Fin 512) : (V m c main_v1 : FVec Ideal S1024x512 .f32) (ix2 k j)
    = aW m c k (⟨0 + j.val, by omega⟩) := by
  unfold V
  after_reads_simp
  pointwise

set_option maxHeartbeats 4000000 in
theorem col_v3 (c : Dev nD) (k : Fin 1024) (j : Fin 128) : (V m c main_v3 : FVec Ideal S1024x128 .f32) (ix2 k j)
    = aW m c k (⟨512 + j.val, by omega⟩) := by
  unfold V
  after_reads_simp
  pointwise

set_option maxHeartbeats 4000000 in
theorem col_v5 (c : Dev nD) (k : Fin 1024) (j : Fin 128) : (V m c main_v5 : FVec Ideal S1024x128 .f32) (ix2 k j)
    = aW m c k (⟨640 + j.val, by omega⟩) := by
  unfold V
  after_reads_simp
  pointwise

set_option maxHeartbeats 4000000 in
theorem col_v7 (c : Dev nD) (k : Fin 1024) (j : Fin 384) : (V m c main_v7 : FVec Ideal S1024x384 .f32) (ix2 k j)
    = aW m c k (⟨768 + j.val, by omega⟩) := by
  unfold V
  after_reads_simp
  pointwise

set_option maxHeartbeats 4000000 in
theorem col_v9 (c : Dev nD) (k : Fin 1024) (j : Fin 256) : (V m c main_v9 : FVec Ideal S1024x256 .f32) (ix2 k j)
    = aW m c k (⟨1152 + j.val, by omega⟩) := by
  unfold V
  after_reads_simp
  pointwise

set_option maxHeartbeats 4000000 in
theorem col_v13 (c : Dev nD) (k : Fin 1024) (j : Fin 512) : (V m c main_v13 : FVec Ideal S1024x512 .f32) (ix2 k j)
    = aW m c k (⟨1440 + j.val, by omega⟩) := by
  unfold V
  after_reads_simp
  pointwise

set_option maxHeartbeats 4000000 in
theorem col_v18 (c : Dev nD) (k : Fin 1024) (e : Fin 128) : (V m c main_v18 : FVec Ideal S1024x128 .f32) (ix2 k e)
    = if h : 64 ≤ e.val ∧ e.val < 96 then aW m c k (⟨1408 + (e.val - 64), by omega⟩) else 0 := by
  unfold V
  after_reads_simp
  refine (kr_scatter _ _ (by decide) _ k e).trans ?_
  by_cases h : 64 ≤ e.val ∧ e.val < 96
  · rw [dif_pos h, dif_pos h]
    pointwise
  · rw [dif_neg h, dif_neg h]
    exact Ideal.ofBits_zero_f32

set_option maxHeartbeats 4000000 in
/-- The joined projection's weights at one entry, by the range of its column. -/
theorem w1_at (c : Dev nD) (k : Fin 1024) (l : Fin 2048) : (V m c main_v20 : FVec Ideal S1024x2048 .bf16) (ix2 k l)
    = if h : l.val < 1408 then aW m c k (⟨l.val, by omega⟩)
      else if h' : l.val < 1920 then aW m c k (⟨l.val + 32, by omega⟩)
      else if h'' : 1984 ≤ l.val ∧ l.val < 2016 then aW m c k (⟨l.val - 576, by omega⟩) else 0 := by
  rw [w1_eq]
  pointwise [col_v1 m c, col_v3 m c, col_v5 m c, col_v7 m c, col_v9 m c, col_v13 m c, col_v18 m c]
  split_ifs <;> first
    | (exfalso; omega)
    | exact at_col (aW m c k) _ _ _ _ (by omega)
    | rfl
    | (refine Eq.trans ?_ (dif_pos (show l.val < 1408 by omega)).symm
       exact at_col (aW m c k) _ _ _ _ (by omega))
    | (refine Eq.trans ?_ (dif_neg (show ¬ l.val < 1408 by omega)).symm
       refine Eq.trans ?_ (dif_pos (show l.val < 1920 by omega)).symm
       exact at_col (aW m c k) _ _ _ _ (by omega))
    | (refine Eq.trans ?_ (dif_neg (show ¬ l.val < 1408 by omega)).symm
       refine Eq.trans ?_ (dif_neg (show ¬ l.val < 1920 by omega)).symm
       refine Eq.trans ?_ (dif_pos (show 1984 ≤ l.val ∧ l.val < 2016 by omega)).symm
       exact at_col (aW m c k) _ _ _ _ (by omega))
    | (refine Eq.trans ?_ (dif_neg (show ¬ l.val < 1408 by omega)).symm
       refine Eq.trans ?_ (dif_neg (show ¬ l.val < 1920 by omega)).symm
       exact (dif_neg (show ¬ (1984 ≤ l.val ∧ l.val < 2016) by omega)).symm)

set_option maxHeartbeats 4000000 in
theorem wuq_at (c : Dev nD) (k : Fin 384) (l : Fin 1024) : (V m c main_v25 : FVec Ideal S384x1024 .bf16) (ix2 k l)
    = if h : l.val % 128 < 96 then aWQ m c k (⟨l.val / 128 * 96 + l.val % 128, by omega⟩) else 0 := by
  unfold V
  after_reads_simp
  simp -implicitDefEqProofs only [StableHlo.TRef.toBuf, StableHlo.TRef.ofBuf, cast_cast, cast_eq]
  clean_types
  pointwise
  have h8 : l.val / 128 < 8 := by omega
  simp only [h8, true_and]
  split_ifs
  · rfl
  · exact sitofp_zero

set_option maxHeartbeats 4000000 in
theorem wk_at (c : Dev nD) (k : Fin 256) (l : Fin 1024) : (V m c main_v31 : FVec Ideal S256x1024 .bf16) (ix2 k l)
    = if h : l.val % 128 < 64 then aWK m c k (l) else 0 := by
  unfold V
  after_reads_simp
  simp -implicitDefEqProofs only [StableHlo.TRef.toBuf, StableHlo.TRef.ofBuf, cast_cast, cast_eq]
  clean_types
  pointwise
  have h8 : l.val / 128 < 8 := by omega
  have hl : (⟨l.val / 128 * 128 + l.val % 128, by omega⟩ : Fin 1024) = l := Fin.ext (by dsimp only; omega)
  simp only [h8, true_and, hl]
  split_ifs
  · rfl
  · exact sitofp_zero

set_option maxHeartbeats 4000000 in
theorem wvt_at (c : Dev nD) (r : Fin 512) (k : Fin 256) : (V m c main_v35 : FVec Ideal S512x256 .bf16) (ix2 r k)
    = aWK m c k (⟨r.val / 64 * 128 + (64 + r.val % 64), by omega⟩) := by
  unfold V
  after_reads_simp
  clean_types
  pointwise

end Cert.InprojVal

end
-- ==== Proof.InprojBlocks.lean ====
/- The blocks of the input projections at one grid point, and the joined and second projections read from them. -/
module

public import proofs.«01_k».proof.Proof.InprojHost
public import proofs.«01_k».proof.Proof.InprojChunk
public import Idealize.ShloMosaic.Lib.Pipeline.ValueKit

@[expose] public section

set_option maxRecDepth 16384

noncomputable section

namespace Cert.InprojVal

open Cert.InprojIdeal Cert.InprojIdeal.Gen Cert.Rows Cert.Inp Idealize.ShloMosaic Idealize.ShloMosaic.TcCoe Idealize.SL.Sem
open Idealize.ShloMosaic.Pipeline (Dat)

theorem idx : ∀ t : Fin cfg0.N, win0_0.index t = ![0, t.val, 0] ∧ win0_1.index t = ![0, 0] ∧ win0_2.index t = ![0, 0]
    ∧ win0_3.index t = ![0, t.val, 0] ∧ win0_4.index t = ![0, t.val, 0] ∧ win0_5.index t = ![0, 0] ∧ win0_6.index t = ![0, 0]
    ∧ win0_7.index t = ![0, 0] ∧ win0_8.index t = ![0, 0] ∧ win0_9.index t = ![0, 0]
    ∧ win0_10.index t = ![0, t.val, 0] ∧ win0_11.index t = ![0, t.val, 0] ∧ win0_12.index t = ![0, t.val, 0] ∧ win0_13.index t = ![0, t.val, 0]
    ∧ win0_14.index t = ![0, t.val, 0] ∧ win0_15.index t = ![0, t.val, 0, 0] ∧ win0_16.index t = ![0, t.val, 0] :=
  (by decide +kernel : ∀ t : Fin grid0.N, _)

theorem t_lt (t : Fin cfg0.N) : t.val < 32 := t.isLt

/-- The position of row `r` of grid point `t`. -/
abbrev pos (t : Fin cfg0.N) (r : Fin 512) : Fin 16384 := ⟨t.val * 512 + r.val, by have := t_lt t; omega⟩

variable (m : (ℓ : Loc nD τ sig) → Buf (Elt Ideal) ℓ)

set_option maxHeartbeats 4000000 in
theorem b0 (c : Dev nD) (t : Fin cfg0.N) (r : Fin 512) (i : Fin 1024) : (iblk m c 0 t : FVec Ideal S1x512x1024 .f32) (ix3 0 r i) = aX m c (pos t r) i := by
  have e : (iblk m c 0 t : FVec Ideal S1x512x1024 .f32) (ix3 0 r i) = V m c main_arg0 (ix3 0 (pos t r) i) := by
    blk_point [iblk, idx t]
  refine e.trans ?_
  unfold V
  after_reads_simp
  try pointwise

set_option maxHeartbeats 4000000 in
theorem b1 (c : Dev nD) (t : Fin cfg0.N) (i : Fin 1024) : (iblk m c 1 t : FVec Ideal S1x1024 .f32) (ix2 0 i) = aG m c i := by
  have e : (iblk m c 1 t : FVec Ideal S1x1024 .f32) (ix2 0 i) = V m c main_v161 (ix2 0 i) := by
    blk_point [iblk, idx t]
  refine e.trans ?_
  unfold V
  after_reads_simp
  try pointwise

set_option maxHeartbeats 4000000 in
theorem b2 (c : Dev nD) (t : Fin cfg0.N) (k : Fin 1024) (l : Fin 2048) : (iblk m c 2 t : FVec Ideal S1024x2048 .bf16) (ix2 k l) = (V m c main_v20 : FVec Ideal S1024x2048 .bf16) (ix2 k l) := by
  have e : (iblk m c 2 t : FVec Ideal S1024x2048 .bf16) (ix2 k l) = V m c main_v20 (ix2 k l) := by
    blk_point [iblk, idx t]
  refine e.trans ?_
  rfl

set_option maxHeartbeats 4000000 in
theorem b3_0 (c : Dev nD) (t : Fin cfg0.N) (r : Fin 512) (l : Fin 128) : (iblk m c 3 t : FVec Ideal S3x512x128 .f32) (ix3 0 r l) = ca (pos t r) l := by
  have e : (iblk m c 3 t : FVec Ideal S3x512x128 .f32) (ix3 0 r l) = V m c main_v97 (ix3 0 (pos t r) l) := by
    blk_point [iblk, idx t]
  refine e.trans ?_
  exact tab0_a m c (pos t r) l

set_option maxHeartbeats 4000000 in
theorem b3_1 (c : Dev nD) (t : Fin cfg0.N) (r : Fin 512) (l : Fin 128) : (iblk m c 3 t : FVec Ideal S3x512x128 .f32) (ix3 1 r l) = sa (pos t r) l := by
  have e : (iblk m c 3 t : FVec Ideal S3x512x128 .f32) (ix3 1 r l) = V m c main_v97 (ix3 1 (pos t r) l) := by
    blk_point [iblk, idx t]
  refine e.trans ?_
  exact tab1_a m c (pos t r) l

set_option maxHeartbeats 4000000 in
theorem b3_2 (c : Dev nD) (t : Fin cfg0.N) (r : Fin 512) (l : Fin 128) : (iblk m c 3 t : FVec Ideal S3x512x128 .f32) (ix3 2 r l) = ta (pos t r) l := by
  have e : (iblk m c 3 t : FVec Ideal S3x512x128 .f32) (ix3 2 r l) = V m c main_v97 (ix3 2 (pos t r) l) := by
    blk_point [iblk, idx t]
  refine e.trans ?_
  exact tab2_a m c (pos t r) l

set_option maxHeartbeats 4000000 in
theorem b4_0 (c : Dev nD) (t : Fin cfg0.N) (r : Fin 512) (l : Fin 128) : (iblk m c 4 t : FVec Ideal S3x512x128 .f32) (ix3 0 r l) = cb (pos t r) l := by
  have e : (iblk m c 4 t : FVec Ideal S3x512x128 .f32) (ix3 0 r l) = V m c main_v159 (ix3 0 (pos t r) l) := by
    blk_point [iblk, idx t]
  refine e.trans ?_
  exact tab0_b m c (pos t r) l

set_option maxHeartbeats 4000000 in
theorem b4_1 (c : Dev nD) (t : Fin cfg0.N) (r : Fin 512) (l : Fin 128) : (iblk m c 4 t : FVec Ideal S3x512x128 .f32) (ix3 1 r l) = sb (pos t r) l := by
  have e : (iblk m c 4 t : FVec Ideal S3x512x128 .f32) (ix3 1 r l) = V m c main_v159 (ix3 1 (pos t r) l) := by
    blk_point [iblk, idx t]
  refine e.trans ?_
  exact tab1_b m c (pos t r) l

set_option maxHeartbeats 4000000 in
theorem b4_2 (c : Dev nD) (t : Fin cfg0.N) (r : Fin 512) (l : Fin 128) : (iblk m c 4 t : FVec Ideal S3x512x128 .f32) (ix3 2 r l) = tb (pos t r) l := by
  have e : (iblk m c 4 t : FVec Ideal S3x512x128 .f32) (ix3 2 r l) = V m c main_v159 (ix3 2 (pos t r) l) := by
    blk_point [iblk, idx t]
  refine e.trans ?_
  exact tab2_b m c (pos t r) l

set_option maxHeartbeats 4000000 in
theorem b5 (c : Dev nD) (t : Fin cfg0.N) (i : Fin 384) : (iblk m c 5 t : FVec Ideal S1x384 .f32) (ix2 0 i) = aGQ m c i := by
  have e : (iblk m c 5 t : FVec Ideal S1x384 .f32) (ix2 0 i) = V m c main_v163 (ix2 0 i) := by
    blk_point [iblk, idx t]
  refine e.trans ?_
  unfold V
  after_reads_simp
  try pointwise

set_option maxHeartbeats 4000000 in
theorem b6 (c : Dev nD) (t : Fin cfg0.N) (k : Fin 384) (l : Fin 1024) : (iblk m c 6 t : FVec Ideal S384x1024 .bf16) (ix2 k l) = (V m c main_v25 : FVec Ideal S384x1024 .bf16) (ix2 k l) := by
  have e : (iblk m c 6 t : FVec Ideal S384x1024 .bf16) (ix2 k l) = V m c main_v25 (ix2 k l) := by
    blk_point [iblk, idx t]
  refine e.trans ?_
  rfl

set_option maxHeartbeats 4000000 in
theorem b7 (c : Dev nD) (t : Fin cfg0.N) (i : Fin 256) : (iblk m c 7 t : FVec Ideal S1x256 .f32) (ix2 0 i) = aGK m c i := by
  have e : (iblk m c 7 t : FVec Ideal S1x256 .f32) (ix2 0 i) = V m c main_v165 (ix2 0 i) := by
    blk_point [iblk, idx t]
  refine e.trans ?_
  unfold V
  after_reads_simp
  try pointwise

set_option maxHeartbeats 4000000 in
theorem b8 (c : Dev nD) (t : Fin cfg0.N) (k : Fin 256) (l : Fin 1024) : (iblk m c 8 t : FVec Ideal S256x1024 .bf16) (ix2 k l) = (V m c main_v31 : FVec Ideal S256x1024 .bf16) (ix2 k l) := by
  have e : (iblk m c 8 t : FVec Ideal S256x1024 .bf16) (ix2 k l) = V m c main_v31 (ix2 k l) := by
    blk_point [iblk, idx t]
  refine e.trans ?_
  rfl

set_option maxHeartbeats 4000000 in
theorem b9 (c : Dev nD) (t : Fin cfg0.N) (r : Fin 512) (k : Fin 256) : (iblk m c 9 t : FVec Ideal S512x256 .bf16) (ix2 r k) = aWK m c k ⟨r.val / 64 * 128 + (64 + r.val % 64), by omega⟩ := by
  have e : (iblk m c 9 t : FVec Ideal S512x256 .bf16) (ix2 r k) = V m c main_v35 (ix2 r k) := by
    blk_point [iblk, idx t]
  refine e.trans ?_
  exact wvt_at m c r k

/-- The joined projection's entry: the plain one, at the column that the joined weights hold there. -/
theorem zb_eq (c : Dev nD) (t : Fin cfg0.N) (r : Fin 512) (l : Fin 2048) : zb (iblk m c 0 t) (iblk m c 1 t) (iblk m c 2 t) r l
    = if h : l.val < 1408 then z (aX m c) (aG m c) (aW m c) (pos t r) ⟨l.val, by omega⟩
      else if h' : l.val < 1920 then z (aX m c) (aG m c) (aW m c) (pos t r) ⟨l.val + 32, by omega⟩
      else if h'' : 1984 ≤ l.val ∧ l.val < 2016 then z (aX m c) (aG m c) (aW m c) (pos t r) ⟨l.val - 576, by omega⟩ else 0 := by
  have hx : (fun i => (iblk m c 0 t : FVec Ideal S1x512x1024 .f32) (ix3 0 r i)) = aX m c (pos t r) := funext fun i => b0 m c t r i
  have hg : (fun i => (iblk m c 1 t : FVec Ideal S1x1024 .f32) (ix2 0 i)) = aG m c := funext fun i => b1 m c t i
  have hw : ∀ k, (iblk m c 2 t : FVec Ideal S1024x2048 .bf16) (ix2 k l) = _ := fun k => (b2 m c t k l).trans (w1_at m c k l)
  unfold zb z
  rw [hx, hg]
  refine (Finset.sum_congr rfl fun k _ => congrArg (fun a : EReal => normRow (aX m c (pos t r)) (aG m c) k * a) (hw k)).trans ?_
  by_cases h : l.val < 1408
  · simp only [h, ↓reduceDIte]
  · by_cases h' : l.val < 1920
    · simp only [h, h', ↓reduceDIte]
    · by_cases h'' : 1984 ≤ l.val ∧ l.val < 2016
      · simp only [h, h', h'', and_self, ↓reduceDIte]
      · simp only [h, h', h'', ↓reduceDIte, mul_zero, Finset.sum_const_zero]

theorem qb_eq (c : Dev nD) (t : Fin cfg0.N) (r : Fin 512) (l : Fin 1024) : qb (iblk m c 0 t) (iblk m c 1 t) (iblk m c 2 t) (iblk m c 5 t) (iblk m c 6 t) r l
    = if h : l.val % 128 < 96 then q (aX m c) (aG m c) (aW m c) (aGQ m c) (aWQ m c) (pos t r) ⟨l.val / 128 * 96 + l.val % 128, by omega⟩ else 0 := by
  have hz : (fun i : Fin 384 => zb (iblk m c 0 t) (iblk m c 1 t) (iblk m c 2 t) r ⟨768 + i.val, by omega⟩)
      = fun i : Fin 384 => z (aX m c) (aG m c) (aW m c) (pos t r) ⟨768 + i.val, by omega⟩ :=
    funext fun i => (zb_eq m c t r ⟨768 + i.val, by omega⟩).trans (dif_pos (show 768 + i.val < 1408 by omega))
  have hg : (fun i => (iblk m c 5 t : FVec Ideal S1x384 .f32) (ix2 0 i)) = aGQ m c := funext fun i => b5 m c t i
  have hw : ∀ k, (iblk m c 6 t : FVec Ideal S384x1024 .bf16) (ix2 k l) = _ := fun k => (b6 m c t k l).trans (wuq_at m c k l)
  unfold qb q
  rw [hz, hg]
  refine (Finset.sum_congr rfl fun k _ => congrArg (fun a : EReal => rms _ _ _ k * a) (hw k)).trans ?_
  by_cases h : l.val % 128 < 96
  · simp only [h, ↓reduceDIte]
  · simp only [h, ↓reduceDIte, mul_zero, Finset.sum_const_zero]

theorem nb_eq (c : Dev nD) (t : Fin cfg0.N) (r : Fin 512) (k : Fin 256) : nb (iblk m c 0 t) (iblk m c 1 t) (iblk m c 2 t) (iblk m c 7 t) r k
    = rms 0x43800000#32 (fun i : Fin 256 => z (aX m c) (aG m c) (aW m c) (pos t r) ⟨1152 + i.val, by omega⟩) (aGK m c) k := by
  have hz : (fun i : Fin 256 => zb (iblk m c 0 t) (iblk m c 1 t) (iblk m c 2 t) r ⟨1152 + i.val, by omega⟩)
      = fun i : Fin 256 => z (aX m c) (aG m c) (aW m c) (pos t r) ⟨1152 + i.val, by omega⟩ :=
    funext fun i => (zb_eq m c t r ⟨1152 + i.val, by omega⟩).trans (dif_pos (show 1152 + i.val < 1408 by omega))
  have hg : (fun i => (iblk m c 7 t : FVec Ideal S1x256 .f32) (ix2 0 i)) = aGK m c := funext fun i => b7 m c t i
  unfold nb
  rw [hz, hg]

theorem kb_eq (c : Dev nD) (t : Fin cfg0.N) (r : Fin 512) (l : Fin 1024) : kb (iblk m c 0 t) (iblk m c 1 t) (iblk m c 2 t) (iblk m c 7 t) (iblk m c 8 t) r l
    = if h : l.val % 128 < 64 then kv (aX m c) (aG m c) (aW m c) (aGK m c) (aWK m c) (pos t r) l else 0 := by
  have hw : ∀ k, (iblk m c 8 t : FVec Ideal S256x1024 .bf16) (ix2 k l) = _ := fun k => (b8 m c t k l).trans (wk_at m c k l)
  unfold kb kv
  refine (Finset.sum_congr rfl fun k _ => congrArg₂ (fun a b : EReal => a * b) (nb_eq m c t r k) (hw k)).trans ?_
  by_cases h : l.val % 128 < 64
  · simp only [h, ↓reduceDIte]
  · simp only [h, ↓reduceDIte, mul_zero, Finset.sum_const_zero]

end Cert.InprojVal

end
-- ==== Proof.InprojValue.lean ====
/- The seven results of the input projections, as the plain values of the arguments. -/
module

public import proofs.«01_k».proof.Proof.InprojRot
public import proofs.«01_k».proof.Proof.InprojBlocks

@[expose] public section

set_option maxRecDepth 16384

noncomputable section

namespace Cert.InprojVal

open Cert.InprojIdeal Cert.InprojIdeal.Gen Cert.Rows Cert.Inp Idealize.ShloMosaic Idealize.ShloMosaic.TcCoe Idealize.SL.Sem
open Idealize.ShloMosaic.Pipeline (Dat)

variable (m : (ℓ : Loc nD τ sig) → Buf (Elt Ideal) ℓ)

theorem rot32_at (c : Dev nD) (t : Fin cfg0.N) (r : Fin 512) (v : Fin 128 → EReal) (l : Fin 128) :
    rotA v (fun e => (iblk m c 3 t : FVec Ideal S3x512x128 .f32) (ix3 0 r e)) (fun e => (iblk m c 3 t : FVec Ideal S3x512x128 .f32) (ix3 1 r e)) (fun e => (iblk m c 3 t : FVec Ideal S3x512x128 .f32) (ix3 2 r e)) l
      = rope32 (pos t r) (fun d => v ⟨l.val / 64 * 64 + d.val, by omega⟩) ⟨l.val % 64, by omega⟩ := by
  rw [funext (fun e => b3_0 m c t r e), funext (fun e => b3_1 m c t r e), funext (fun e => b3_2 m c t r e)]
  exact rotA_eq (pos t r) v l

theorem rot16_at (c : Dev nD) (t : Fin cfg0.N) (r : Fin 512) (v : Fin 128 → EReal) (l : Fin 128) :
    rotB v (fun e => (iblk m c 4 t : FVec Ideal S3x512x128 .f32) (ix3 0 r e)) (fun e => (iblk m c 4 t : FVec Ideal S3x512x128 .f32) (ix3 1 r e)) (fun e => (iblk m c 4 t : FVec Ideal S3x512x128 .f32) (ix3 2 r e)) l
      = if h : 64 ≤ l.val ∧ l.val < 96 then rope16 (pos t r) (fun d => v ⟨64 + d.val, by omega⟩) ⟨l.val - 64, by omega⟩ else v l := by
  rw [funext (fun e => b4_0 m c t r e), funext (fun e => b4_1 m c t r e), funext (fun e => b4_2 m c t r e)]
  exact rotB_eq (pos t r) v l

theorem v10 (c : Dev nD) (t : Fin cfg0.N) (y : S1x512x512.Idx) :
    (out0_10 (F := Ideal) (iblk m c 0 t) (iblk m c 1 t) (iblk m c 2 t) (iblk m c 3 t) (iblk m c 4 t) (iblk m c 5 t) (iblk m c 6 t) (iblk m c 7 t) (iblk m c 8 t) (iblk m c 9 t) : FVec Ideal S1x512x512 .bf16) y = qa (aX m c) (aG m c) (aW m c) (pos t (y 1)) (y 2) := by
  have hy : (y 2).val < 512 := (y 2).isLt
  refine (out10_at (iblk m c 0 t) (iblk m c 1 t) (iblk m c 2 t) (iblk m c 3 t) (iblk m c 4 t) (iblk m c 5 t) (iblk m c 6 t) (iblk m c 7 t) (iblk m c 8 t) (iblk m c 9 t) y).trans ?_
  refine congrArg (fun a : EReal => a * Ideal.ofBits .f32 0x3E000000#32) ((rot32_at m c t (y 1) _ _).trans ?_)
  refine congrArg₂ (rope32 (pos t (y 1))) (funext fun d => ?_) (Fin.ext (by (try dsimp only) <;> omega))
  refine (zb_eq m c t (y 1) _).trans ((dif_pos (by (try dsimp only) <;> omega)).trans ?_)
  exact fn_idx _ _ _ _ _ (by (try dsimp only) <;> omega)

theorem v11 (c : Dev nD) (t : Fin cfg0.N) (r : Fin 512) (l : Fin 128) :
    (out0_11 (F := Ideal) (iblk m c 0 t) (iblk m c 1 t) (iblk m c 2 t) (iblk m c 3 t) (iblk m c 4 t) (iblk m c 5 t) (iblk m c 6 t) (iblk m c 7 t) (iblk m c 8 t) (iblk m c 9 t) : FVec Ideal S1x512x128 .bf16) (ix3 0 r l) = ka (aX m c) (aG m c) (aW m c) (pos t r) l := by
  refine (out11_at (iblk m c 0 t) (iblk m c 1 t) (iblk m c 2 t) (iblk m c 3 t) (iblk m c 4 t) (iblk m c 5 t) (iblk m c 6 t) (iblk m c 7 t) (iblk m c 8 t) (iblk m c 9 t) r l).trans ((rot32_at m c t r _ _).trans ?_)
  refine congrArg₂ (rope32 (pos t r)) (funext fun d => ?_) rfl
  exact (zb_eq m c t r _).trans (dif_pos (by (try dsimp only) <;> omega))

theorem v12 (c : Dev nD) (t : Fin cfg0.N) (r : Fin 512) (l : Fin 128) :
    (out0_12 (F := Ideal) (iblk m c 0 t) (iblk m c 1 t) (iblk m c 2 t) (iblk m c 3 t) (iblk m c 4 t) (iblk m c 5 t) (iblk m c 6 t) (iblk m c 7 t) (iblk m c 8 t) (iblk m c 9 t) : FVec Ideal S1x512x128 .bf16) (ix3 0 r l) = va (aX m c) (aG m c) (aW m c) (pos t r) l :=
  (out12_at (iblk m c 0 t) (iblk m c 1 t) (iblk m c 2 t) (iblk m c 3 t) (iblk m c 4 t) (iblk m c 5 t) (iblk m c 6 t) (iblk m c 7 t) (iblk m c 8 t) (iblk m c 9 t) r l).trans ((zb_eq m c t r _).trans (dif_pos (by (try dsimp only) <;> omega)))

theorem v16 (c : Dev nD) (t : Fin cfg0.N) (r : Fin 512) (l : Fin 512) :
    (out0_16 (F := Ideal) (iblk m c 0 t) (iblk m c 1 t) (iblk m c 2 t) (iblk m c 3 t) (iblk m c 4 t) (iblk m c 5 t) (iblk m c 6 t) (iblk m c 7 t) (iblk m c 8 t) (iblk m c 9 t) : FVec Ideal S1x512x512 .bf16) (ix3 0 r l) = qc (aX m c) (aG m c) (aW m c) (pos t r) l := by
  refine (out16_at (iblk m c 0 t) (iblk m c 1 t) (iblk m c 2 t) (iblk m c 3 t) (iblk m c 4 t) (iblk m c 5 t) (iblk m c 6 t) (iblk m c 7 t) (iblk m c 8 t) (iblk m c 9 t) r l).trans ((zb_eq m c t r _).trans ((dif_neg (by (try dsimp only) <;> omega)).trans ((dif_pos (by (try dsimp only) <;> omega)).trans ?_)))
  exact fn_idx _ _ _ _ _ (by (try dsimp only) <;> omega)

theorem v13 (c : Dev nD) (t : Fin cfg0.N) (y : S1x512x1024.Idx) :
    (out0_13 (F := Ideal) (iblk m c 0 t) (iblk m c 1 t) (iblk m c 2 t) (iblk m c 3 t) (iblk m c 4 t) (iblk m c 5 t) (iblk m c 6 t) (iblk m c 7 t) (iblk m c 8 t) (iblk m c 9 t) : FVec Ideal S1x512x1024 .bf16) y = qcat (aX m c) (aG m c) (aW m c) (aGQ m c) (aWQ m c) (pos t (y 1)) (y 2) := by
  have hy : (y 2).val < 1024 := (y 2).isLt
  refine (out13_at (iblk m c 0 t) (iblk m c 1 t) (iblk m c 2 t) (iblk m c 3 t) (iblk m c 4 t) (iblk m c 5 t) (iblk m c 6 t) (iblk m c 7 t) (iblk m c 8 t) (iblk m c 9 t) y).trans ?_
  refine congrArg (fun a : EReal => a * Ideal.ofBits .f32 0x3DD105EC#32) ((rot16_at m c t (y 1) _ _).trans ?_)
  by_cases h : (y 2).val % 128 < 64
  · refine (dif_neg (show ¬ (64 ≤ (y 2).val % 128 ∧ (y 2).val % 128 < 96) by omega)).trans ?_
    refine (qb_eq m c t (y 1) _).trans ((dif_pos (by (try dsimp only) <;> omega)).trans (Eq.trans ?_ (dif_pos h).symm))
    exact fn_idx _ _ _ _ _ (by (try dsimp only) <;> omega)
  · refine Eq.trans ?_ (dif_neg h).symm
    by_cases h' : (y 2).val % 128 < 96
    · refine (dif_pos (show 64 ≤ (y 2).val % 128 ∧ (y 2).val % 128 < 96 by omega)).trans (Eq.trans ?_ (dif_pos h').symm)
      refine congrArg₂ (rope16 (pos t (y 1))) (funext fun d => ?_) rfl
      refine (qb_eq m c t (y 1) _).trans ((dif_pos (by (try dsimp only) <;> omega)).trans ?_)
      exact fn_idx _ _ _ _ _ (by (try dsimp only) <;> omega)
    · refine (dif_neg (show ¬ (64 ≤ (y 2).val % 128 ∧ (y 2).val % 128 < 96) by omega)).trans (Eq.trans ?_ (dif_neg h').symm)
      exact (qb_eq m c t (y 1) _).trans (dif_neg (by (try dsimp only) <;> omega))

theorem v14 (c : Dev nD) (t : Fin cfg0.N) (y : S1x512x1024.Idx) :
    (out0_14 (F := Ideal) (iblk m c 0 t) (iblk m c 1 t) (iblk m c 2 t) (iblk m c 3 t) (iblk m c 4 t) (iblk m c 5 t) (iblk m c 6 t) (iblk m c 7 t) (iblk m c 8 t) (iblk m c 9 t) : FVec Ideal S1x512x1024 .bf16) y = kcat (aX m c) (aG m c) (aW m c) (aGK m c) (aWK m c) (pos t (y 1)) (y 2) := by
  have hy : (y 2).val < 1024 := (y 2).isLt
  refine (out14_at (iblk m c 0 t) (iblk m c 1 t) (iblk m c 2 t) (iblk m c 3 t) (iblk m c 4 t) (iblk m c 5 t) (iblk m c 6 t) (iblk m c 7 t) (iblk m c 8 t) (iblk m c 9 t) y).trans ?_
  refine (congrArg₂ (fun a b : EReal => a + b) (kb_eq m c t (y 1) _) (rot16_at m c t (y 1) _ _)).trans ?_
  by_cases h : (y 2).val % 128 < 64
  · refine Eq.trans ?_ (dif_pos h).symm
    refine (congrArg₂ (fun a b : EReal => a + b) (dif_pos h) ((dif_neg (show ¬ (64 ≤ (y 2).val % 128 ∧ (y 2).val % 128 < 96) by omega)).trans ((zb_eq m c t (y 1) _).trans ((dif_neg (by (try dsimp only) <;> omega)).trans ((dif_neg (by (try dsimp only) <;> omega)).trans (dif_neg (by (try dsimp only) <;> omega))))))).trans ?_
    exact add_zero _
  · refine Eq.trans ?_ (dif_neg h).symm
    refine (congrArg (fun a : EReal => a + _) (dif_neg h)).trans ((zero_add _).trans ?_)
    by_cases h' : (y 2).val % 128 < 96
    · refine (dif_pos (show 64 ≤ (y 2).val % 128 ∧ (y 2).val % 128 < 96 by omega)).trans (Eq.trans ?_ (dif_pos h').symm)
      refine congrArg₂ (rope16 (pos t (y 1))) (funext fun d => ?_) rfl
      refine (zb_eq m c t (y 1) _).trans ((dif_neg (by (try dsimp only) <;> omega)).trans ((dif_neg (by (try dsimp only) <;> omega)).trans ((dif_pos (by (try dsimp only) <;> omega)).trans ?_)))
      exact fn_idx _ _ _ _ _ (by (try dsimp only) <;> omega)
    · refine (dif_neg (show ¬ (64 ≤ (y 2).val % 128 ∧ (y 2).val % 128 < 96) by omega)).trans (Eq.trans ?_ (dif_neg h').symm)
      exact (zb_eq m c t (y 1) _).trans ((dif_neg (by (try dsimp only) <;> omega)).trans ((dif_neg (by (try dsimp only) <;> omega)).trans (dif_neg (by (try dsimp only) <;> omega))))

theorem v15 (c : Dev nD) (t : Fin cfg0.N) (y : S1x2x512x256.Idx) :
    (out0_15 (F := Ideal) (iblk m c 0 t) (iblk m c 1 t) (iblk m c 2 t) (iblk m c 3 t) (iblk m c 4 t) (iblk m c 5 t) (iblk m c 6 t) (iblk m c 7 t) (iblk m c 8 t) (iblk m c 9 t) : FVec Ideal S1x2x512x256 .bf16) y
      = vt (aX m c) (aG m c) (aW m c) (aGK m c) (aWK m c) ⟨2 * t.val + (y 1).val, by have := t_lt t; have h : (y 1).val < 2 := (y 1).isLt; omega⟩ (y 2) (y 3) := by
  have h1 : (y 1).val < 2 := (y 1).isLt
  have h3 : (y 3).val < 256 := (y 3).isLt
  have ht := t_lt t
  refine (out15_at (iblk m c 0 t) (iblk m c 1 t) (iblk m c 2 t) (iblk m c 3 t) (iblk m c 4 t) (iblk m c 5 t) (iblk m c 6 t) (iblk m c 7 t) (iblk m c 8 t) (iblk m c 9 t) y).trans ?_
  unfold vt kv
  refine Finset.sum_congr rfl fun k _ => ?_
  refine (congrArg₂ (fun a b : EReal => a * b) (b9 m c t (y 2) k) (nb_eq m c t _ k)).trans ((mul_comm _ _).trans ?_)
  have e : pos t ⟨(y 1).val * 256 + (y 3).val, by omega⟩ = ⟨(2 * t.val + (y 1).val) * 256 + (y 3).val, by omega⟩ := Fin.ext (by (try dsimp only) <;> omega)
  rw [e]

attribute [local irreducible] z kv va qc vt

theorem point10 (c : Dev nD) (t : Fin cfg0.N) (y : S1x512x512.Idx) :
    (out0_10 (F := Ideal) (iblk m c 0 t) (iblk m c 1 t) (iblk m c 2 t) (iblk m c 3 t) (iblk m c 4 t) (iblk m c 5 t) (iblk m c 6 t) (iblk m c 7 t) (iblk m c 8 t) (iblk m c 9 t) : FVec Ideal S1x512x512 .bf16) y
      = (fun u : S1x16384x512.Idx => qa (aX m c) (aG m c) (aW m c) (u 1) (u 2)) (((cfg0.win 10).blk t).view.emb y) := by
  have he : ((cfg0.win 10).blk t).view.emb y = ix3 0 ⟨t.val * 512 + (y 1).val, by idx_bounds; have := t_lt t; omega⟩ (y 2) := by blk_ext [idx t]
  exact (v10 m c t y).trans (congrArg (fun u : S1x16384x512.Idx => qa (aX m c) (aG m c) (aW m c) (u 1) (u 2)) he.symm)

theorem final10 (c : Dev nD) : ((dats m 0 c).arrAt 10 (cfgs 0).N : FVec Ideal S1x16384x512 .bf16) = fun u => qa (aX m c) (aG m c) (aW m c) (u 1) (u 2) := by
  refine (dats m 0 c).arrAt_eq_of_covers 10 _ (by decide +kernel) fun t _ y => ?_
  blk_simp
  rw [after0_10]
  exact point10 m c t y

theorem point11 (c : Dev nD) (t : Fin cfg0.N) (y : S1x512x128.Idx) :
    (out0_11 (F := Ideal) (iblk m c 0 t) (iblk m c 1 t) (iblk m c 2 t) (iblk m c 3 t) (iblk m c 4 t) (iblk m c 5 t) (iblk m c 6 t) (iblk m c 7 t) (iblk m c 8 t) (iblk m c 9 t) : FVec Ideal S1x512x128 .bf16) y
      = (fun u : S1x16384x128.Idx => ka (aX m c) (aG m c) (aW m c) (u 1) (u 2)) (((cfg0.win 11).blk t).view.emb y) := by
  have he : ((cfg0.win 11).blk t).view.emb y = ix3 0 ⟨t.val * 512 + (y 1).val, by idx_bounds; have := t_lt t; omega⟩ (y 2) := by blk_ext [idx t]
  have hy : y = ix3 0 (y 1) (y 2) := by blk_ext [idx t]
  exact (congrArg _ hy).trans ((v11 m c t (y 1) (y 2)).trans (congrArg (fun u : S1x16384x128.Idx => ka (aX m c) (aG m c) (aW m c) (u 1) (u 2)) he.symm))

theorem final11 (c : Dev nD) : ((dats m 0 c).arrAt 11 (cfgs 0).N : FVec Ideal S1x16384x128 .bf16) = fun u => ka (aX m c) (aG m c) (aW m c) (u 1) (u 2) := by
  refine (dats m 0 c).arrAt_eq_of_covers 11 _ (by decide +kernel) fun t _ y => ?_
  blk_simp
  rw [after0_11]
  exact point11 m c t y

theorem point12 (c : Dev nD) (t : Fin cfg0.N) (y : S1x512x128.Idx) :
    (out0_12 (F := Ideal) (iblk m c 0 t) (iblk m c 1 t) (iblk m c 2 t) (iblk m c 3 t) (iblk m c 4 t) (iblk m c 5 t) (iblk m c 6 t) (iblk m c 7 t) (iblk m c 8 t) (iblk m c 9 t) : FVec Ideal S1x512x128 .bf16) y
      = (fun u : S1x16384x128.Idx => va (aX m c) (aG m c) (aW m c) (u 1) (u 2)) (((cfg0.win 12).blk t).view.emb y) := by
  have he : ((cfg0.win 12).blk t).view.emb y = ix3 0 ⟨t.val * 512 + (y 1).val, by idx_bounds; have := t_lt t; omega⟩ (y 2) := by blk_ext [idx t]
  have hy : y = ix3 0 (y 1) (y 2) := by blk_ext [idx t]
  exact (congrArg _ hy).trans ((v12 m c t (y 1) (y 2)).trans (congrArg (fun u : S1x16384x128.Idx => va (aX m c) (aG m c) (aW m c) (u 1) (u 2)) he.symm))

theorem final12 (c : Dev nD) : ((dats m 0 c).arrAt 12 (cfgs 0).N : FVec Ideal S1x16384x128 .bf16) = fun u => va (aX m c) (aG m c) (aW m c) (u 1) (u 2) := by
  refine (dats m 0 c).arrAt_eq_of_covers 12 _ (by decide +kernel) fun t _ y => ?_
  blk_simp
  rw [after0_12]
  exact point12 m c t y

theorem point13 (c : Dev nD) (t : Fin cfg0.N) (y : S1x512x1024.Idx) :
    (out0_13 (F := Ideal) (iblk m c 0 t) (iblk m c 1 t) (iblk m c 2 t) (iblk m c 3 t) (iblk m c 4 t) (iblk m c 5 t) (iblk m c 6 t) (iblk m c 7 t) (iblk m c 8 t) (iblk m c 9 t) : FVec Ideal S1x512x1024 .bf16) y
      = (fun u : S1x16384x1024.Idx => qcat (aX m c) (aG m c) (aW m c) (aGQ m c) (aWQ m c) (u 1) (u 2)) (((cfg0.win 13).blk t).view.emb y) := by
  have he : ((cfg0.win 13).blk t).view.emb y = ix3 0 ⟨t.val * 512 + (y 1).val, by idx_bounds; have := t_lt t; omega⟩ (y 2) := by blk_ext [idx t]
  exact (v13 m c t y).trans (congrArg (fun u : S1x16384x1024.Idx => qcat (aX m c) (aG m c) (aW m c) (aGQ m c) (aWQ m c) (u 1) (u 2)) he.symm)

theorem final13 (c : Dev nD) : ((dats m 0 c).arrAt 13 (cfgs 0).N : FVec Ideal S1x16384x1024 .bf16) = fun u => qcat (aX m c) (aG m c) (aW m c) (aGQ m c) (aWQ m c) (u 1) (u 2) := by
  refine (dats m 0 c).arrAt_eq_of_covers 13 _ (by decide +kernel) fun t _ y => ?_
  blk_simp
  rw [after0_13]
  exact point13 m c t y

theorem point14 (c : Dev nD) (t : Fin cfg0.N) (y : S1x512x1024.Idx) :
    (out0_14 (F := Ideal) (iblk m c 0 t) (iblk m c 1 t) (iblk m c 2 t) (iblk m c 3 t) (iblk m c 4 t) (iblk m c 5 t) (iblk m c 6 t) (iblk m c 7 t) (iblk m c 8 t) (iblk m c 9 t) : FVec Ideal S1x512x1024 .bf16) y
      = (fun u : S1x16384x1024.Idx => kcat (aX m c) (aG m c) (aW m c) (aGK m c) (aWK m c) (u 1) (u 2)) (((cfg0.win 14).blk t).view.emb y) := by
  have he : ((cfg0.win 14).blk t).view.emb y = ix3 0 ⟨t.val * 512 + (y 1).val, by idx_bounds; have := t_lt t; omega⟩ (y 2) := by blk_ext [idx t]
  exact (v14 m c t y).trans (congrArg (fun u : S1x16384x1024.Idx => kcat (aX m c) (aG m c) (aW m c) (aGK m c) (aWK m c) (u 1) (u 2)) he.symm)

theorem final14 (c : Dev nD) : ((dats m 0 c).arrAt 14 (cfgs 0).N : FVec Ideal S1x16384x1024 .bf16) = fun u => kcat (aX m c) (aG m c) (aW m c) (aGK m c) (aWK m c) (u 1) (u 2) := by
  refine (dats m 0 c).arrAt_eq_of_covers 14 _ (by decide +kernel) fun t _ y => ?_
  blk_simp
  rw [after0_14]
  exact point14 m c t y

theorem point16 (c : Dev nD) (t : Fin cfg0.N) (y : S1x512x512.Idx) :
    (out0_16 (F := Ideal) (iblk m c 0 t) (iblk m c 1 t) (iblk m c 2 t) (iblk m c 3 t) (iblk m c 4 t) (iblk m c 5 t) (iblk m c 6 t) (iblk m c 7 t) (iblk m c 8 t) (iblk m c 9 t) : FVec Ideal S1x512x512 .bf16) y
      = (fun u : S1x16384x512.Idx => qc (aX m c) (aG m c) (aW m c) (u 1) (u 2)) (((cfg0.win 16).blk t).view.emb y) := by
  have he : ((cfg0.win 16).blk t).view.emb y = ix3 0 ⟨t.val * 512 + (y 1).val, by idx_bounds; have := t_lt t; omega⟩ (y 2) := by blk_ext [idx t]
  have hy : y = ix3 0 (y 1) (y 2) := by blk_ext [idx t]
  exact (congrArg _ hy).trans ((v16 m c t (y 1) (y 2)).trans (congrArg (fun u : S1x16384x512.Idx => qc (aX m c) (aG m c) (aW m c) (u 1) (u 2)) he.symm))

theorem final16 (c : Dev nD) : ((dats m 0 c).arrAt 16 (cfgs 0).N : FVec Ideal S1x16384x512 .bf16) = fun u => qc (aX m c) (aG m c) (aW m c) (u 1) (u 2) := by
  refine (dats m 0 c).arrAt_eq_of_covers 16 _ (by decide +kernel) fun t _ y => ?_
  blk_simp
  rw [after0_16]
  exact point16 m c t y

theorem point15 (c : Dev nD) (t : Fin cfg0.N) (y : S1x2x512x256.Idx) :
    (out0_15 (F := Ideal) (iblk m c 0 t) (iblk m c 1 t) (iblk m c 2 t) (iblk m c 3 t) (iblk m c 4 t) (iblk m c 5 t) (iblk m c 6 t) (iblk m c 7 t) (iblk m c 8 t) (iblk m c 9 t) : FVec Ideal S1x2x512x256 .bf16) y
      = (fun u : S1x64x512x256.Idx => vt (aX m c) (aG m c) (aW m c) (aGK m c) (aWK m c) (u 1) (u 2) (u 3)) (((cfg0.win 15).blk t).view.emb y) := by
  have he : ((cfg0.win 15).blk t).view.emb y = ix4 0 ⟨2 * t.val + (y 1).val, by have := t_lt t; have h : (y 1).val < 2 := (y 1).isLt; omega⟩ (y 2) (y 3) := by
    blk_ext [idx t]
  exact (v15 m c t y).trans (congrArg (fun u : S1x64x512x256.Idx => vt (aX m c) (aG m c) (aW m c) (aGK m c) (aWK m c) (u 1) (u 2) (u 3)) he.symm)

theorem final15 (c : Dev nD) : ((dats m 0 c).arrAt 15 (cfgs 0).N : FVec Ideal S1x64x512x256 .bf16) = fun u => vt (aX m c) (aG m c) (aW m c) (aGK m c) (aWK m c) (u 1) (u 2) (u 3) := by
  refine (dats m 0 c).arrAt_eq_of_covers 15 _ (by decide +kernel) fun t _ y => ?_
  blk_simp
  rw [after0_15]
  exact point15 m c t y

end Cert.InprojVal

end
-- ==== Proof.InprojRef.lean ====
/- The reference of the input projections, read at one index of each result. -/
module

public import proofs.«01_k».proof.Proof.Gen.InprojRefIdeal.Run
public import proofs.«01_k».proof.Proof.InprojSpec
public import Idealize.ShloMosaic.Lib.Pipeline.ValueKit

@[expose] public section

set_option maxRecDepth 16384

noncomputable section

namespace Cert.InprojRefVal

open Cert.InprojRefIdeal Cert.InprojRefIdeal.Gen Cert.InprojRefIdeal.Value Cert.Rows Idealize.ShloMosaic Idealize.ShloMosaic.TcCoe Idealize.SL.Sem

variable (V0 : Valuation τ sig (Elt Ideal))

/-- The arguments as functions of their indices. -/
abbrev X (s : Fin 16384) (k : Fin 1024) : EReal := (V0 (Proc.devRef .tc main_arg0) : FVec Ideal S1x16384x1024 .f32) (ix3 0 s k)
abbrev G (k : Fin 1024) : EReal := (V0 (Proc.devRef .tc main_arg1) : FVec Ideal S1x1024 .f32) (ix2 0 k)
abbrev W (k : Fin 1024) (c : Fin 5024) : EReal := (V0 (Proc.devRef .tc main_arg2) : FVec Ideal S1x1024x5024 .f32) (ix3 0 k c)
abbrev GQ (k : Fin 384) : EReal := (V0 (Proc.devRef .tc main_arg3) : FVec Ideal S1x384 .f32) (ix2 0 k)
abbrev WQ (k : Fin 384) (c : Fin 768) : EReal := (V0 (Proc.devRef .tc main_arg4) : FVec Ideal S1x384x768 .f32) (ix3 0 k c)
abbrev GK (k : Fin 256) : EReal := (V0 (Proc.devRef .tc main_arg5) : FVec Ideal S1x256 .f32) (ix2 0 k)
abbrev WK (k : Fin 256) (c : Fin 1024) : EReal := (V0 (Proc.devRef .tc main_arg6) : FVec Ideal S1x256x1024 .f32) (ix3 0 k c)

theorem z_at (s : Fin 16384) (c : Fin 5024) : (res_main_v15 V0 : FVec Ideal S1x16384x5024 .f32) (ix3 0 s c) = Inp.z (X V0) (G V0) (W V0) s c := by
  pointwise [res_main_v15, Inp.z, normRow, meanSq]

theorem v20_at (s : Fin 16384) (i : Fin 256) : (res_main_v20 V0 : FVec Ideal S1x16384x256 .f32) (ix3 0 s i) = Inp.z (X V0) (G V0) (W V0) s ⟨1152 + i.val, by omega⟩ := by
  pointwise [res_main_v20, z_at V0]

theorem v19_at (s : Fin 16384) (i : Fin 384) : (res_main_v19 V0 : FVec Ideal S1x16384x384 .f32) (ix3 0 s i) = Inp.z (X V0) (G V0) (W V0) s ⟨768 + i.val, by omega⟩ := by
  pointwise [res_main_v19, z_at V0]

theorem kv_at (s : Fin 16384) (h : Fin 8) (e : Fin 128) : (res_main_v136 V0 : FVec Ideal S1x16384x8x128 .f32) (ix4 0 s h e)
    = Inp.kv (X V0) (G V0) (W V0) (GK V0) (WK V0) s ⟨h.val * 128 + e.val, by omega⟩ := by
  pointwise [res_main_v136, v20_at V0, Inp.kv, Inp.rms]

theorem q_at (s : Fin 16384) (h : Fin 8) (e : Fin 96) : (res_main_v119 V0 : FVec Ideal S1x16384x8x96 .f32) (ix4 0 s h e)
    = Inp.q (X V0) (G V0) (W V0) (GQ V0) (WQ V0) s ⟨h.val * 96 + e.val, by omega⟩ := by
  pointwise [res_main_v119, v19_at V0, Inp.q, Inp.rms]

theorem z_idx {n : Nat} (f : Fin n → EReal) (a b : Nat) (ha : a < n) (hb : b < n) (h : a = b) : f ⟨a, ha⟩ = f ⟨b, hb⟩ := by
  subst h
  rfl

theorem rope16_lo_at (s : Fin 16384) (v : Fin 32 → EReal) (n : Nat) (hn : n < 32) (h : n < 16) :
    Inp.rope16 s v ⟨n, hn⟩ = v ⟨n, hn⟩ * Ideal.cos (FloatOps.sitofp (F := Ideal) .f32 (BitVec.ofNat 32 s.val) * Ideal.pow (Ideal.ofBits .f32 1176256512#32)
    (Ideal.div (-(Ideal.ofBits .f32 1073741824#32 * FloatOps.sitofp (F := Ideal) .f32 (BitVec.ofNat 32 (n)))) (Ideal.ofBits .f32 0x42000000#32)))
      - v ⟨n + 16, by omega⟩ * Ideal.sin (FloatOps.sitofp (F := Ideal) .f32 (BitVec.ofNat 32 s.val) * Ideal.pow (Ideal.ofBits .f32 1176256512#32)
    (Ideal.div (-(Ideal.ofBits .f32 1073741824#32 * FloatOps.sitofp (F := Ideal) .f32 (BitVec.ofNat 32 (n)))) (Ideal.ofBits .f32 0x42000000#32))) := Inp.rope16_lo s v ⟨n, hn⟩ h

theorem rope16_hi_at (s : Fin 16384) (v : Fin 32 → EReal) (n : Nat) (hn : n < 32) (h : ¬ n < 16) :
    Inp.rope16 s v ⟨n, hn⟩ = v ⟨n, hn⟩ * Ideal.cos (FloatOps.sitofp (F := Ideal) .f32 (BitVec.ofNat 32 s.val) * Ideal.pow (Ideal.ofBits .f32 1176256512#32)
    (Ideal.div (-(Ideal.ofBits .f32 1073741824#32 * FloatOps.sitofp (F := Ideal) .f32 (BitVec.ofNat 32 (n - 16)))) (Ideal.ofBits .f32 0x42000000#32)))
      + v ⟨n - 16, by omega⟩ * Ideal.sin (FloatOps.sitofp (F := Ideal) .f32 (BitVec.ofNat 32 s.val) * Ideal.pow (Ideal.ofBits .f32 1176256512#32)
    (Ideal.div (-(Ideal.ofBits .f32 1073741824#32 * FloatOps.sitofp (F := Ideal) .f32 (BitVec.ofNat 32 (n - 16)))) (Ideal.ofBits .f32 0x42000000#32))) := Inp.rope16_hi s v ⟨n, hn⟩ h

theorem qa_at (s : Fin 16384) (c : Fin 512) : (truncf .bf16 (shapeCast _ (mulf (concatenate S1x16384x8x64 3 [⟨S1x16384x8x32, (subf (mulf (res_main_v44 V0) (broadcastInDim S1x16384x8x32 ![0, 1, 2, 3] bcast_S1x16384x1x32_S1x16384x8x32_0_1_2_3 (broadcastInDim S1x16384x1x32 ![1, 2, 3] bcast_S16384x1x32_S1x16384x1x32_1_2_3 (res_main_v41 V0)))) (mulf (res_main_v45 V0) (broadcastInDim S1x16384x8x32 ![0, 1, 2, 3] bcast_S1x16384x1x32_S1x16384x8x32_0_1_2_3 (broadcastInDim S1x16384x1x32 ![1, 2, 3] bcast_S16384x1x32_S1x16384x1x32_1_2_3 (res_main_v43 V0)))))⟩, ⟨S1x16384x8x32, (addf (mulf (res_main_v45 V0) (broadcastInDim S1x16384x8x32 ![0, 1, 2, 3] bcast_S1x16384x1x32_S1x16384x8x32_0_1_2_3 (broadcastInDim S1x16384x1x32 ![1, 2, 3] bcast_S16384x1x32_S1x16384x1x32_1_2_3 (res_main_v41 V0)))) (mulf (res_main_v44 V0) (broadcastInDim S1x16384x8x32 ![0, 1, 2, 3] bcast_S1x16384x1x32_S1x16384x8x32_0_1_2_3 (broadcastInDim S1x16384x1x32 ![1, 2, 3] bcast_S16384x1x32_S1x16384x1x32_1_2_3 (res_main_v43 V0)))))⟩] concatenates_S1x16384x8x32_S1x16384x8x32_S1x16384x8x64_d3) (broadcastInDim S1x16384x8x64 ![] bcast_S_S1x16384x8x64 (constant S_ .f32 0x3E000000#32))) shapeCasts_S1x16384x8x64_S1x16384x512) bitsLt_bf16_f32 : FVec Ideal S1x16384x512 .bf16) (ix3 0 s c) = Inp.qa (X V0) (G V0) (W V0) s c := by
  pointwise [Inp.qa, res_main_v44, res_main_v45, res_main_v41, res_main_v43, res_main_v39, res_main_v23, z_at V0]
  by_cases h : c.val % 64 < 32
  · rw [dif_pos h, Inp.rope32_lo s _ ⟨c.val % 64, by omega⟩ h, Inp.ang32]
    exact congrArg (fun a : EReal => a * _) (congrArg₂ (fun a b : EReal => a * _ - b * _) (z_idx (Inp.z (X V0) (G V0) (W V0) s) _ _ _ _ (by (try dsimp only) <;> omega)) (z_idx (Inp.z (X V0) (G V0) (W V0) s) _ _ _ _ (by (try dsimp only) <;> omega)))
  · rw [dif_neg h, Inp.rope32_hi s _ ⟨c.val % 64, by omega⟩ h, Inp.ang32]
    exact congrArg (fun a : EReal => a * _) (congrArg₂ (fun a b : EReal => a * _ + b * _) (z_idx (Inp.z (X V0) (G V0) (W V0) s) _ _ _ _ (by (try dsimp only) <;> omega)) (z_idx (Inp.z (X V0) (G V0) (W V0) s) _ _ _ _ (by (try dsimp only) <;> omega)))

theorem ka_at (s : Fin 16384) (c : Fin 128) : (truncf .bf16 (shapeCast _ (concatenate S1x16384x2x64 3 [⟨S1x16384x2x32, (subf (mulf (res_main_v85 V0) (broadcastInDim S1x16384x2x32 ![0, 1, 2, 3] bcast_S1x16384x1x32_S1x16384x2x32_0_1_2_3 (broadcastInDim S1x16384x1x32 ![1, 2, 3] bcast_S16384x1x32_S1x16384x1x32_1_2_3 (res_main_v82 V0)))) (mulf (res_main_v86 V0) (broadcastInDim S1x16384x2x32 ![0, 1, 2, 3] bcast_S1x16384x1x32_S1x16384x2x32_0_1_2_3 (broadcastInDim S1x16384x1x32 ![1, 2, 3] bcast_S16384x1x32_S1x16384x1x32_1_2_3 (res_main_v84 V0)))))⟩, ⟨S1x16384x2x32, (addf (mulf (res_main_v86 V0) (broadcastInDim S1x16384x2x32 ![0, 1, 2, 3] bcast_S1x16384x1x32_S1x16384x2x32_0_1_2_3 (broadcastInDim S1x16384x1x32 ![1, 2, 3] bcast_S16384x1x32_S1x16384x1x32_1_2_3 (res_main_v82 V0)))) (mulf (res_main_v85 V0) (broadcastInDim S1x16384x2x32 ![0, 1, 2, 3] bcast_S1x16384x1x32_S1x16384x2x32_0_1_2_3 (broadcastInDim S1x16384x1x32 ![1, 2, 3] bcast_S16384x1x32_S1x16384x1x32_1_2_3 (res_main_v84 V0)))))⟩] concatenates_S1x16384x2x32_S1x16384x2x32_S1x16384x2x64_d3) shapeCasts_S1x16384x2x64_S1x16384x128) bitsLt_bf16_f32 : FVec Ideal S1x16384x128 .bf16) (ix3 0 s c) = Inp.ka (X V0) (G V0) (W V0) s c := by
  pointwise [Inp.ka, res_main_v85, res_main_v86, res_main_v82, res_main_v84, res_main_v80, res_main_v64, z_at V0]
  by_cases h : c.val % 64 < 32
  · rw [dif_pos h, Inp.rope32_lo s _ ⟨c.val % 64, by omega⟩ h, Inp.ang32]
    exact congrArg₂ (fun a b : EReal => a * _ - b * _) (z_idx (Inp.z (X V0) (G V0) (W V0) s) _ _ _ _ (by (try dsimp only) <;> omega)) (z_idx (Inp.z (X V0) (G V0) (W V0) s) _ _ _ _ (by (try dsimp only) <;> omega))
  · rw [dif_neg h, Inp.rope32_hi s _ ⟨c.val % 64, by omega⟩ h, Inp.ang32]
    exact congrArg₂ (fun a b : EReal => a * _ + b * _) (z_idx (Inp.z (X V0) (G V0) (W V0) s) _ _ _ _ (by (try dsimp only) <;> omega)) (z_idx (Inp.z (X V0) (G V0) (W V0) s) _ _ _ _ (by (try dsimp only) <;> omega))

theorem va_at (s : Fin 16384) (c : Fin 128) : (truncf .bf16 (extractStridedSlice S1x16384x128 ![0, 0, 640] (res_main_v15 V0) slices_S1x16384x5024_S1x16384x128_0_0_640) bitsLt_bf16_f32 : FVec Ideal S1x16384x128 .bf16) (ix3 0 s c) = Inp.va (X V0) (G V0) (W V0) s c := by
  pointwise [Inp.va, z_at V0]

set_option maxHeartbeats 4000000 in
theorem qcat_at (s : Fin 16384) (c : Fin 1024) : (truncf .bf16 (shapeCast _ (mulf ((concatenate S1x16384x8x128 3 [⟨S1x16384x8x64, ((extractStridedSlice S1x16384x8x64 ![0, 0, 0, 0] (res_main_v119 V0) slices_S1x16384x8x96_S1x16384x8x64_0_0_0_0) : (⟨S1x16384x8x64, .f32⟩ : BufTy).Contents (Elt Ideal))⟩, ⟨S1x16384x8x32, ((concatenate S1x16384x8x32 3 [⟨S1x16384x8x16, (subf (mulf (res_main_v160 V0) (broadcastInDim S1x16384x8x16 ![0, 1, 2, 3] bcast_S1x16384x1x16_S1x16384x8x16_0_1_2_3 (broadcastInDim S1x16384x1x16 ![1, 2, 3] bcast_S16384x1x16_S1x16384x1x16_1_2_3 (res_main_v157 V0)))) (mulf (res_main_v161 V0) (broadcastInDim S1x16384x8x16 ![0, 1, 2, 3] bcast_S1x16384x1x16_S1x16384x8x16_0_1_2_3 (broadcastInDim S1x16384x1x16 ![1, 2, 3] bcast_S16384x1x16_S1x16384x1x16_1_2_3 (res_main_v159 V0)))))⟩, ⟨S1x16384x8x16, (addf (mulf (res_main_v161 V0) (broadcastInDim S1x16384x8x16 ![0, 1, 2, 3] bcast_S1x16384x1x16_S1x16384x8x16_0_1_2_3 (broadcastInDim S1x16384x1x16 ![1, 2, 3] bcast_S16384x1x16_S1x16384x1x16_1_2_3 (res_main_v157 V0)))) (mulf (res_main_v160 V0) (broadcastInDim S1x16384x8x16 ![0, 1, 2, 3] bcast_S1x16384x1x16_S1x16384x8x16_0_1_2_3 (broadcastInDim S1x16384x1x16 ![1, 2, 3] bcast_S16384x1x16_S1x16384x1x16_1_2_3 (res_main_v159 V0)))))⟩] concatenates_S1x16384x8x16_S1x16384x8x16_S1x16384x8x32_d3) : (⟨S1x16384x8x32, .f32⟩ : BufTy).Contents (Elt Ideal))⟩, ⟨S1x16384x8x32, ((res_main_v137 V0) : (⟨S1x16384x8x32, .f32⟩ : BufTy).Contents (Elt Ideal))⟩] concatenates_S1x16384x8x64_S1x16384x8x32_S1x16384x8x32_S1x16384x8x128_d3 : (⟨S1x16384x8x128, .f32⟩ : BufTy).Contents (Elt Ideal))) (broadcastInDim S1x16384x8x128 ![] bcast_S_S1x16384x8x128 (constant S_ .f32 0x3DD105EC#32))) shapeCasts_S1x16384x8x128_S1x16384x1024) bitsLt_bf16_f32 : FVec Ideal S1x16384x1024 .bf16) (ix3 0 s c) = Inp.qcat (X V0) (G V0) (W V0) (GQ V0) (WQ V0) s c := by
  pointwise [Inp.qcat, q_at V0, res_main_v137, res_main_v139, res_main_v155, res_main_v157, res_main_v159, res_main_v160, res_main_v161]
  by_cases h : c.val % 128 < 64
  · simp only [h, ↓reduceDIte]
  · by_cases h1 : c.val % 128 < 96
    · have h3 : c.val % 128 - 64 < 32 := by omega
      by_cases h2 : c.val % 128 - 64 < 16
      · simp only [h, h1, h2, h3, ↓reduceDIte]
        refine Eq.trans ?_ (congrArg (fun a : EReal => a * Ideal.ofBits .f32 0x3DD105EC#32) (rope16_lo_at s _ _ _ h2).symm)
        exact congrArg (fun a : EReal => a * _) (congrArg₂ (fun a b : EReal => a * _ - b * _) (z_idx (Inp.q (X V0) (G V0) (W V0) (GQ V0) (WQ V0) s) _ _ _ _ (by (try dsimp only) <;> omega)) (z_idx (Inp.q (X V0) (G V0) (W V0) (GQ V0) (WQ V0) s) _ _ _ _ (by (try dsimp only) <;> omega)))
      · simp only [h, h1, h2, h3, ↓reduceDIte]
        refine Eq.trans ?_ (congrArg (fun a : EReal => a * Ideal.ofBits .f32 0x3DD105EC#32) (rope16_hi_at s _ _ _ h2).symm)
        exact congrArg (fun a : EReal => a * _) (congrArg₂ (fun a b : EReal => a * _ + b * _) (z_idx (Inp.q (X V0) (G V0) (W V0) (GQ V0) (WQ V0) s) _ _ _ _ (by (try dsimp only) <;> omega)) (z_idx (Inp.q (X V0) (G V0) (W V0) (GQ V0) (WQ V0) s) _ _ _ _ (by (try dsimp only) <;> omega)))
    · have h3 : ¬ c.val % 128 - 64 < 32 := by omega
      simp only [h, h1, h3, ↓reduceDIte]

set_option maxHeartbeats 4000000 in
theorem kcat_at (s : Fin 16384) (c : Fin 1024) : (truncf .bf16 (shapeCast _ ((concatenate S1x16384x8x128 3 [⟨S1x16384x8x64, ((extractStridedSlice S1x16384x8x64 ![0, 0, 0, 0] (res_main_v136 V0) slices_S1x16384x8x128_S1x16384x8x64_0_0_0_0) : (⟨S1x16384x8x64, .f32⟩ : BufTy).Contents (Elt Ideal))⟩, ⟨S1x16384x8x32, ((broadcastInDim S1x16384x8x32 ![0, 1, 2, 3] bcast_S1x16384x1x32_S1x16384x8x32_0_1_2_3 (broadcastInDim S1x16384x1x32 ![0, 1, 3] bcast_S1x16384x32_S1x16384x1x32_0_1_3 (concatenate S1x16384x32 2 [⟨S1x16384x16, (subf (mulf (res_main_v198 V0) (broadcastInDim S1x16384x16 ![1, 2] bcast_S16384x16_S1x16384x16_1_2 (res_main_v196 V0))) (mulf (res_main_v199 V0) (broadcastInDim S1x16384x16 ![1, 2] bcast_S16384x16_S1x16384x16_1_2 (res_main_v197 V0))))⟩, ⟨S1x16384x16, (addf (mulf (res_main_v199 V0) (broadcastInDim S1x16384x16 ![1, 2] bcast_S16384x16_S1x16384x16_1_2 (res_main_v196 V0))) (mulf (res_main_v198 V0) (broadcastInDim S1x16384x16 ![1, 2] bcast_S16384x16_S1x16384x16_1_2 (res_main_v197 V0))))⟩] concatenates_S1x16384x16_S1x16384x16_S1x16384x32_d2))) : (⟨S1x16384x8x32, .f32⟩ : BufTy).Contents (Elt Ideal))⟩, ⟨S1x16384x8x32, ((res_main_v137 V0) : (⟨S1x16384x8x32, .f32⟩ : BufTy).Contents (Elt Ideal))⟩] concatenates_S1x16384x8x64_S1x16384x8x32_S1x16384x8x32_S1x16384x8x128_d3 : (⟨S1x16384x8x128, .f32⟩ : BufTy).Contents (Elt Ideal))) shapeCasts_S1x16384x8x128_S1x16384x1024) bitsLt_bf16_f32 : FVec Ideal S1x16384x1024 .bf16) (ix3 0 s c) = Inp.kcat (X V0) (G V0) (W V0) (GK V0) (WK V0) s c := by
  pointwise [Inp.kcat, kv_at V0, z_at V0, res_main_v137, res_main_v195, res_main_v196, res_main_v197, res_main_v198, res_main_v199, res_main_v21]
  by_cases h : c.val % 128 < 64
  · simp only [h, ↓reduceDIte]
    exact z_idx (Inp.kv (X V0) (G V0) (W V0) (GK V0) (WK V0) s) _ _ _ _ (by omega)
  · by_cases h1 : c.val % 128 < 96
    · have h3 : c.val % 128 - 64 < 32 := by omega
      by_cases h2 : c.val % 128 - 64 < 16
      · simp only [h, h1, h2, h3, ↓reduceDIte]
        refine Eq.trans ?_ (rope16_lo_at s _ _ _ h2).symm
        exact congrArg₂ (fun a b : EReal => a * _ - b * _) (z_idx (Inp.z (X V0) (G V0) (W V0) s) _ _ _ _ (by (try dsimp only) <;> omega)) (z_idx (Inp.z (X V0) (G V0) (W V0) s) _ _ _ _ (by (try dsimp only) <;> omega))
      · simp only [h, h1, h2, h3, ↓reduceDIte]
        refine Eq.trans ?_ (rope16_hi_at s _ _ _ h2).symm
        exact congrArg₂ (fun a b : EReal => a * _ + b * _) (z_idx (Inp.z (X V0) (G V0) (W V0) s) _ _ _ _ (by (try dsimp only) <;> omega)) (z_idx (Inp.z (X V0) (G V0) (W V0) s) _ _ _ _ (by (try dsimp only) <;> omega))
    · have h3 : ¬ c.val % 128 - 64 < 32 := by omega
      simp only [h, h1, h3, ↓reduceDIte]

theorem qc_at (s : Fin 16384) (c : Fin 512) : (truncf .bf16 (extractStridedSlice S1x16384x512 ![0, 0, 1440] (res_main_v15 V0) slices_S1x16384x5024_S1x16384x512_0_0_1440) bitsLt_bf16_f32 : FVec Ideal S1x16384x512 .bf16) (ix3 0 s c) = Inp.qc (X V0) (G V0) (W V0) s c := by
  pointwise [Inp.qc, z_at V0]

theorem vt_at (b : Fin 64) (r : Fin 512) (i : Fin 256) : (truncf .bf16 (transpose S1x64x512x256 [0, 1, 3, 2] (shapeCast _ (extractStridedSlice S1x16384x8x64 ![0, 0, 0, 64] (res_main_v136 V0) slices_S1x16384x8x128_S1x16384x8x64_0_0_0_64) shapeCasts_S1x16384x8x64_S1x64x256x512) transposes_S1x64x256x512_S1x64x512x256_0_1_3_2) bitsLt_bf16_f32 : FVec Ideal S1x64x512x256 .bf16) (ix4 0 b r i) = Inp.vt (X V0) (G V0) (W V0) (GK V0) (WK V0) b r i := by
  pointwise [Inp.vt, kv_at V0]

end Cert.InprojRefVal

end
-- ==== Proof.InprojPair.lean ====
/- The value claim of the call that makes the input projections. -/
module

public import proofs.«01_k».proof.Defs
public import proofs.«01_k».proof.Proof.InprojValue
public import proofs.«01_k».proof.Proof.InprojRef

@[expose] public section

noncomputable section

namespace Cert.InprojVal

open Idealize.ShloMosaic Idealize.SL.Sem

/-- Two arrays of three axes, the first of length 1, agree when they agree at each row and column. -/
theorem ext3 {a b : Nat} (f : (⟨3, ![1, a, b]⟩ : Shape).Idx → EReal) (g : Fin a → Fin b → EReal) (h : ∀ s l, f (ix3 0 s l) = g s l) :
    f = fun u => g (u 1) (u 2) := by
  funext u
  have hu : u = ix3 0 (u 1) (u 2) := by
    funext i
    fin_cases i
    · exact Fin.ext (by have := (u 0).isLt; simp at this; simp [this])
    · rfl
    · rfl
  exact (congrArg f hu).trans (h (u 1) (u 2))

/-- The same for four axes. -/
theorem ext4 {a b d : Nat} (f : (⟨4, ![1, a, b, d]⟩ : Shape).Idx → EReal) (g : Fin a → Fin b → Fin d → EReal) (h : ∀ s l e, f (ix4 0 s l e) = g s l e) :
    f = fun u => g (u 1) (u 2) (u 3) := by
  funext u
  have hu : u = ix4 0 (u 1) (u 2) (u 3) := by
    funext i
    fin_cases i
    · exact Fin.ext (by have := (u 0).isLt; simp at this; simp [this])
    · rfl
    · rfl
    · rfl
  exact (congrArg f hu).trans (h (u 1) (u 2) (u 3))

set_option maxHeartbeats 4000000 in
theorem pair : Cert.algebraic_InprojIdeal_InprojRefIdeal := fun m g m' g' _ hagree =>
  ⟨_, _, _, _, _, _, _, (θ_run _ _ _).mono (fun _ h c => by
      obtain ⟨r0, r1, r2, r3, r4, r5, r6, rest⟩ := h c
      exact ⟨r0.trans (final10 m c), r1.trans (final11 m c), r2.trans (final12 m c), r3.trans (final13 m c), r4.trans (final14 m c), r5.trans (final15 m c),
        r6.trans (final16 m c), rest⟩)
      (Cert.InprojIdeal.Value.run_blocks (F := Ideal) m g),
    (θ_run _ _ _).mono (fun _ h c => by
      obtain ⟨h0, h1, h2, h3, h4, h5, h6⟩ := hagree c
      obtain ⟨r0, r1, r2, r3, r4, r5, r6, rest⟩ := h c
      have eX : InprojRefVal.X (StableHlo.launchContents m' c) = aX m c := by
        funext s k
        first | exact congrFun h0 _ | exact (congrFun h0 _).symm
      have eG : InprojRefVal.G (StableHlo.launchContents m' c) = aG m c := by
        funext k
        first | exact congrFun h1 _ | exact (congrFun h1 _).symm
      have eW : InprojRefVal.W (StableHlo.launchContents m' c) = aW m c := by
        funext s k
        first | exact congrFun h2 _ | exact (congrFun h2 _).symm
      have eGQ : InprojRefVal.GQ (StableHlo.launchContents m' c) = aGQ m c := by
        funext k
        first | exact congrFun h3 _ | exact (congrFun h3 _).symm
      have eWQ : InprojRefVal.WQ (StableHlo.launchContents m' c) = aWQ m c := by
        funext s k
        first | exact congrFun h4 _ | exact (congrFun h4 _).symm
      have eGK : InprojRefVal.GK (StableHlo.launchContents m' c) = aGK m c := by
        funext k
        first | exact congrFun h5 _ | exact (congrFun h5 _).symm
      have eWK : InprojRefVal.WK (StableHlo.launchContents m' c) = aWK m c := by
        funext s k
        first | exact congrFun h6 _ | exact (congrFun h6 _).symm
      have q0 := ext3 _ _ fun s l => (InprojRefVal.qa_at (StableHlo.launchContents m' c) s l)
      rw [eX, eG, eW] at q0
      have q1 := ext3 _ _ fun s l => (InprojRefVal.ka_at (StableHlo.launchContents m' c) s l)
      rw [eX, eG, eW] at q1
      have q2 := ext3 _ _ fun s l => (InprojRefVal.va_at (StableHlo.launchContents m' c) s l)
      rw [eX, eG, eW] at q2
      have q3 := ext3 _ _ fun s l => (InprojRefVal.qcat_at (StableHlo.launchContents m' c) s l)
      rw [eX, eG, eW, eGQ, eWQ] at q3
      have q4 := ext3 _ _ fun s l => (InprojRefVal.kcat_at (StableHlo.launchContents m' c) s l)
      rw [eX, eG, eW, eGK, eWK] at q4
      have q5 := ext4 _ _ fun b r i => (InprojRefVal.vt_at (StableHlo.launchContents m' c) b r i)
      rw [eX, eG, eW, eGK, eWK] at q5
      have q6 := ext3 _ _ fun s l => (InprojRefVal.qc_at (StableHlo.launchContents m' c) s l)
      rw [eX, eG, eW] at q6
      exact ⟨r0.trans q0, r1.trans q1, r2.trans q2, r3.trans q3, r4.trans q4, r5.trans q5, r6.trans q6, rest⟩)
      (Cert.InprojRefIdeal.Value.run (F := Ideal) m' g')⟩

end Cert.InprojVal

end
-- ==== Proof.lean ====
module

public import proofs.«01_k».proof.Defs
public import proofs.«01_k».proof.Proof.Gen.Mla.Frame
public import proofs.«01_k».proof.Proof.Gen.MlaIdeal.Frame
public import proofs.«01_k».proof.Proof.Gen.MlaIdeal.Value
public import proofs.«01_k».proof.Proof.Gen.MlaRefIdeal.Run
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.Fin.Frame
public import proofs.«01_k».proof.Proof.Gen.FinIdeal.Frame
public import proofs.«01_k».proof.Proof.Gen.FinIdeal.Value
public import proofs.«01_k».proof.Proof.Gen.FinRefIdeal.Run
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.FinB.Frame
public import proofs.«01_k».proof.Proof.Gen.FinBIdeal.Frame
public import proofs.«01_k».proof.Proof.Gen.FinBIdeal.Value
public import proofs.«01_k».proof.Proof.Gen.FinBRefIdeal.Run
public import proofs.«01_k».proof.Proof.Gen.Memkv.Frame
public import proofs.«01_k».proof.Proof.Gen.MemkvIdeal.Frame
public import proofs.«01_k».proof.Proof.Gen.MemkvIdeal.Value
public import proofs.«01_k».proof.Proof.Gen.MemkvRefIdeal.Run
public import proofs.«01_k».proof.Proof.Gen.Inproj.Frame
public import proofs.«01_k».proof.Proof.Gen.InprojIdeal.Frame
public import proofs.«01_k».proof.Proof.Gen.InprojIdeal.Value
public import proofs.«01_k».proof.Proof.Gen.InprojRefIdeal.Run
public import proofs.«01_k».proof.Proof.MlaPair
public import proofs.«01_k».proof.Proof.FfnPair
public import proofs.«01_k».proof.Proof.FinPair
public import proofs.«01_k».proof.Proof.MergePair
public import proofs.«01_k».proof.Proof.FinBPair
public import proofs.«01_k».proof.Proof.MemkvPair
public import proofs.«01_k».proof.Proof.InprojPair
public import Idealize.ShloMosaic.Adequacy
public import Idealize.ShloMosaic.Init

@[expose] public section

noncomputable section

namespace Cert.Proof

open Idealize.ShloMosaic Idealize.SL.Sem

theorem quiescent_MlaRefIdeal : quiescent_MlaRefIdeal := fun m ρ _ =>
  (θ_run Cert.MlaRefIdeal.defs _ _).mono (fun r h => ⟨fun c => (h c).2, sem_eq_zero_of_no_sems (by decide) r.2⟩)
    (Cert.MlaRefIdeal.Value.run (F := Ideal) m ρ)

theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem quiescent_FinRefIdeal : quiescent_FinRefIdeal := fun m ρ _ =>
  (θ_run Cert.FinRefIdeal.defs _ _).mono (fun r h => ⟨fun c => (h c).2, sem_eq_zero_of_no_sems (by decide) r.2⟩)
    (Cert.FinRefIdeal.Value.run (F := Ideal) m ρ)

theorem quiescent_MergeRefIdeal : quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem quiescent_FinBRefIdeal : quiescent_FinBRefIdeal := fun m ρ _ =>
  (θ_run Cert.FinBRefIdeal.defs _ _).mono (fun r h => ⟨fun c => (h c).2, sem_eq_zero_of_no_sems (by decide) r.2⟩)
    (Cert.FinBRefIdeal.Value.run (F := Ideal) m ρ)

theorem quiescent_MemkvRefIdeal : quiescent_MemkvRefIdeal := fun m ρ _ =>
  (θ_run Cert.MemkvRefIdeal.defs _ _).mono (fun r h => ⟨fun c => (h c).2.2, sem_eq_zero_of_no_sems (by decide) r.2⟩)
    (Cert.MemkvRefIdeal.Value.run (F := Ideal) m ρ)

theorem quiescent_InprojRefIdeal : quiescent_InprojRefIdeal := fun m ρ _ =>
  (θ_run Cert.InprojRefIdeal.defs _ _).mono (fun r h => ⟨fun c => (h c).2.2.2.2.2.2.2, sem_eq_zero_of_no_sems (by decide) r.2⟩)
    (Cert.InprojRefIdeal.Value.run (F := Ideal) m ρ)

theorem claim : Cert.Claim := ⟨Cert.Mla.Gen.facts, Cert.MlaIdeal.Gen.facts, Cert.MlaRefIdeal.Gen.facts, Cert.Ffn.Gen.facts, Cert.FfnIdeal.Gen.facts, Cert.FfnRefIdeal.Gen.facts, Cert.Fin.Gen.facts, Cert.FinIdeal.Gen.facts, Cert.FinRefIdeal.Gen.facts, Cert.Merge.Gen.facts, Cert.MergeIdeal.Gen.facts, Cert.MergeRefIdeal.Gen.facts, Cert.FinB.Gen.facts, Cert.FinBIdeal.Gen.facts, Cert.FinBRefIdeal.Gen.facts, Cert.Memkv.Gen.facts, Cert.MemkvIdeal.Gen.facts, Cert.MemkvRefIdeal.Gen.facts, Cert.Inproj.Gen.facts, Cert.InprojIdeal.Gen.facts, Cert.InprojRefIdeal.Gen.facts,
  Cert.Pre_queries_and_keys_finite.Gen.facts, Cert.Pre_memory_queries_and_keys_finite.Gen.facts,
  fun m ρ _ => Cert.Mla.Gen.frame m ρ, fun m ρ _ => Cert.MlaIdeal.Gen.frame m ρ, fun m ρ _ => Cert.MlaIdeal.Gen.frame m ρ, quiescent_MlaRefIdeal, fun m ρ _ => quiescent_MlaRefIdeal m ρ trivial,
  fun m ρ _ => Cert.Ffn.Gen.frame m ρ, fun m ρ _ => Cert.FfnIdeal.Gen.frame m ρ, quiescent_FfnRefIdeal,
  fun m ρ _ => Cert.Fin.Gen.frame m ρ, fun m ρ _ => Cert.FinIdeal.Gen.frame m ρ, quiescent_FinRefIdeal,
  fun m ρ _ => Cert.Merge.Gen.frame m ρ, fun m ρ _ => Cert.MergeIdeal.Gen.frame m ρ, fun m ρ _ => Cert.MergeIdeal.Gen.frame m ρ, quiescent_MergeRefIdeal, fun m ρ _ => quiescent_MergeRefIdeal m ρ trivial,
  fun m ρ _ => Cert.FinB.Gen.frame m ρ, fun m ρ _ => Cert.FinBIdeal.Gen.frame m ρ, quiescent_FinBRefIdeal,
  fun m ρ _ => Cert.Memkv.Gen.frame m ρ, fun m ρ _ => Cert.MemkvIdeal.Gen.frame m ρ, quiescent_MemkvRefIdeal,
  fun m ρ _ => Cert.Inproj.Gen.frame m ρ, fun m ρ _ => Cert.InprojIdeal.Gen.frame m ρ, quiescent_InprojRefIdeal,
  (trivial : preserves_Mla_MlaIdeal), Cert.MlaVal.pair,
  (trivial : preserves_Ffn_FfnIdeal), Cert.FfnVal.pair,
  (trivial : preserves_Fin_FinIdeal), Cert.FinVal.pair,
  (trivial : preserves_Merge_MergeIdeal), Cert.MergeVal.pair,
  (trivial : preserves_FinB_FinBIdeal), Cert.FinBVal.pair,
  (trivial : preserves_Memkv_MemkvIdeal), Cert.MemkvVal.pair,
  (trivial : preserves_Inproj_InprojIdeal), Cert.InprojVal.pair⟩

end Cert.Proof

end
